-- ==== Defs.lean ====
def Pre_ConvIn (m : (ℓ : Loc Cert.ConvIn.nD Cert.ConvIn.τ Cert.ConvIn.sig) → Buf (Elt Bits) ℓ) : Prop :=
  True

def Pre_ConvInIdeal (m : (ℓ : Loc Cert.ConvInIdeal.nD Cert.ConvInIdeal.τ Cert.ConvInIdeal.sig) → Buf (Elt Ideal) ℓ) : Prop :=
  True

def Pre_ConvInRefIdeal (m : (ℓ : Loc Cert.ConvInRefIdeal.nD Cert.ConvInRefIdeal.τ Cert.ConvInRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_ConvOut (m : (ℓ : Loc Cert.ConvOut.nD Cert.ConvOut.τ Cert.ConvOut.sig) → Buf (Elt Bits) ℓ) : Prop :=
  True

def Pre_ConvOutIdeal (m : (ℓ : Loc Cert.ConvOutIdeal.nD Cert.ConvOutIdeal.τ Cert.ConvOutIdeal.sig) → Buf (Elt Ideal) ℓ) : Prop :=
  True

def Pre_ConvOutRefIdeal (m : (ℓ : Loc Cert.ConvOutRefIdeal.nD Cert.ConvOutRefIdeal.τ Cert.ConvOutRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_QkvWeight (m : (ℓ : Loc Cert.QkvWeight.nD Cert.QkvWeight.τ Cert.QkvWeight.sig) → Buf (Elt Bits) ℓ) : Prop :=
  True

def Pre_QkvWeightIdeal (m : (ℓ : Loc Cert.QkvWeightIdeal.nD Cert.QkvWeightIdeal.τ Cert.QkvWeightIdeal.sig) → Buf (Elt Ideal) ℓ) : Prop :=
  True

def Pre_QkvWeightRefIdeal (m : (ℓ : Loc Cert.QkvWeightRefIdeal.nD Cert.QkvWeightRefIdeal.τ Cert.QkvWeightRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamQkv (m : (ℓ : Loc Cert.AdamQkv.nD Cert.AdamQkv.τ Cert.AdamQkv.sig) → Buf (Elt Bits) ℓ) : Prop :=
  True

def Pre_AdamQkvIdeal (m : (ℓ : Loc Cert.AdamQkvIdeal.nD Cert.AdamQkvIdeal.τ Cert.AdamQkvIdeal.sig) → Buf (Elt Ideal) ℓ) : Prop :=
  True

def Pre_AdamQkvRefIdeal (m : (ℓ : Loc Cert.AdamQkvRefIdeal.nD Cert.AdamQkvRefIdeal.τ Cert.AdamQkvRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_ConvMid (m : (ℓ : Loc Cert.ConvMid.nD Cert.ConvMid.τ Cert.ConvMid.sig) → Buf (Elt Bits) ℓ) : Prop :=
  True

def Pre_ConvMidIdeal (m : (ℓ : Loc Cert.ConvMidIdeal.nD Cert.ConvMidIdeal.τ Cert.ConvMidIdeal.sig) → Buf (Elt Ideal) ℓ) : Prop :=
  True

def Pre_ConvMidIdeal_finite [hPre_finite : Cert.Pre_finite.Facts] (m : (ℓ : Loc Cert.ConvMidIdeal.nD Cert.ConvMidIdeal.τ Cert.ConvMidIdeal.sig) → Buf (Elt Ideal) ℓ) : Prop :=
  ∀ c : Dev Cert.ConvMidIdeal.nD,
    (Cert.Pre_finite.fn (F := Ideal) (m ((c.tc : Thread Cert.ConvMidIdeal.nD Cert.ConvMidIdeal.τ).loc Cert.ConvMidIdeal.main_arg0)) (m ((c.tc : Thread Cert.ConvMidIdeal.nD Cert.ConvMidIdeal.τ).loc Cert.ConvMidIdeal.main_arg1)) (m ((c.tc : Thread Cert.ConvMidIdeal.nD Cert.ConvMidIdeal.τ).loc Cert.ConvMidIdeal.main_arg2)) (m ((c.tc : Thread Cert.ConvMidIdeal.nD Cert.ConvMidIdeal.τ).loc Cert.ConvMidIdeal.main_arg3)) (m ((c.tc : Thread Cert.ConvMidIdeal.nD Cert.ConvMidIdeal.τ).loc Cert.ConvMidIdeal.main_arg4)) (m ((c.tc : Thread Cert.ConvMidIdeal.nD Cert.ConvMidIdeal.τ).loc Cert.ConvMidIdeal.main_arg5))) = (fun _ => 1#1)

def Pre_ConvMidRefIdeal (m : (ℓ : Loc Cert.ConvMidRefIdeal.nD Cert.ConvMidRefIdeal.τ Cert.ConvMidRefIdeal.sig) → Buf (Elt Ideal) ℓ) : Prop :=
  True

def Pre_ConvMidRefIdeal_finite [hPre_finite : Cert.Pre_finite.Facts] (m : (ℓ : Loc Cert.ConvMidRefIdeal.nD Cert.ConvMidRefIdeal.τ Cert.ConvMidRefIdeal.sig) → Buf (Elt Ideal) ℓ) : Prop :=
  ∀ c : Dev Cert.ConvMidRefIdeal.nD,
    (Cert.Pre_finite.fn (F := Ideal) (m ((c.tc : Thread Cert.ConvMidRefIdeal.nD Cert.ConvMidRefIdeal.τ).loc Cert.ConvMidRefIdeal.main_arg0)) (m ((c.tc : Thread Cert.ConvMidRefIdeal.nD Cert.ConvMidRefIdeal.τ).loc Cert.ConvMidRefIdeal.main_arg1)) (m ((c.tc : Thread Cert.ConvMidRefIdeal.nD Cert.ConvMidRefIdeal.τ).loc Cert.ConvMidRefIdeal.main_arg2)) (m ((c.tc : Thread Cert.ConvMidRefIdeal.nD Cert.ConvMidRefIdeal.τ).loc Cert.ConvMidRefIdeal.main_arg3)) (m ((c.tc : Thread Cert.ConvMidRefIdeal.nD Cert.ConvMidRefIdeal.τ).loc Cert.ConvMidRefIdeal.main_arg4)) (m ((c.tc : Thread Cert.ConvMidRefIdeal.nD Cert.ConvMidRefIdeal.τ).loc Cert.ConvMidRefIdeal.main_arg5))) = (fun _ => 1#1)

def quiescent_ConvIn [hConvIn : Cert.ConvIn.Facts] : Prop :=
  ∀ (m : (ℓ : Loc Cert.ConvIn.nD Cert.ConvIn.τ Cert.ConvIn.sig) → Buf (Elt Bits) ℓ) (g : Dev Cert.ConvIn.nD → PrngReg), Pre_ConvIn m →
    θ_run (Cert.ConvIn.defs (F := Bits)) (onTc (τ := Cert.ConvIn.τ) (Cert.ConvIn.main (F := Bits))) ⟨m, fun _ => 0, g⟩ (fun r => (∀ c : Dev Cert.ConvIn.nD,
      r.2.mem ((c.tc : Thread Cert.ConvIn.nD Cert.ConvIn.τ).loc Cert.ConvIn.main_arg0) = m ((c.tc : Thread Cert.ConvIn.nD Cert.ConvIn.τ).loc Cert.ConvIn.main_arg0)
      ∧ r.2.mem ((c.tc : Thread Cert.ConvIn.nD Cert.ConvIn.τ).loc Cert.ConvIn.main_arg1) = m ((c.tc : Thread Cert.ConvIn.nD Cert.ConvIn.τ).loc Cert.ConvIn.main_arg1)
      ∧ r.2.mem ((c.tc : Thread Cert.ConvIn.nD Cert.ConvIn.τ).loc Cert.ConvIn.main_arg2) = m ((c.tc : Thread Cert.ConvIn.nD Cert.ConvIn.τ).loc Cert.ConvIn.main_arg2)
      ∧ r.2.mem ((c.tc : Thread Cert.ConvIn.nD Cert.ConvIn.τ).loc Cert.ConvIn.main_arg3) = m ((c.tc : Thread Cert.ConvIn.nD Cert.ConvIn.τ).loc Cert.ConvIn.main_arg3)
      ∧ r.2.mem ((c.tc : Thread Cert.ConvIn.nD Cert.ConvIn.τ).loc Cert.ConvIn.main_arg4) = m ((c.tc : Thread Cert.ConvIn.nD Cert.ConvIn.τ).loc Cert.ConvIn.main_arg4)
      ∧ r.2.mem ((c.tc : Thread Cert.ConvIn.nD Cert.ConvIn.τ).loc Cert.ConvIn.main_arg5) = m ((c.tc : Thread Cert.ConvIn.nD Cert.ConvIn.τ).loc Cert.ConvIn.main_arg5))
      ∧ r.2.sem = fun _ => 0)

def quiescent_ConvInIdeal [hConvInIdeal : Cert.ConvInIdeal.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
      ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2)
      ∧ r.2.mem ((c.tc : Thread Cert.ConvInIdeal.nD Cert.ConvInIdeal.τ).loc Cert.ConvInIdeal.main_arg3) = m ((c.tc : Thread Cert.ConvInIdeal.nD Cert.ConvInIdeal.τ).loc Cert.ConvInIdeal.main_arg3)
      ∧ r.2.mem ((c.tc : Thread Cert.ConvInIdeal.nD Cert.ConvInIdeal.τ).loc Cert.ConvInIdeal.main_arg4) = m ((c.tc : Thread Cert.ConvInIdeal.nD Cert.ConvInIdeal.τ).loc Cert.ConvInIdeal.main_arg4)
      ∧ r.2.mem ((c.tc : Thread Cert.ConvInIdeal.nD Cert.ConvInIdeal.τ).loc Cert.ConvInIdeal.main_arg5) = m ((c.tc : Thread Cert.ConvInIdeal.nD Cert.ConvInIdeal.τ).loc Cert.ConvInIdeal.main_arg5))
      ∧ r.2.sem = fun _ => 0)

def quiescent_ConvInRefIdeal [hConvInRefIdeal : Cert.ConvInRefIdeal.Facts] : Prop :=
  ∀ (m : (ℓ : Loc Cert.ConvInRefIdeal.nD Cert.ConvInRefIdeal.τ Cert.ConvInRefIdeal.sig) → Buf (Elt Ideal) ℓ) (g : Dev Cert.ConvInRefIdeal.nD → PrngReg), Pre_ConvInRefIdeal m →
    θ_run (Cert.ConvInRefIdeal.defs (F := Ideal)) (onTc (τ := Cert.ConvInRefIdeal.τ) (Cert.ConvInRefIdeal.main (F := Ideal))) ⟨m, fun _ => 0, g⟩ (fun r => (∀ c : Dev Cert.ConvInRefIdeal.nD,
      r.2.mem ((c.tc : Thread Cert.ConvInRefIdeal.nD Cert.ConvInRefIdeal.τ).loc Cert.ConvInRefIdeal.main_arg0) = m ((c.tc : Thread Cert.ConvInRefIdeal.nD Cert.ConvInRefIdeal.τ).loc Cert.ConvInRefIdeal.main_arg0)
      ∧ r.2.mem ((c.tc : Thread Cert.ConvInRefIdeal.nD Cert.ConvInRefIdeal.τ).loc Cert.ConvInRefIdeal.main_arg1) = m ((c.tc : Thread Cert.ConvInRefIdeal.nD Cert.ConvInRefIdeal.τ).loc Cert.ConvInRefIdeal.main_arg1)
      ∧ r.2.mem ((c.tc : Thread Cert.ConvInRefIdeal.nD Cert.ConvInRefIdeal.τ).loc Cert.ConvInRefIdeal.main_arg2) = m ((c.tc : Thread Cert.ConvInRefIdeal.nD Cert.ConvInRefIdeal.τ).loc Cert.ConvInRefIdeal.main_arg2)
      ∧ r.2.mem ((c.tc : Thread Cert.ConvInRefIdeal.nD Cert.ConvInRefIdeal.τ).loc Cert.ConvInRefIdeal.main_arg3) = m ((c.tc : Thread Cert.ConvInRefIdeal.nD Cert.ConvInRefIdeal.τ).loc Cert.ConvInRefIdeal.main_arg3)
      ∧ r.2.mem ((c.tc : Thread Cert.ConvInRefIdeal.nD Cert.ConvInRefIdeal.τ).loc Cert.ConvInRefIdeal.main_arg4) = m ((c.tc : Thread Cert.ConvInRefIdeal.nD Cert.ConvInRefIdeal.τ).loc Cert.ConvInRefIdeal.main_arg4)
      ∧ r.2.mem ((c.tc : Thread Cert.ConvInRefIdeal.nD Cert.ConvInRefIdeal.τ).loc Cert.ConvInRefIdeal.main_arg5) = m ((c.tc : Thread Cert.ConvInRefIdeal.nD Cert.ConvInRefIdeal.τ).loc Cert.ConvInRefIdeal.main_arg5))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_ConvOut [hConvOut : Cert.ConvOut.Facts] : Prop :=
  ∀ (m : (ℓ : Loc Cert.ConvOut.nD Cert.ConvOut.τ Cert.ConvOut.sig) → Buf (Elt Bits) ℓ) (g : Dev Cert.ConvOut.nD → PrngReg), Pre_ConvOut m →
    θ_run (Cert.ConvOut.defs (F := Bits)) (onTc (τ := Cert.ConvOut.τ) (Cert.ConvOut.main (F := Bits))) ⟨m, fun _ => 0, g⟩ (fun r => (∀ c : Dev Cert.ConvOut.nD,
      r.2.mem ((c.tc : Thread Cert.ConvOut.nD Cert.ConvOut.τ).loc Cert.ConvOut.main_arg0) = m ((c.tc : Thread Cert.ConvOut.nD Cert.ConvOut.τ).loc Cert.ConvOut.main_arg0)
      ∧ r.2.mem ((c.tc : Thread Cert.ConvOut.nD Cert.ConvOut.τ).loc Cert.ConvOut.main_arg1) = m ((c.tc : Thread Cert.ConvOut.nD Cert.ConvOut.τ).loc Cert.ConvOut.main_arg1)
      ∧ r.2.mem ((c.tc : Thread Cert.ConvOut.nD Cert.ConvOut.τ).loc Cert.ConvOut.main_arg2) = m ((c.tc : Thread Cert.ConvOut.nD Cert.ConvOut.τ).loc Cert.ConvOut.main_arg2)
      ∧ r.2.mem ((c.tc : Thread Cert.ConvOut.nD Cert.ConvOut.τ).loc Cert.ConvOut.main_arg3) = m ((c.tc : Thread Cert.ConvOut.nD Cert.ConvOut.τ).loc Cert.ConvOut.main_arg3)
      ∧ r.2.mem ((c.tc : Thread Cert.ConvOut.nD Cert.ConvOut.τ).loc Cert.ConvOut.main_arg4) = m ((c.tc : Thread Cert.ConvOut.nD Cert.ConvOut.τ).loc Cert.ConvOut.main_arg4)
      ∧ r.2.mem ((c.tc : Thread Cert.ConvOut.nD Cert.ConvOut.τ).loc Cert.ConvOut.main_arg5) = m ((c.tc : Thread Cert.ConvOut.nD Cert.ConvOut.τ).loc Cert.ConvOut.main_arg5))
      ∧ r.2.sem = fun _ => 0)

def quiescent_ConvOutIdeal [hConvOutIdeal : Cert.ConvOutIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg), Pre_ConvOutIdeal m →
    θ_run (Cert.ConvOutIdeal.defs (F := Ideal)) (onTc (τ := Cert.ConvOutIdeal.τ) (Cert.ConvOutIdeal.main (F := Ideal))) ⟨m, fun _ => 0, g⟩ (fun r => (∀ c : Dev Cert.ConvOutIdeal.nD,
      r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
      ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
      ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2)
      ∧ r.2.mem ((c.tc : Thread Cert.ConvOutIdeal.nD Cert.ConvOutIdeal.τ).loc Cert.ConvOutIdeal.main_arg3) = m ((c.tc : Thread Cert.ConvOutIdeal.nD Cert.ConvOutIdeal.τ).loc Cert.ConvOutIdeal.main_arg3)
      ∧ r.2.mem ((c.tc : Thread Cert.ConvOutIdeal.nD Cert.ConvOutIdeal.τ).loc Cert.ConvOutIdeal.main_arg4) = m ((c.tc : Thread Cert.ConvOutIdeal.nD Cert.ConvOutIdeal.τ).loc Cert.ConvOutIdeal.main_arg4)
      ∧ r.2.mem ((c.tc : Thread Cert.ConvOutIdeal.nD Cert.ConvOutIdeal.τ).loc Cert.ConvOutIdeal.main_arg5) = m ((c.tc : Thread Cert.ConvOutIdeal.nD Cert.ConvOutIdeal.τ).loc Cert.ConvOutIdeal.main_arg5))
      ∧ r.2.sem = fun _ => 0)

def quiescent_ConvOutRefIdeal [hConvOutRefIdeal : Cert.ConvOutRefIdeal.Facts] : Prop :=
  ∀ (m : (ℓ : Loc Cert.ConvOutRefIdeal.nD Cert.ConvOutRefIdeal.τ Cert.ConvOutRefIdeal.sig) → Buf (Elt Ideal) ℓ) (g : Dev Cert.ConvOutRefIdeal.nD → PrngReg), Pre_ConvOutRefIdeal m →
    θ_run (Cert.ConvOutRefIdeal.defs (F := Ideal)) (onTc (τ := Cert.ConvOutRefIdeal.τ) (Cert.ConvOutRefIdeal.main (F := Ideal))) ⟨m, fun _ => 0, g⟩ (fun r => (∀ c : Dev Cert.ConvOutRefIdeal.nD,
      r.2.mem ((c.tc : Thread Cert.ConvOutRefIdeal.nD Cert.ConvOutRefIdeal.τ).loc Cert.ConvOutRefIdeal.main_arg0) = m ((c.tc : Thread Cert.ConvOutRefIdeal.nD Cert.ConvOutRefIdeal.τ).loc Cert.ConvOutRefIdeal.main_arg0)
      ∧ r.2.mem ((c.tc : Thread Cert.ConvOutRefIdeal.nD Cert.ConvOutRefIdeal.τ).loc Cert.ConvOutRefIdeal.main_arg1) = m ((c.tc : Thread Cert.ConvOutRefIdeal.nD Cert.ConvOutRefIdeal.τ).loc Cert.ConvOutRefIdeal.main_arg1)
      ∧ r.2.mem ((c.tc : Thread Cert.ConvOutRefIdeal.nD Cert.ConvOutRefIdeal.τ).loc Cert.ConvOutRefIdeal.main_arg2) = m ((c.tc : Thread Cert.ConvOutRefIdeal.nD Cert.ConvOutRefIdeal.τ).loc Cert.ConvOutRefIdeal.main_arg2)
      ∧ r.2.mem ((c.tc : Thread Cert.ConvOutRefIdeal.nD Cert.ConvOutRefIdeal.τ).loc Cert.ConvOutRefIdeal.main_arg3) = m ((c.tc : Thread Cert.ConvOutRefIdeal.nD Cert.ConvOutRefIdeal.τ).loc Cert.ConvOutRefIdeal.main_arg3)
      ∧ r.2.mem ((c.tc : Thread Cert.ConvOutRefIdeal.nD Cert.ConvOutRefIdeal.τ).loc Cert.ConvOutRefIdeal.main_arg4) = m ((c.tc : Thread Cert.ConvOutRefIdeal.nD Cert.ConvOutRefIdeal.τ).loc Cert.ConvOutRefIdeal.main_arg4)
      ∧ r.2.mem ((c.tc : Thread Cert.ConvOutRefIdeal.nD Cert.ConvOutRefIdeal.τ).loc Cert.ConvOutRefIdeal.main_arg5) = m ((c.tc : Thread Cert.ConvOutRefIdeal.nD Cert.ConvOutRefIdeal.τ).loc Cert.ConvOutRefIdeal.main_arg5))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2)
      ∧ r.2.mem ((c.tc : Thread Cert.AttnOutRefIdeal.nD Cert.AttnOutRefIdeal.τ).loc Cert.AttnOutRefIdeal.main_arg3) = m ((c.tc : Thread Cert.AttnOutRefIdeal.nD Cert.AttnOutRefIdeal.τ).loc Cert.AttnOutRefIdeal.main_arg3))
      ∧ r.2.sem = fun _ => 0)

def quiescent_QkvWeight [hQkvWeight : Cert.QkvWeight.Facts] : Prop :=
  ∀ (m : (ℓ : Loc Cert.QkvWeight.nD Cert.QkvWeight.τ Cert.QkvWeight.sig) → Buf (Elt Bits) ℓ) (g : Dev Cert.QkvWeight.nD → PrngReg), Pre_QkvWeight m →
    θ_run (Cert.QkvWeight.defs (F := Bits)) (onTc (τ := Cert.QkvWeight.τ) (Cert.QkvWeight.main (F := Bits))) ⟨m, fun _ => 0, g⟩ (fun r => (∀ c : Dev Cert.QkvWeight.nD,
      r.2.mem ((c.tc : Thread Cert.QkvWeight.nD Cert.QkvWeight.τ).loc Cert.QkvWeight.main_arg0) = m ((c.tc : Thread Cert.QkvWeight.nD Cert.QkvWeight.τ).loc Cert.QkvWeight.main_arg0)
      ∧ r.2.mem ((c.tc : Thread Cert.QkvWeight.nD Cert.QkvWeight.τ).loc Cert.QkvWeight.main_arg1) = m ((c.tc : Thread Cert.QkvWeight.nD Cert.QkvWeight.τ).loc Cert.QkvWeight.main_arg1)
      ∧ r.2.mem ((c.tc : Thread Cert.QkvWeight.nD Cert.QkvWeight.τ).loc Cert.QkvWeight.main_arg2) = m ((c.tc : Thread Cert.QkvWeight.nD Cert.QkvWeight.τ).loc Cert.QkvWeight.main_arg2)
      ∧ r.2.mem ((c.tc : Thread Cert.QkvWeight.nD Cert.QkvWeight.τ).loc Cert.QkvWeight.main_arg3) = m ((c.tc : Thread Cert.QkvWeight.nD Cert.QkvWeight.τ).loc Cert.QkvWeight.main_arg3)
      ∧ r.2.mem ((c.tc : Thread Cert.QkvWeight.nD Cert.QkvWeight.τ).loc Cert.QkvWeight.main_arg4) = m ((c.tc : Thread Cert.QkvWeight.nD Cert.QkvWeight.τ).loc Cert.QkvWeight.main_arg4))
      ∧ r.2.sem = fun _ => 0)

def quiescent_QkvWeightIdeal [hQkvWeightIdeal : Cert.QkvWeightIdeal.Facts] : Prop :=
  ∀ (m : (ℓ : Loc Cert.QkvWeightIdeal.nD Cert.QkvWeightIdeal.τ Cert.QkvWeightIdeal.sig) → Buf (Elt Ideal) ℓ) (g : Dev Cert.QkvWeightIdeal.nD → PrngReg), Pre_QkvWeightIdeal m →
    θ_run (Cert.QkvWeightIdeal.defs (F := Ideal)) (onTc (τ := Cert.QkvWeightIdeal.τ) (Cert.QkvWeightIdeal.main (F := Ideal))) ⟨m, fun _ => 0, g⟩ (fun r => (∀ c : Dev Cert.QkvWeightIdeal.nD,
      r.2.mem ((c.tc : Thread Cert.QkvWeightIdeal.nD Cert.QkvWeightIdeal.τ).loc Cert.QkvWeightIdeal.main_arg0) = m ((c.tc : Thread Cert.QkvWeightIdeal.nD Cert.QkvWeightIdeal.τ).loc Cert.QkvWeightIdeal.main_arg0)
      ∧ r.2.mem ((c.tc : Thread Cert.QkvWeightIdeal.nD Cert.QkvWeightIdeal.τ).loc Cert.QkvWeightIdeal.main_arg1) = m ((c.tc : Thread Cert.QkvWeightIdeal.nD Cert.QkvWeightIdeal.τ).loc Cert.QkvWeightIdeal.main_arg1)
      ∧ r.2.mem ((c.tc : Thread Cert.QkvWeightIdeal.nD Cert.QkvWeightIdeal.τ).loc Cert.QkvWeightIdeal.main_arg2) = m ((c.tc : Thread Cert.QkvWeightIdeal.nD Cert.QkvWeightIdeal.τ).loc Cert.QkvWeightIdeal.main_arg2)
      ∧ r.2.mem ((c.tc : Thread Cert.QkvWeightIdeal.nD Cert.QkvWeightIdeal.τ).loc Cert.QkvWeightIdeal.main_arg3) = m ((c.tc : Thread Cert.QkvWeightIdeal.nD Cert.QkvWeightIdeal.τ).loc Cert.QkvWeightIdeal.main_arg3)
      ∧ r.2.mem ((c.tc : Thread Cert.QkvWeightIdeal.nD Cert.QkvWeightIdeal.τ).loc Cert.QkvWeightIdeal.main_arg4) = m ((c.tc : Thread Cert.QkvWeightIdeal.nD Cert.QkvWeightIdeal.τ).loc Cert.QkvWeightIdeal.main_arg4))
      ∧ r.2.sem = fun _ => 0)

def quiescent_QkvWeightRefIdeal [hQkvWeightRefIdeal : Cert.QkvWeightRefIdeal.Facts] : Prop :=
  ∀ (m : (ℓ : Loc Cert.QkvWeightRefIdeal.nD Cert.QkvWeightRefIdeal.τ Cert.QkvWeightRefIdeal.sig) → Buf (Elt Ideal) ℓ) (g : Dev Cert.QkvWeightRefIdeal.nD → PrngReg), Pre_QkvWeightRefIdeal m →
    θ_run (Cert.QkvWeightRefIdeal.defs (F := Ideal)) (onTc (τ := Cert.QkvWeightRefIdeal.τ) (Cert.QkvWeightRefIdeal.main (F := Ideal))) ⟨m, fun _ => 0, g⟩ (fun r => (∀ c : Dev Cert.QkvWeightRefIdeal.nD,
      r.2.mem ((c.tc : Thread Cert.QkvWeightRefIdeal.nD Cert.QkvWeightRefIdeal.τ).loc Cert.QkvWeightRefIdeal.main_arg0) = m ((c.tc : Thread Cert.QkvWeightRefIdeal.nD Cert.QkvWeightRefIdeal.τ).loc Cert.QkvWeightRefIdeal.main_arg0)
      ∧ r.2.mem ((c.tc : Thread Cert.QkvWeightRefIdeal.nD Cert.QkvWeightRefIdeal.τ).loc Cert.QkvWeightRefIdeal.main_arg1) = m ((c.tc : Thread Cert.QkvWeightRefIdeal.nD Cert.QkvWeightRefIdeal.τ).loc Cert.QkvWeightRefIdeal.main_arg1)
      ∧ r.2.mem ((c.tc : Thread Cert.QkvWeightRefIdeal.nD Cert.QkvWeightRefIdeal.τ).loc Cert.QkvWeightRefIdeal.main_arg2) = m ((c.tc : Thread Cert.QkvWeightRefIdeal.nD Cert.QkvWeightRefIdeal.τ).loc Cert.QkvWeightRefIdeal.main_arg2)
      ∧ r.2.mem ((c.tc : Thread Cert.QkvWeightRefIdeal.nD Cert.QkvWeightRefIdeal.τ).loc Cert.QkvWeightRefIdeal.main_arg3) = m ((c.tc : Thread Cert.QkvWeightRefIdeal.nD Cert.QkvWeightRefIdeal.τ).loc Cert.QkvWeightRefIdeal.main_arg3)
      ∧ r.2.mem ((c.tc : Thread Cert.QkvWeightRefIdeal.nD Cert.QkvWeightRefIdeal.τ).loc Cert.QkvWeightRefIdeal.main_arg4) = m ((c.tc : Thread Cert.QkvWeightRefIdeal.nD Cert.QkvWeightRefIdeal.τ).loc Cert.QkvWeightRefIdeal.main_arg4))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamQkv [hAdamQkv : Cert.AdamQkv.Facts] : Prop :=
  ∀ (m : (ℓ : Loc Cert.AdamQkv.nD Cert.AdamQkv.τ Cert.AdamQkv.sig) → Buf (Elt Bits) ℓ) (g : Dev Cert.AdamQkv.nD → PrngReg), Pre_AdamQkv m →
    θ_run (Cert.AdamQkv.defs (F := Bits)) (onTc (τ := Cert.AdamQkv.τ) (Cert.AdamQkv.main (F := Bits))) ⟨m, fun _ => 0, g⟩ (fun r => (∀ c : Dev Cert.AdamQkv.nD,
      r.2.mem ((c.tc : Thread Cert.AdamQkv.nD Cert.AdamQkv.τ).loc Cert.AdamQkv.main_arg0) = m ((c.tc : Thread Cert.AdamQkv.nD Cert.AdamQkv.τ).loc Cert.AdamQkv.main_arg0)
      ∧ r.2.mem ((c.tc : Thread Cert.AdamQkv.nD Cert.AdamQkv.τ).loc Cert.AdamQkv.main_arg1) = m ((c.tc : Thread Cert.AdamQkv.nD Cert.AdamQkv.τ).loc Cert.AdamQkv.main_arg1)
      ∧ r.2.mem ((c.tc : Thread Cert.AdamQkv.nD Cert.AdamQkv.τ).loc Cert.AdamQkv.main_arg2) = m ((c.tc : Thread Cert.AdamQkv.nD Cert.AdamQkv.τ).loc Cert.AdamQkv.main_arg2)
      ∧ r.2.mem ((c.tc : Thread Cert.AdamQkv.nD Cert.AdamQkv.τ).loc Cert.AdamQkv.main_arg3) = m ((c.tc : Thread Cert.AdamQkv.nD Cert.AdamQkv.τ).loc Cert.AdamQkv.main_arg3))
      ∧ r.2.sem = fun _ => 0)

def quiescent_AdamQkvIdeal [hAdamQkvIdeal : Cert.AdamQkvIdeal.Facts] : Prop :=
  ∀ (m : (ℓ : Loc Cert.AdamQkvIdeal.nD Cert.AdamQkvIdeal.τ Cert.AdamQkvIdeal.sig) → Buf (Elt Ideal) ℓ) (g : Dev Cert.AdamQkvIdeal.nD → PrngReg), Pre_AdamQkvIdeal m →
    θ_run (Cert.AdamQkvIdeal.defs (F := Ideal)) (onTc (τ := Cert.AdamQkvIdeal.τ) (Cert.AdamQkvIdeal.main (F := Ideal))) ⟨m, fun _ => 0, g⟩ (fun r => (∀ c : Dev Cert.AdamQkvIdeal.nD,
      r.2.mem ((c.tc : Thread Cert.AdamQkvIdeal.nD Cert.AdamQkvIdeal.τ).loc Cert.AdamQkvIdeal.main_arg0) = m ((c.tc : Thread Cert.AdamQkvIdeal.nD Cert.AdamQkvIdeal.τ).loc Cert.AdamQkvIdeal.main_arg0)
      ∧ r.2.mem ((c.tc : Thread Cert.AdamQkvIdeal.nD Cert.AdamQkvIdeal.τ).loc Cert.AdamQkvIdeal.main_arg1) = m ((c.tc : Thread Cert.AdamQkvIdeal.nD Cert.AdamQkvIdeal.τ).loc Cert.AdamQkvIdeal.main_arg1)
      ∧ r.2.mem ((c.tc : Thread Cert.AdamQkvIdeal.nD Cert.AdamQkvIdeal.τ).loc Cert.AdamQkvIdeal.main_arg2) = m ((c.tc : Thread Cert.AdamQkvIdeal.nD Cert.AdamQkvIdeal.τ).loc Cert.AdamQkvIdeal.main_arg2)
      ∧ r.2.mem ((c.tc : Thread Cert.AdamQkvIdeal.nD Cert.AdamQkvIdeal.τ).loc Cert.AdamQkvIdeal.main_arg3) = m ((c.tc : Thread Cert.AdamQkvIdeal.nD Cert.AdamQkvIdeal.τ).loc Cert.AdamQkvIdeal.main_arg3))
      ∧ r.2.sem = fun _ => 0)

def quiescent_AdamQkvRefIdeal [hAdamQkvRefIdeal : Cert.AdamQkvRefIdeal.Facts] : Prop :=
  ∀ (m : (ℓ : Loc Cert.AdamQkvRefIdeal.nD Cert.AdamQkvRefIdeal.τ Cert.AdamQkvRefIdeal.sig) → Buf (Elt Ideal) ℓ) (g : Dev Cert.AdamQkvRefIdeal.nD → PrngReg), Pre_AdamQkvRefIdeal m →
    θ_run (Cert.AdamQkvRefIdeal.defs (F := Ideal)) (onTc (τ := Cert.AdamQkvRefIdeal.τ) (Cert.AdamQkvRefIdeal.main (F := Ideal))) ⟨m, fun _ => 0, g⟩ (fun r => (∀ c : Dev Cert.AdamQkvRefIdeal.nD,
      r.2.mem ((c.tc : Thread Cert.AdamQkvRefIdeal.nD Cert.AdamQkvRefIdeal.τ).loc Cert.AdamQkvRefIdeal.main_arg0) = m ((c.tc : Thread Cert.AdamQkvRefIdeal.nD Cert.AdamQkvRefIdeal.τ).loc Cert.AdamQkvRefIdeal.main_arg0)
      ∧ r.2.mem ((c.tc : Thread Cert.AdamQkvRefIdeal.nD Cert.AdamQkvRefIdeal.τ).loc Cert.AdamQkvRefIdeal.main_arg1) = m ((c.tc : Thread Cert.AdamQkvRefIdeal.nD Cert.AdamQkvRefIdeal.τ).loc Cert.AdamQkvRefIdeal.main_arg1)
      ∧ r.2.mem ((c.tc : Thread Cert.AdamQkvRefIdeal.nD Cert.AdamQkvRefIdeal.τ).loc Cert.AdamQkvRefIdeal.main_arg2) = m ((c.tc : Thread Cert.AdamQkvRefIdeal.nD Cert.AdamQkvRefIdeal.τ).loc Cert.AdamQkvRefIdeal.main_arg2)
      ∧ r.2.mem ((c.tc : Thread Cert.AdamQkvRefIdeal.nD Cert.AdamQkvRefIdeal.τ).loc Cert.AdamQkvRefIdeal.main_arg3) = m ((c.tc : Thread Cert.AdamQkvRefIdeal.nD Cert.AdamQkvRefIdeal.τ).loc Cert.AdamQkvRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_ConvMid [hConvMid : Cert.ConvMid.Facts] : Prop :=
  ∀ (m : (ℓ : Loc Cert.ConvMid.nD Cert.ConvMid.τ Cert.ConvMid.sig) → Buf (Elt Bits) ℓ) (g : Dev Cert.ConvMid.nD → PrngReg), Pre_ConvMid m →
    θ_run (Cert.ConvMid.defs (F := Bits)) (onTc (τ := Cert.ConvMid.τ) (Cert.ConvMid.main (F := Bits))) ⟨m, fun _ => 0, g⟩ (fun r => (∀ c : Dev Cert.ConvMid.nD,
      r.2.mem ((c.tc : Thread Cert.ConvMid.nD Cert.ConvMid.τ).loc Cert.ConvMid.main_arg0) = m ((c.tc : Thread Cert.ConvMid.nD Cert.ConvMid.τ).loc Cert.ConvMid.main_arg0)
      ∧ r.2.mem ((c.tc : Thread Cert.ConvMid.nD Cert.ConvMid.τ).loc Cert.ConvMid.main_arg1) = m ((c.tc : Thread Cert.ConvMid.nD Cert.ConvMid.τ).loc Cert.ConvMid.main_arg1)
      ∧ r.2.mem ((c.tc : Thread Cert.ConvMid.nD Cert.ConvMid.τ).loc Cert.ConvMid.main_arg2) = m ((c.tc : Thread Cert.ConvMid.nD Cert.ConvMid.τ).loc Cert.ConvMid.main_arg2)
      ∧ r.2.mem ((c.tc : Thread Cert.ConvMid.nD Cert.ConvMid.τ).loc Cert.ConvMid.main_arg3) = m ((c.tc : Thread Cert.ConvMid.nD Cert.ConvMid.τ).loc Cert.ConvMid.main_arg3)
      ∧ r.2.mem ((c.tc : Thread Cert.ConvMid.nD Cert.ConvMid.τ).loc Cert.ConvMid.main_arg4) = m ((c.tc : Thread Cert.ConvMid.nD Cert.ConvMid.τ).loc Cert.ConvMid.main_arg4)
      ∧ r.2.mem ((c.tc : Thread Cert.ConvMid.nD Cert.ConvMid.τ).loc Cert.ConvMid.main_arg5) = m ((c.tc : Thread Cert.ConvMid.nD Cert.ConvMid.τ).loc Cert.ConvMid.main_arg5))
      ∧ r.2.sem = fun _ => 0)

def quiescent_ConvMidIdeal [hConvMidIdeal : Cert.ConvMidIdeal.Facts] : Prop :=
  ∀ (m : (ℓ : Loc Cert.ConvMidIdeal.nD Cert.ConvMidIdeal.τ Cert.ConvMidIdeal.sig) → Buf (Elt Ideal) ℓ) (g : Dev Cert.ConvMidIdeal.nD → PrngReg), Pre_ConvMidIdeal m →
    θ_run (Cert.ConvMidIdeal.defs (F := Ideal)) (onTc (τ := Cert.ConvMidIdeal.τ) (Cert.ConvMidIdeal.main (F := Ideal))) ⟨m, fun _ => 0, g⟩ (fun r => (∀ c : Dev Cert.ConvMidIdeal.nD,
      r.2.mem ((c.tc : Thread Cert.ConvMidIdeal.nD Cert.ConvMidIdeal.τ).loc Cert.ConvMidIdeal.main_arg0) = m ((c.tc : Thread Cert.ConvMidIdeal.nD Cert.ConvMidIdeal.τ).loc Cert.ConvMidIdeal.main_arg0)
      ∧ r.2.mem ((c.tc : Thread Cert.ConvMidIdeal.nD Cert.ConvMidIdeal.τ).loc Cert.ConvMidIdeal.main_arg1) = m ((c.tc : Thread Cert.ConvMidIdeal.nD Cert.ConvMidIdeal.τ).loc Cert.ConvMidIdeal.main_arg1)
      ∧ r.2.mem ((c.tc : Thread Cert.ConvMidIdeal.nD Cert.ConvMidIdeal.τ).loc Cert.ConvMidIdeal.main_arg2) = m ((c.tc : Thread Cert.ConvMidIdeal.nD Cert.ConvMidIdeal.τ).loc Cert.ConvMidIdeal.main_arg2)
      ∧ r.2.mem ((c.tc : Thread Cert.ConvMidIdeal.nD Cert.ConvMidIdeal.τ).loc Cert.ConvMidIdeal.main_arg3) = m ((c.tc : Thread Cert.ConvMidIdeal.nD Cert.ConvMidIdeal.τ).loc Cert.ConvMidIdeal.main_arg3)
      ∧ r.2.mem ((c.tc : Thread Cert.ConvMidIdeal.nD Cert.ConvMidIdeal.τ).loc Cert.ConvMidIdeal.main_arg4) = m ((c.tc : Thread Cert.ConvMidIdeal.nD Cert.ConvMidIdeal.τ).loc Cert.ConvMidIdeal.main_arg4)
      ∧ r.2.mem ((c.tc : Thread Cert.ConvMidIdeal.nD Cert.ConvMidIdeal.τ).loc Cert.ConvMidIdeal.main_arg5) = m ((c.tc : Thread Cert.ConvMidIdeal.nD Cert.ConvMidIdeal.τ).loc Cert.ConvMidIdeal.main_arg5))
      ∧ r.2.sem = fun _ => 0)

def quiescent_ConvMidIdeal_pre_finite [hConvMidIdeal : Cert.ConvMidIdeal.Facts] [hPre_finite : Cert.Pre_finite.Facts] : Prop :=
  ∀ (m : (ℓ : Loc Cert.ConvMidIdeal.nD Cert.ConvMidIdeal.τ Cert.ConvMidIdeal.sig) → Buf (Elt Ideal) ℓ) (g : Dev Cert.ConvMidIdeal.nD → PrngReg), Pre_ConvMidIdeal_finite m →
    θ_run (Cert.ConvMidIdeal.defs (F := Ideal)) (onTc (τ := Cert.ConvMidIdeal.τ) (Cert.ConvMidIdeal.main (F := Ideal))) ⟨m, fun _ => 0, g⟩ (fun r => (∀ c : Dev Cert.ConvMidIdeal.nD,
      r.2.mem ((c.tc : Thread Cert.ConvMidIdeal.nD Cert.ConvMidIdeal.τ).loc Cert.ConvMidIdeal.main_arg0) = m ((c.tc : Thread Cert.ConvMidIdeal.nD Cert.ConvMidIdeal.τ).loc Cert.ConvMidIdeal.main_arg0)
      ∧ r.2.mem ((c.tc : Thread Cert.ConvMidIdeal.nD Cert.ConvMidIdeal.τ).loc Cert.ConvMidIdeal.main_arg1) = m ((c.tc : Thread Cert.ConvMidIdeal.nD Cert.ConvMidIdeal.τ).loc Cert.ConvMidIdeal.main_arg1)
      ∧ r.2.mem ((c.tc : Thread Cert.ConvMidIdeal.nD Cert.ConvMidIdeal.τ).loc Cert.ConvMidIdeal.main_arg2) = m ((c.tc : Thread Cert.ConvMidIdeal.nD Cert.ConvMidIdeal.τ).loc Cert.ConvMidIdeal.main_arg2)
      ∧ r.2.mem ((c.tc : Thread Cert.ConvMidIdeal.nD Cert.ConvMidIdeal.τ).loc Cert.ConvMidIdeal.main_arg3) = m ((c.tc : Thread Cert.ConvMidIdeal.nD Cert.ConvMidIdeal.τ).loc Cert.ConvMidIdeal.main_arg3)
      ∧ r.2.mem ((c.tc : Thread Cert.ConvMidIdeal.nD Cert.ConvMidIdeal.τ).loc Cert.ConvMidIdeal.main_arg4) = m ((c.tc : Thread Cert.ConvMidIdeal.nD Cert.ConvMidIdeal.τ).loc Cert.ConvMidIdeal.main_arg4)
      ∧ r.2.mem ((c.tc : Thread Cert.ConvMidIdeal.nD Cert.ConvMidIdeal.τ).loc Cert.ConvMidIdeal.main_arg5) = m ((c.tc : Thread Cert.ConvMidIdeal.nD Cert.ConvMidIdeal.τ).loc Cert.ConvMidIdeal.main_arg5))
      ∧ r.2.sem = fun _ => 0)

def quiescent_ConvMidRefIdeal [hConvMidRefIdeal : Cert.ConvMidRefIdeal.Facts] : Prop :=
  ∀ (m : (ℓ : Loc Cert.ConvMidRefIdeal.nD Cert.ConvMidRefIdeal.τ Cert.ConvMidRefIdeal.sig) → Buf (Elt Ideal) ℓ) (g : Dev Cert.ConvMidRefIdeal.nD → PrngReg), Pre_ConvMidRefIdeal m →
    θ_run (Cert.ConvMidRefIdeal.defs (F := Ideal)) (onTc (τ := Cert.ConvMidRefIdeal.τ) (Cert.ConvMidRefIdeal.main (F := Ideal))) ⟨m, fun _ => 0, g⟩ (fun r => (∀ c : Dev Cert.ConvMidRefIdeal.nD,
      r.2.mem ((c.tc : Thread Cert.ConvMidRefIdeal.nD Cert.ConvMidRefIdeal.τ).loc Cert.ConvMidRefIdeal.main_arg0) = m ((c.tc : Thread Cert.ConvMidRefIdeal.nD Cert.ConvMidRefIdeal.τ).loc Cert.ConvMidRefIdeal.main_arg0)
      ∧ r.2.mem ((c.tc : Thread Cert.ConvMidRefIdeal.nD Cert.ConvMidRefIdeal.τ).loc Cert.ConvMidRefIdeal.main_arg1) = m ((c.tc : Thread Cert.ConvMidRefIdeal.nD Cert.ConvMidRefIdeal.τ).loc Cert.ConvMidRefIdeal.main_arg1)
      ∧ r.2.mem ((c.tc : Thread Cert.ConvMidRefIdeal.nD Cert.ConvMidRefIdeal.τ).loc Cert.ConvMidRefIdeal.main_arg2) = m ((c.tc : Thread Cert.ConvMidRefIdeal.nD Cert.ConvMidRefIdeal.τ).loc Cert.ConvMidRefIdeal.main_arg2)
      ∧ r.2.mem ((c.tc : Thread Cert.ConvMidRefIdeal.nD Cert.ConvMidRefIdeal.τ).loc Cert.ConvMidRefIdeal.main_arg3) = m ((c.tc : Thread Cert.ConvMidRefIdeal.nD Cert.ConvMidRefIdeal.τ).loc Cert.ConvMidRefIdeal.main_arg3)
      ∧ r.2.mem ((c.tc : Thread Cert.ConvMidRefIdeal.nD Cert.ConvMidRefIdeal.τ).loc Cert.ConvMidRefIdeal.main_arg4) = m ((c.tc : Thread Cert.ConvMidRefIdeal.nD Cert.ConvMidRefIdeal.τ).loc Cert.ConvMidRefIdeal.main_arg4)
      ∧ r.2.mem ((c.tc : Thread Cert.ConvMidRefIdeal.nD Cert.ConvMidRefIdeal.τ).loc Cert.ConvMidRefIdeal.main_arg5) = m ((c.tc : Thread Cert.ConvMidRefIdeal.nD Cert.ConvMidRefIdeal.τ).loc Cert.ConvMidRefIdeal.main_arg5))
      ∧ r.2.sem = fun _ => 0)

def quiescent_ConvMidRefIdeal_pre_finite [hConvMidRefIdeal : Cert.ConvMidRefIdeal.Facts] [hPre_finite : Cert.Pre_finite.Facts] : Prop :=
  ∀ (m : (ℓ : Loc Cert.ConvMidRefIdeal.nD Cert.ConvMidRefIdeal.τ Cert.ConvMidRefIdeal.sig) → Buf (Elt Ideal) ℓ) (g : Dev Cert.ConvMidRefIdeal.nD → PrngReg), Pre_ConvMidRefIdeal_finite m →
    θ_run (Cert.ConvMidRefIdeal.defs (F := Ideal)) (onTc (τ := Cert.ConvMidRefIdeal.τ) (Cert.ConvMidRefIdeal.main (F := Ideal))) ⟨m, fun _ => 0, g⟩ (fun r => (∀ c : Dev Cert.ConvMidRefIdeal.nD,
      r.2.mem ((c.tc : Thread Cert.ConvMidRefIdeal.nD Cert.ConvMidRefIdeal.τ).loc Cert.ConvMidRefIdeal.main_arg0) = m ((c.tc : Thread Cert.ConvMidRefIdeal.nD Cert.ConvMidRefIdeal.τ).loc Cert.ConvMidRefIdeal.main_arg0)
      ∧ r.2.mem ((c.tc : Thread Cert.ConvMidRefIdeal.nD Cert.ConvMidRefIdeal.τ).loc Cert.ConvMidRefIdeal.main_arg1) = m ((c.tc : Thread Cert.ConvMidRefIdeal.nD Cert.ConvMidRefIdeal.τ).loc Cert.ConvMidRefIdeal.main_arg1)
      ∧ r.2.mem ((c.tc : Thread Cert.ConvMidRefIdeal.nD Cert.ConvMidRefIdeal.τ).loc Cert.ConvMidRefIdeal.main_arg2) = m ((c.tc : Thread Cert.ConvMidRefIdeal.nD Cert.ConvMidRefIdeal.τ).loc Cert.ConvMidRefIdeal.main_arg2)
      ∧ r.2.mem ((c.tc : Thread Cert.ConvMidRefIdeal.nD Cert.ConvMidRefIdeal.τ).loc Cert.ConvMidRefIdeal.main_arg3) = m ((c.tc : Thread Cert.ConvMidRefIdeal.nD Cert.ConvMidRefIdeal.τ).loc Cert.ConvMidRefIdeal.main_arg3)
      ∧ r.2.mem ((c.tc : Thread Cert.ConvMidRefIdeal.nD Cert.ConvMidRefIdeal.τ).loc Cert.ConvMidRefIdeal.main_arg4) = m ((c.tc : Thread Cert.ConvMidRefIdeal.nD Cert.ConvMidRefIdeal.τ).loc Cert.ConvMidRefIdeal.main_arg4)
      ∧ r.2.mem ((c.tc : Thread Cert.ConvMidRefIdeal.nD Cert.ConvMidRefIdeal.τ).loc Cert.ConvMidRefIdeal.main_arg5) = m ((c.tc : Thread Cert.ConvMidRefIdeal.nD Cert.ConvMidRefIdeal.τ).loc Cert.ConvMidRefIdeal.main_arg5))
      ∧ r.2.sem = fun _ => 0)

def preserves_ConvIn_ConvInIdeal : Prop :=
  True

def algebraic_ConvInIdeal_ConvInRefIdeal [hConvInIdeal : Cert.ConvInIdeal.Facts] [hConvInRefIdeal : Cert.ConvInRefIdeal.Facts] : Prop :=
  ∀ (m : (ℓ : Loc Cert.ConvInIdeal.nD Cert.ConvInIdeal.τ Cert.ConvInIdeal.sig) → Buf (Elt Ideal) ℓ) (g : Dev Cert.ConvInIdeal.nD → PrngReg)
    (m' : (ℓ : Loc Cert.ConvInRefIdeal.nD Cert.ConvInRefIdeal.τ Cert.ConvInRefIdeal.sig) → Buf (Elt Ideal) ℓ) (g' : Dev Cert.ConvInRefIdeal.nD → PrngReg), Pre_ConvInIdeal m →
    (∀ c : Dev Cert.ConvInIdeal.nD,
      m' ((c.tc : Thread Cert.ConvInRefIdeal.nD Cert.ConvInRefIdeal.τ).loc Cert.ConvInRefIdeal.main_arg0) = m ((c.tc : Thread Cert.ConvInIdeal.nD Cert.ConvInIdeal.τ).loc Cert.ConvInIdeal.main_arg0)
      ∧ m' ((c.tc : Thread Cert.ConvInRefIdeal.nD Cert.ConvInRefIdeal.τ).loc Cert.ConvInRefIdeal.main_arg1) = m ((c.tc : Thread Cert.ConvInIdeal.nD Cert.ConvInIdeal.τ).loc Cert.ConvInIdeal.main_arg1)
      ∧ m' ((c.tc : Thread Cert.ConvInRefIdeal.nD Cert.ConvInRefIdeal.τ).loc Cert.ConvInRefIdeal.main_arg2) = m ((c.tc : Thread Cert.ConvInIdeal.nD Cert.ConvInIdeal.τ).loc Cert.ConvInIdeal.main_arg2)
      ∧ m' ((c.tc : Thread Cert.ConvInRefIdeal.nD Cert.ConvInRefIdeal.τ).loc Cert.ConvInRefIdeal.main_arg3) = m ((c.tc : Thread Cert.ConvInIdeal.nD Cert.ConvInIdeal.τ).loc Cert.ConvInIdeal.main_arg3)
      ∧ m' ((c.tc : Thread Cert.ConvInRefIdeal.nD Cert.ConvInRefIdeal.τ).loc Cert.ConvInRefIdeal.main_arg4) = m ((c.tc : Thread Cert.ConvInIdeal.nD Cert.ConvInIdeal.τ).loc Cert.ConvInIdeal.main_arg4)
      ∧ m' ((c.tc : Thread Cert.ConvInRefIdeal.nD Cert.ConvInRefIdeal.τ).loc Cert.ConvInRefIdeal.main_arg5) = m ((c.tc : Thread Cert.ConvInIdeal.nD Cert.ConvInIdeal.τ).loc Cert.ConvInIdeal.main_arg5)) →
    ∃ (v0 : (c : Dev Cert.ConvInIdeal.nD) → Buf (Elt Ideal) ((c.tc : Thread Cert.ConvInIdeal.nD Cert.ConvInIdeal.τ).loc Cert.ConvInIdeal.main_v21_0)) (v1 : (c : Dev Cert.ConvInIdeal.nD) → Buf (Elt Ideal) ((c.tc : Thread Cert.ConvInIdeal.nD Cert.ConvInIdeal.τ).loc Cert.ConvInIdeal.main_v21_1)) (v2 : (c : Dev Cert.ConvInIdeal.nD) → Buf (Elt Ideal) ((c.tc : Thread Cert.ConvInIdeal.nD Cert.ConvInIdeal.τ).loc Cert.ConvInIdeal.main_v21_2)) (v3 : (c : Dev Cert.ConvInIdeal.nD) → Buf (Elt Ideal) ((c.tc : Thread Cert.ConvInIdeal.nD Cert.ConvInIdeal.τ).loc Cert.ConvInIdeal.main_v21_3)),
      θ_run (Cert.ConvInIdeal.defs (F := Ideal)) (onTc (τ := Cert.ConvInIdeal.τ) (Cert.ConvInIdeal.main (F := Ideal))) ⟨m, fun _ => 0, g⟩ (fun r => ∀ c : Dev Cert.ConvInIdeal.nD,
          r.2.mem ((c.tc : Thread Cert.ConvInIdeal.nD Cert.ConvInIdeal.τ).loc Cert.ConvInIdeal.main_v21_0) = v0 c
          ∧ r.2.mem ((c.tc : Thread Cert.ConvInIdeal.nD Cert.ConvInIdeal.τ).loc Cert.ConvInIdeal.main_v21_1) = v1 c
          ∧ r.2.mem ((c.tc : Thread Cert.ConvInIdeal.nD Cert.ConvInIdeal.τ).loc Cert.ConvInIdeal.main_v21_2) = v2 c
          ∧ r.2.mem ((c.tc : Thread Cert.ConvInIdeal.nD Cert.ConvInIdeal.τ).loc Cert.ConvInIdeal.main_v21_3) = v3 c
          ∧ r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
          ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
          ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2)
          ∧ r.2.mem ((c.tc : Thread Cert.ConvInIdeal.nD Cert.ConvInIdeal.τ).loc Cert.ConvInIdeal.main_arg3) = m ((c.tc : Thread Cert.ConvInIdeal.nD Cert.ConvInIdeal.τ).loc Cert.ConvInIdeal.main_arg3)
          ∧ r.2.mem ((c.tc : Thread Cert.ConvInIdeal.nD Cert.ConvInIdeal.τ).loc Cert.ConvInIdeal.main_arg4) = m ((c.tc : Thread Cert.ConvInIdeal.nD Cert.ConvInIdeal.τ).loc Cert.ConvInIdeal.main_arg4)
          ∧ r.2.mem ((c.tc : Thread Cert.ConvInIdeal.nD Cert.ConvInIdeal.τ).loc Cert.ConvInIdeal.main_arg5) = m ((c.tc : Thread Cert.ConvInIdeal.nD Cert.ConvInIdeal.τ).loc Cert.ConvInIdeal.main_arg5))
      ∧ θ_run (Cert.ConvInRefIdeal.defs (F := Ideal)) (onTc (τ := Cert.ConvInRefIdeal.τ) (Cert.ConvInRefIdeal.main (F := Ideal))) ⟨m', fun _ => 0, g'⟩ (fun r => ∀ c : Dev Cert.ConvInRefIdeal.nD,
          r.2.mem ((c.tc : Thread Cert.ConvInRefIdeal.nD Cert.ConvInRefIdeal.τ).loc Cert.ConvInRefIdeal.main_v58) = v0 c
          ∧ r.2.mem ((c.tc : Thread Cert.ConvInRefIdeal.nD Cert.ConvInRefIdeal.τ).loc Cert.ConvInRefIdeal.main_v59) = v1 c
          ∧ r.2.mem ((c.tc : Thread Cert.ConvInRefIdeal.nD Cert.ConvInRefIdeal.τ).loc Cert.ConvInRefIdeal.main_v35) = v2 c
          ∧ r.2.mem ((c.tc : Thread Cert.ConvInRefIdeal.nD Cert.ConvInRefIdeal.τ).loc Cert.ConvInRefIdeal.main_v41) = v3 c
          ∧ r.2.mem ((c.tc : Thread Cert.ConvInRefIdeal.nD Cert.ConvInRefIdeal.τ).loc Cert.ConvInRefIdeal.main_arg0) = m' ((c.tc : Thread Cert.ConvInRefIdeal.nD Cert.ConvInRefIdeal.τ).loc Cert.ConvInRefIdeal.main_arg0)
          ∧ r.2.mem ((c.tc : Thread Cert.ConvInRefIdeal.nD Cert.ConvInRefIdeal.τ).loc Cert.ConvInRefIdeal.main_arg1) = m' ((c.tc : Thread Cert.ConvInRefIdeal.nD Cert.ConvInRefIdeal.τ).loc Cert.ConvInRefIdeal.main_arg1)
          ∧ r.2.mem ((c.tc : Thread Cert.ConvInRefIdeal.nD Cert.ConvInRefIdeal.τ).loc Cert.ConvInRefIdeal.main_arg2) = m' ((c.tc : Thread Cert.ConvInRefIdeal.nD Cert.ConvInRefIdeal.τ).loc Cert.ConvInRefIdeal.main_arg2)
          ∧ r.2.mem ((c.tc : Thread Cert.ConvInRefIdeal.nD Cert.ConvInRefIdeal.τ).loc Cert.ConvInRefIdeal.main_arg3) = m' ((c.tc : Thread Cert.ConvInRefIdeal.nD Cert.ConvInRefIdeal.τ).loc Cert.ConvInRefIdeal.main_arg3)
          ∧ r.2.mem ((c.tc : Thread Cert.ConvInRefIdeal.nD Cert.ConvInRefIdeal.τ).loc Cert.ConvInRefIdeal.main_arg4) = m' ((c.tc : Thread Cert.ConvInRefIdeal.nD Cert.ConvInRefIdeal.τ).loc Cert.ConvInRefIdeal.main_arg4)
          ∧ r.2.mem ((c.tc : Thread Cert.ConvInRefIdeal.nD Cert.ConvInRefIdeal.τ).loc Cert.ConvInRefIdeal.main_arg5) = m' ((c.tc : Thread Cert.ConvInRefIdeal.nD Cert.ConvInRefIdeal.τ).loc Cert.ConvInRefIdeal.main_arg5))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v22_0)) (v1 : (c : Dev Cert.MlpIdeal.nD) → Buf (Elt Ideal) ((c.tc : Thread Cert.MlpIdeal.nD Cert.MlpIdeal.τ).loc Cert.MlpIdeal.main_v22_1)) (v2 : (c : Dev Cert.MlpIdeal.nD) → Buf (Elt Ideal) ((c.tc : Thread Cert.MlpIdeal.nD Cert.MlpIdeal.τ).loc Cert.MlpIdeal.main_v22_2)) (v3 : (c : Dev Cert.MlpIdeal.nD) → Buf (Elt Ideal) ((c.tc : Thread Cert.MlpIdeal.nD Cert.MlpIdeal.τ).loc Cert.MlpIdeal.main_v22_3)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v22_0) = v0 c
          ∧ r.2.mem ((c.tc : Thread Cert.MlpIdeal.nD Cert.MlpIdeal.τ).loc Cert.MlpIdeal.main_v22_1) = v1 c
          ∧ r.2.mem ((c.tc : Thread Cert.MlpIdeal.nD Cert.MlpIdeal.τ).loc Cert.MlpIdeal.main_v22_2) = v2 c
          ∧ r.2.mem ((c.tc : Thread Cert.MlpIdeal.nD Cert.MlpIdeal.τ).loc Cert.MlpIdeal.main_v22_3) = v3 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v52) = v0 c
          ∧ r.2.mem ((c.tc : Thread Cert.MlpRefIdeal.nD Cert.MlpRefIdeal.τ).loc Cert.MlpRefIdeal.main_v53) = v1 c
          ∧ r.2.mem ((c.tc : Thread Cert.MlpRefIdeal.nD Cert.MlpRefIdeal.τ).loc Cert.MlpRefIdeal.main_v55) = v2 c
          ∧ r.2.mem ((c.tc : Thread Cert.MlpRefIdeal.nD Cert.MlpRefIdeal.τ).loc Cert.MlpRefIdeal.main_v35) = v3 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v17)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v17) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v19) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v41)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v41) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v55) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v6_0)) (v1 : (c : Dev Cert.LossIdeal.nD) → Buf (Elt Ideal) ((c.tc : Thread Cert.LossIdeal.nD Cert.LossIdeal.τ).loc Cert.LossIdeal.main_v6_1)) (v2 : (c : Dev Cert.LossIdeal.nD) → Buf (Elt Ideal) ((c.tc : Thread Cert.LossIdeal.nD Cert.LossIdeal.τ).loc Cert.LossIdeal.main_v6_2)) (v3 : (c : Dev Cert.LossIdeal.nD) → Buf (Elt Ideal) ((c.tc : Thread Cert.LossIdeal.nD Cert.LossIdeal.τ).loc Cert.LossIdeal.main_v6_3)) (v4 : (c : Dev Cert.LossIdeal.nD) → Buf (Elt Ideal) ((c.tc : Thread Cert.LossIdeal.nD Cert.LossIdeal.τ).loc Cert.LossIdeal.main_v6_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v6_0) = v0 c
          ∧ r.2.mem ((c.tc : Thread Cert.LossIdeal.nD Cert.LossIdeal.τ).loc Cert.LossIdeal.main_v6_1) = v1 c
          ∧ r.2.mem ((c.tc : Thread Cert.LossIdeal.nD Cert.LossIdeal.τ).loc Cert.LossIdeal.main_v6_2) = v2 c
          ∧ r.2.mem ((c.tc : Thread Cert.LossIdeal.nD Cert.LossIdeal.τ).loc Cert.LossIdeal.main_v6_3) = v3 c
          ∧ r.2.mem ((c.tc : Thread Cert.LossIdeal.nD Cert.LossIdeal.τ).loc Cert.LossIdeal.main_v6_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v32) = v0 c
          ∧ r.2.mem ((c.tc : Thread Cert.LossRefIdeal.nD Cert.LossRefIdeal.τ).loc Cert.LossRefIdeal.main_v33) = v1 c
          ∧ r.2.mem ((c.tc : Thread Cert.LossRefIdeal.nD Cert.LossRefIdeal.τ).loc Cert.LossRefIdeal.main_v31) = v2 c
          ∧ r.2.mem ((c.tc : Thread Cert.LossRefIdeal.nD Cert.LossRefIdeal.τ).loc Cert.LossRefIdeal.main_v34) = v3 c
          ∧ r.2.mem ((c.tc : Thread Cert.LossRefIdeal.nD Cert.LossRefIdeal.τ).loc Cert.LossRefIdeal.main_v38) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_ConvOut_ConvOutIdeal : Prop :=
  True

def algebraic_ConvOutIdeal_ConvOutRefIdeal [hConvOutIdeal : Cert.ConvOutIdeal.Facts] [hConvOutRefIdeal : Cert.ConvOutRefIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg)
    (m' : (ℓ : Loc Cert.ConvOutRefIdeal.nD Cert.ConvOutRefIdeal.τ Cert.ConvOutRefIdeal.sig) → Buf (Elt Ideal) ℓ) (g' : Dev Cert.ConvOutRefIdeal.nD → PrngReg), Pre_ConvOutIdeal m →
    (∀ c : Dev Cert.ConvOutIdeal.nD,
      m' ((c.tc : Thread Cert.ConvOutRefIdeal.nD Cert.ConvOutRefIdeal.τ).loc Cert.ConvOutRefIdeal.main_arg0) = m ((c.tc : Thread Cert.ConvOutIdeal.nD Cert.ConvOutIdeal.τ).loc Cert.ConvOutIdeal.main_arg0)
      ∧ m' ((c.tc : Thread Cert.ConvOutRefIdeal.nD Cert.ConvOutRefIdeal.τ).loc Cert.ConvOutRefIdeal.main_arg1) = m ((c.tc : Thread Cert.ConvOutIdeal.nD Cert.ConvOutIdeal.τ).loc Cert.ConvOutIdeal.main_arg1)
      ∧ m' ((c.tc : Thread Cert.ConvOutRefIdeal.nD Cert.ConvOutRefIdeal.τ).loc Cert.ConvOutRefIdeal.main_arg2) = m ((c.tc : Thread Cert.ConvOutIdeal.nD Cert.ConvOutIdeal.τ).loc Cert.ConvOutIdeal.main_arg2)
      ∧ m' ((c.tc : Thread Cert.ConvOutRefIdeal.nD Cert.ConvOutRefIdeal.τ).loc Cert.ConvOutRefIdeal.main_arg3) = m ((c.tc : Thread Cert.ConvOutIdeal.nD Cert.ConvOutIdeal.τ).loc Cert.ConvOutIdeal.main_arg3)
      ∧ m' ((c.tc : Thread Cert.ConvOutRefIdeal.nD Cert.ConvOutRefIdeal.τ).loc Cert.ConvOutRefIdeal.main_arg4) = m ((c.tc : Thread Cert.ConvOutIdeal.nD Cert.ConvOutIdeal.τ).loc Cert.ConvOutIdeal.main_arg4)
      ∧ m' ((c.tc : Thread Cert.ConvOutRefIdeal.nD Cert.ConvOutRefIdeal.τ).loc Cert.ConvOutRefIdeal.main_arg5) = m ((c.tc : Thread Cert.ConvOutIdeal.nD Cert.ConvOutIdeal.τ).loc Cert.ConvOutIdeal.main_arg5)) →
    ∃ (v0 : (c : Dev Cert.ConvOutIdeal.nD) → Buf (Elt Ideal) ((c.tc : Thread Cert.ConvOutIdeal.nD Cert.ConvOutIdeal.τ).loc Cert.ConvOutIdeal.main_v23)),
      θ_run (Cert.ConvOutIdeal.defs (F := Ideal)) (onTc (τ := Cert.ConvOutIdeal.τ) (Cert.ConvOutIdeal.main (F := Ideal))) ⟨m, fun _ => 0, g⟩ (fun r => ∀ c : Dev Cert.ConvOutIdeal.nD,
          r.2.mem ((c.tc : Thread Cert.ConvOutIdeal.nD Cert.ConvOutIdeal.τ).loc Cert.ConvOutIdeal.main_v23) = v0 c
          ∧ r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
          ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
          ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2)
          ∧ r.2.mem ((c.tc : Thread Cert.ConvOutIdeal.nD Cert.ConvOutIdeal.τ).loc Cert.ConvOutIdeal.main_arg3) = m ((c.tc : Thread Cert.ConvOutIdeal.nD Cert.ConvOutIdeal.τ).loc Cert.ConvOutIdeal.main_arg3)
          ∧ r.2.mem ((c.tc : Thread Cert.ConvOutIdeal.nD Cert.ConvOutIdeal.τ).loc Cert.ConvOutIdeal.main_arg4) = m ((c.tc : Thread Cert.ConvOutIdeal.nD Cert.ConvOutIdeal.τ).loc Cert.ConvOutIdeal.main_arg4)
          ∧ r.2.mem ((c.tc : Thread Cert.ConvOutIdeal.nD Cert.ConvOutIdeal.τ).loc Cert.ConvOutIdeal.main_arg5) = m ((c.tc : Thread Cert.ConvOutIdeal.nD Cert.ConvOutIdeal.τ).loc Cert.ConvOutIdeal.main_arg5))
      ∧ θ_run (Cert.ConvOutRefIdeal.defs (F := Ideal)) (onTc (τ := Cert.ConvOutRefIdeal.τ) (Cert.ConvOutRefIdeal.main (F := Ideal))) ⟨m', fun _ => 0, g'⟩ (fun r => ∀ c : Dev Cert.ConvOutRefIdeal.nD,
          r.2.mem ((c.tc : Thread Cert.ConvOutRefIdeal.nD Cert.ConvOutRefIdeal.τ).loc Cert.ConvOutRefIdeal.main_v30) = v0 c
          ∧ r.2.mem ((c.tc : Thread Cert.ConvOutRefIdeal.nD Cert.ConvOutRefIdeal.τ).loc Cert.ConvOutRefIdeal.main_arg0) = m' ((c.tc : Thread Cert.ConvOutRefIdeal.nD Cert.ConvOutRefIdeal.τ).loc Cert.ConvOutRefIdeal.main_arg0)
          ∧ r.2.mem ((c.tc : Thread Cert.ConvOutRefIdeal.nD Cert.ConvOutRefIdeal.τ).loc Cert.ConvOutRefIdeal.main_arg1) = m' ((c.tc : Thread Cert.ConvOutRefIdeal.nD Cert.ConvOutRefIdeal.τ).loc Cert.ConvOutRefIdeal.main_arg1)
          ∧ r.2.mem ((c.tc : Thread Cert.ConvOutRefIdeal.nD Cert.ConvOutRefIdeal.τ).loc Cert.ConvOutRefIdeal.main_arg2) = m' ((c.tc : Thread Cert.ConvOutRefIdeal.nD Cert.ConvOutRefIdeal.τ).loc Cert.ConvOutRefIdeal.main_arg2)
          ∧ r.2.mem ((c.tc : Thread Cert.ConvOutRefIdeal.nD Cert.ConvOutRefIdeal.τ).loc Cert.ConvOutRefIdeal.main_arg3) = m' ((c.tc : Thread Cert.ConvOutRefIdeal.nD Cert.ConvOutRefIdeal.τ).loc Cert.ConvOutRefIdeal.main_arg3)
          ∧ r.2.mem ((c.tc : Thread Cert.ConvOutRefIdeal.nD Cert.ConvOutRefIdeal.τ).loc Cert.ConvOutRefIdeal.main_arg4) = m' ((c.tc : Thread Cert.ConvOutRefIdeal.nD Cert.ConvOutRefIdeal.τ).loc Cert.ConvOutRefIdeal.main_arg4)
          ∧ r.2.mem ((c.tc : Thread Cert.ConvOutRefIdeal.nD Cert.ConvOutRefIdeal.τ).loc Cert.ConvOutRefIdeal.main_arg5) = m' ((c.tc : Thread Cert.ConvOutRefIdeal.nD Cert.ConvOutRefIdeal.τ).loc Cert.ConvOutRefIdeal.main_arg5))

def preserves_AttnOut_AttnOutIdeal : Prop :=
  True

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)
      ∧ m' ((c.tc : Thread Cert.AttnOutRefIdeal.nD Cert.AttnOutRefIdeal.τ).loc Cert.AttnOutRefIdeal.main_arg2) = m ((c.tc : Thread Cert.AttnOutIdeal.nD Cert.AttnOutIdeal.τ).loc Cert.AttnOutIdeal.main_arg2)
      ∧ m' ((c.tc : Thread Cert.AttnOutRefIdeal.nD Cert.AttnOutRefIdeal.τ).loc Cert.AttnOutRefIdeal.main_arg3) = m ((c.tc : Thread Cert.AttnOutIdeal.nD Cert.AttnOutIdeal.τ).loc Cert.AttnOutIdeal.main_arg3)) →
    ∃ (v0 : (c : Dev Cert.AttnOutIdeal.nD) → Buf (Elt Ideal) ((c.tc : Thread Cert.AttnOutIdeal.nD Cert.AttnOutIdeal.τ).loc Cert.AttnOutIdeal.main_v2)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v2) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v9) = v0 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1)
          ∧ r.2.mem ((c.tc : Thread Cert.AttnOutRefIdeal.nD Cert.AttnOutRefIdeal.τ).loc Cert.AttnOutRefIdeal.main_arg2) = m' ((c.tc : Thread Cert.AttnOutRefIdeal.nD Cert.AttnOutRefIdeal.τ).loc Cert.AttnOutRefIdeal.main_arg2)
          ∧ r.2.mem ((c.tc : Thread Cert.AttnOutRefIdeal.nD Cert.AttnOutRefIdeal.τ).loc Cert.AttnOutRefIdeal.main_arg3) = m' ((c.tc : Thread Cert.AttnOutRefIdeal.nD Cert.AttnOutRefIdeal.τ).loc Cert.AttnOutRefIdeal.main_arg3))

def preserves_QkvWeight_QkvWeightIdeal : Prop :=
  True

def algebraic_QkvWeightIdeal_QkvWeightRefIdeal [hQkvWeightIdeal : Cert.QkvWeightIdeal.Facts] [hQkvWeightRefIdeal : Cert.QkvWeightRefIdeal.Facts] : Prop :=
  ∀ (m : (ℓ : Loc Cert.QkvWeightIdeal.nD Cert.QkvWeightIdeal.τ Cert.QkvWeightIdeal.sig) → Buf (Elt Ideal) ℓ) (g : Dev Cert.QkvWeightIdeal.nD → PrngReg)
    (m' : (ℓ : Loc Cert.QkvWeightRefIdeal.nD Cert.QkvWeightRefIdeal.τ Cert.QkvWeightRefIdeal.sig) → Buf (Elt Ideal) ℓ) (g' : Dev Cert.QkvWeightRefIdeal.nD → PrngReg), Pre_QkvWeightIdeal m →
    (∀ c : Dev Cert.QkvWeightIdeal.nD,
      m' ((c.tc : Thread Cert.QkvWeightRefIdeal.nD Cert.QkvWeightRefIdeal.τ).loc Cert.QkvWeightRefIdeal.main_arg0) = m ((c.tc : Thread Cert.QkvWeightIdeal.nD Cert.QkvWeightIdeal.τ).loc Cert.QkvWeightIdeal.main_arg0)
      ∧ m' ((c.tc : Thread Cert.QkvWeightRefIdeal.nD Cert.QkvWeightRefIdeal.τ).loc Cert.QkvWeightRefIdeal.main_arg1) = m ((c.tc : Thread Cert.QkvWeightIdeal.nD Cert.QkvWeightIdeal.τ).loc Cert.QkvWeightIdeal.main_arg1)
      ∧ m' ((c.tc : Thread Cert.QkvWeightRefIdeal.nD Cert.QkvWeightRefIdeal.τ).loc Cert.QkvWeightRefIdeal.main_arg2) = m ((c.tc : Thread Cert.QkvWeightIdeal.nD Cert.QkvWeightIdeal.τ).loc Cert.QkvWeightIdeal.main_arg2)
      ∧ m' ((c.tc : Thread Cert.QkvWeightRefIdeal.nD Cert.QkvWeightRefIdeal.τ).loc Cert.QkvWeightRefIdeal.main_arg3) = m ((c.tc : Thread Cert.QkvWeightIdeal.nD Cert.QkvWeightIdeal.τ).loc Cert.QkvWeightIdeal.main_arg3)
      ∧ m' ((c.tc : Thread Cert.QkvWeightRefIdeal.nD Cert.QkvWeightRefIdeal.τ).loc Cert.QkvWeightRefIdeal.main_arg4) = m ((c.tc : Thread Cert.QkvWeightIdeal.nD Cert.QkvWeightIdeal.τ).loc Cert.QkvWeightIdeal.main_arg4)) →
    ∃ (v0 : (c : Dev Cert.QkvWeightIdeal.nD) → Buf (Elt Ideal) ((c.tc : Thread Cert.QkvWeightIdeal.nD Cert.QkvWeightIdeal.τ).loc Cert.QkvWeightIdeal.main_v14)),
      θ_run (Cert.QkvWeightIdeal.defs (F := Ideal)) (onTc (τ := Cert.QkvWeightIdeal.τ) (Cert.QkvWeightIdeal.main (F := Ideal))) ⟨m, fun _ => 0, g⟩ (fun r => ∀ c : Dev Cert.QkvWeightIdeal.nD,
          r.2.mem ((c.tc : Thread Cert.QkvWeightIdeal.nD Cert.QkvWeightIdeal.τ).loc Cert.QkvWeightIdeal.main_v14) = v0 c
          ∧ r.2.mem ((c.tc : Thread Cert.QkvWeightIdeal.nD Cert.QkvWeightIdeal.τ).loc Cert.QkvWeightIdeal.main_arg0) = m ((c.tc : Thread Cert.QkvWeightIdeal.nD Cert.QkvWeightIdeal.τ).loc Cert.QkvWeightIdeal.main_arg0)
          ∧ r.2.mem ((c.tc : Thread Cert.QkvWeightIdeal.nD Cert.QkvWeightIdeal.τ).loc Cert.QkvWeightIdeal.main_arg1) = m ((c.tc : Thread Cert.QkvWeightIdeal.nD Cert.QkvWeightIdeal.τ).loc Cert.QkvWeightIdeal.main_arg1)
          ∧ r.2.mem ((c.tc : Thread Cert.QkvWeightIdeal.nD Cert.QkvWeightIdeal.τ).loc Cert.QkvWeightIdeal.main_arg2) = m ((c.tc : Thread Cert.QkvWeightIdeal.nD Cert.QkvWeightIdeal.τ).loc Cert.QkvWeightIdeal.main_arg2)
          ∧ r.2.mem ((c.tc : Thread Cert.QkvWeightIdeal.nD Cert.QkvWeightIdeal.τ).loc Cert.QkvWeightIdeal.main_arg3) = m ((c.tc : Thread Cert.QkvWeightIdeal.nD Cert.QkvWeightIdeal.τ).loc Cert.QkvWeightIdeal.main_arg3)
          ∧ r.2.mem ((c.tc : Thread Cert.QkvWeightIdeal.nD Cert.QkvWeightIdeal.τ).loc Cert.QkvWeightIdeal.main_arg4) = m ((c.tc : Thread Cert.QkvWeightIdeal.nD Cert.QkvWeightIdeal.τ).loc Cert.QkvWeightIdeal.main_arg4))
      ∧ θ_run (Cert.QkvWeightRefIdeal.defs (F := Ideal)) (onTc (τ := Cert.QkvWeightRefIdeal.τ) (Cert.QkvWeightRefIdeal.main (F := Ideal))) ⟨m', fun _ => 0, g'⟩ (fun r => ∀ c : Dev Cert.QkvWeightRefIdeal.nD,
          r.2.mem ((c.tc : Thread Cert.QkvWeightRefIdeal.nD Cert.QkvWeightRefIdeal.τ).loc Cert.QkvWeightRefIdeal.main_v43) = v0 c
          ∧ r.2.mem ((c.tc : Thread Cert.QkvWeightRefIdeal.nD Cert.QkvWeightRefIdeal.τ).loc Cert.QkvWeightRefIdeal.main_arg0) = m' ((c.tc : Thread Cert.QkvWeightRefIdeal.nD Cert.QkvWeightRefIdeal.τ).loc Cert.QkvWeightRefIdeal.main_arg0)
          ∧ r.2.mem ((c.tc : Thread Cert.QkvWeightRefIdeal.nD Cert.QkvWeightRefIdeal.τ).loc Cert.QkvWeightRefIdeal.main_arg1) = m' ((c.tc : Thread Cert.QkvWeightRefIdeal.nD Cert.QkvWeightRefIdeal.τ).loc Cert.QkvWeightRefIdeal.main_arg1)
          ∧ r.2.mem ((c.tc : Thread Cert.QkvWeightRefIdeal.nD Cert.QkvWeightRefIdeal.τ).loc Cert.QkvWeightRefIdeal.main_arg2) = m' ((c.tc : Thread Cert.QkvWeightRefIdeal.nD Cert.QkvWeightRefIdeal.τ).loc Cert.QkvWeightRefIdeal.main_arg2)
          ∧ r.2.mem ((c.tc : Thread Cert.QkvWeightRefIdeal.nD Cert.QkvWeightRefIdeal.τ).loc Cert.QkvWeightRefIdeal.main_arg3) = m' ((c.tc : Thread Cert.QkvWeightRefIdeal.nD Cert.QkvWeightRefIdeal.τ).loc Cert.QkvWeightRefIdeal.main_arg3)
          ∧ r.2.mem ((c.tc : Thread Cert.QkvWeightRefIdeal.nD Cert.QkvWeightRefIdeal.τ).loc Cert.QkvWeightRefIdeal.main_arg4) = m' ((c.tc : Thread Cert.QkvWeightRefIdeal.nD Cert.QkvWeightRefIdeal.τ).loc Cert.QkvWeightRefIdeal.main_arg4))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v12) = v0 c
          ∧ r.2.mem ((c.tc : Thread Cert.AdamUpRefIdeal.nD Cert.AdamUpRefIdeal.τ).loc Cert.AdamUpRefIdeal.main_v36) = v1 c
          ∧ r.2.mem ((c.tc : Thread Cert.AdamUpRefIdeal.nD Cert.AdamUpRefIdeal.τ).loc Cert.AdamUpRefIdeal.main_v17) = v2 c
          ∧ r.2.mem ((c.tc : Thread Cert.AdamUpRefIdeal.nD Cert.AdamUpRefIdeal.τ).loc Cert.AdamUpRefIdeal.main_v23) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v6) = v0 c
          ∧ r.2.mem ((c.tc : Thread Cert.AdamDownRefIdeal.nD Cert.AdamDownRefIdeal.τ).loc Cert.AdamDownRefIdeal.main_v30) = v1 c
          ∧ r.2.mem ((c.tc : Thread Cert.AdamDownRefIdeal.nD Cert.AdamDownRefIdeal.τ).loc Cert.AdamDownRefIdeal.main_v11) = v2 c
          ∧ r.2.mem ((c.tc : Thread Cert.AdamDownRefIdeal.nD Cert.AdamDownRefIdeal.τ).loc Cert.AdamDownRefIdeal.main_v17) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v2) = v0 c
          ∧ r.2.mem ((c.tc : Thread Cert.AdamOutRefIdeal.nD Cert.AdamOutRefIdeal.τ).loc Cert.AdamOutRefIdeal.main_v26) = v1 c
          ∧ r.2.mem ((c.tc : Thread Cert.AdamOutRefIdeal.nD Cert.AdamOutRefIdeal.τ).loc Cert.AdamOutRefIdeal.main_v7) = v2 c
          ∧ r.2.mem ((c.tc : Thread Cert.AdamOutRefIdeal.nD Cert.AdamOutRefIdeal.τ).loc Cert.AdamOutRefIdeal.main_v13) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamQkv_AdamQkvIdeal : Prop :=
  True

def algebraic_AdamQkvIdeal_AdamQkvRefIdeal [hAdamQkvIdeal : Cert.AdamQkvIdeal.Facts] [hAdamQkvRefIdeal : Cert.AdamQkvRefIdeal.Facts] : Prop :=
  ∀ (m : (ℓ : Loc Cert.AdamQkvIdeal.nD Cert.AdamQkvIdeal.τ Cert.AdamQkvIdeal.sig) → Buf (Elt Ideal) ℓ) (g : Dev Cert.AdamQkvIdeal.nD → PrngReg)
    (m' : (ℓ : Loc Cert.AdamQkvRefIdeal.nD Cert.AdamQkvRefIdeal.τ Cert.AdamQkvRefIdeal.sig) → Buf (Elt Ideal) ℓ) (g' : Dev Cert.AdamQkvRefIdeal.nD → PrngReg), Pre_AdamQkvIdeal m →
    (∀ c : Dev Cert.AdamQkvIdeal.nD,
      m' ((c.tc : Thread Cert.AdamQkvRefIdeal.nD Cert.AdamQkvRefIdeal.τ).loc Cert.AdamQkvRefIdeal.main_arg0) = m ((c.tc : Thread Cert.AdamQkvIdeal.nD Cert.AdamQkvIdeal.τ).loc Cert.AdamQkvIdeal.main_arg0)
      ∧ m' ((c.tc : Thread Cert.AdamQkvRefIdeal.nD Cert.AdamQkvRefIdeal.τ).loc Cert.AdamQkvRefIdeal.main_arg1) = m ((c.tc : Thread Cert.AdamQkvIdeal.nD Cert.AdamQkvIdeal.τ).loc Cert.AdamQkvIdeal.main_arg1)
      ∧ m' ((c.tc : Thread Cert.AdamQkvRefIdeal.nD Cert.AdamQkvRefIdeal.τ).loc Cert.AdamQkvRefIdeal.main_arg2) = m ((c.tc : Thread Cert.AdamQkvIdeal.nD Cert.AdamQkvIdeal.τ).loc Cert.AdamQkvIdeal.main_arg2)
      ∧ m' ((c.tc : Thread Cert.AdamQkvRefIdeal.nD Cert.AdamQkvRefIdeal.τ).loc Cert.AdamQkvRefIdeal.main_arg3) = m ((c.tc : Thread Cert.AdamQkvIdeal.nD Cert.AdamQkvIdeal.τ).loc Cert.AdamQkvIdeal.main_arg3)) →
    ∃ (v0 : (c : Dev Cert.AdamQkvIdeal.nD) → Buf (Elt Ideal) ((c.tc : Thread Cert.AdamQkvIdeal.nD Cert.AdamQkvIdeal.τ).loc Cert.AdamQkvIdeal.main_v0_0)) (v1 : (c : Dev Cert.AdamQkvIdeal.nD) → Buf (Elt Ideal) ((c.tc : Thread Cert.AdamQkvIdeal.nD Cert.AdamQkvIdeal.τ).loc Cert.AdamQkvIdeal.main_v0_1)) (v2 : (c : Dev Cert.AdamQkvIdeal.nD) → Buf (Elt Ideal) ((c.tc : Thread Cert.AdamQkvIdeal.nD Cert.AdamQkvIdeal.τ).loc Cert.AdamQkvIdeal.main_v0_2)) (v3 : (c : Dev Cert.AdamQkvIdeal.nD) → Buf (Elt Ideal) ((c.tc : Thread Cert.AdamQkvIdeal.nD Cert.AdamQkvIdeal.τ).loc Cert.AdamQkvIdeal.main_v0_3)),
      θ_run (Cert.AdamQkvIdeal.defs (F := Ideal)) (onTc (τ := Cert.AdamQkvIdeal.τ) (Cert.AdamQkvIdeal.main (F := Ideal))) ⟨m, fun _ => 0, g⟩ (fun r => ∀ c : Dev Cert.AdamQkvIdeal.nD,
          r.2.mem ((c.tc : Thread Cert.AdamQkvIdeal.nD Cert.AdamQkvIdeal.τ).loc Cert.AdamQkvIdeal.main_v0_0) = v0 c
          ∧ r.2.mem ((c.tc : Thread Cert.AdamQkvIdeal.nD Cert.AdamQkvIdeal.τ).loc Cert.AdamQkvIdeal.main_v0_1) = v1 c
          ∧ r.2.mem ((c.tc : Thread Cert.AdamQkvIdeal.nD Cert.AdamQkvIdeal.τ).loc Cert.AdamQkvIdeal.main_v0_2) = v2 c
          ∧ r.2.mem ((c.tc : Thread Cert.AdamQkvIdeal.nD Cert.AdamQkvIdeal.τ).loc Cert.AdamQkvIdeal.main_v0_3) = v3 c
          ∧ r.2.mem ((c.tc : Thread Cert.AdamQkvIdeal.nD Cert.AdamQkvIdeal.τ).loc Cert.AdamQkvIdeal.main_arg0) = m ((c.tc : Thread Cert.AdamQkvIdeal.nD Cert.AdamQkvIdeal.τ).loc Cert.AdamQkvIdeal.main_arg0)
          ∧ r.2.mem ((c.tc : Thread Cert.AdamQkvIdeal.nD Cert.AdamQkvIdeal.τ).loc Cert.AdamQkvIdeal.main_arg1) = m ((c.tc : Thread Cert.AdamQkvIdeal.nD Cert.AdamQkvIdeal.τ).loc Cert.AdamQkvIdeal.main_arg1)
          ∧ r.2.mem ((c.tc : Thread Cert.AdamQkvIdeal.nD Cert.AdamQkvIdeal.τ).loc Cert.AdamQkvIdeal.main_arg2) = m ((c.tc : Thread Cert.AdamQkvIdeal.nD Cert.AdamQkvIdeal.τ).loc Cert.AdamQkvIdeal.main_arg2)
          ∧ r.2.mem ((c.tc : Thread Cert.AdamQkvIdeal.nD Cert.AdamQkvIdeal.τ).loc Cert.AdamQkvIdeal.main_arg3) = m ((c.tc : Thread Cert.AdamQkvIdeal.nD Cert.AdamQkvIdeal.τ).loc Cert.AdamQkvIdeal.main_arg3))
      ∧ θ_run (Cert.AdamQkvRefIdeal.defs (F := Ideal)) (onTc (τ := Cert.AdamQkvRefIdeal.τ) (Cert.AdamQkvRefIdeal.main (F := Ideal))) ⟨m', fun _ => 0, g'⟩ (fun r => ∀ c : Dev Cert.AdamQkvRefIdeal.nD,
          r.2.mem ((c.tc : Thread Cert.AdamQkvRefIdeal.nD Cert.AdamQkvRefIdeal.τ).loc Cert.AdamQkvRefIdeal.main_v2) = v0 c
          ∧ r.2.mem ((c.tc : Thread Cert.AdamQkvRefIdeal.nD Cert.AdamQkvRefIdeal.τ).loc Cert.AdamQkvRefIdeal.main_v26) = v1 c
          ∧ r.2.mem ((c.tc : Thread Cert.AdamQkvRefIdeal.nD Cert.AdamQkvRefIdeal.τ).loc Cert.AdamQkvRefIdeal.main_v7) = v2 c
          ∧ r.2.mem ((c.tc : Thread Cert.AdamQkvRefIdeal.nD Cert.AdamQkvRefIdeal.τ).loc Cert.AdamQkvRefIdeal.main_v13) = v3 c
          ∧ r.2.mem ((c.tc : Thread Cert.AdamQkvRefIdeal.nD Cert.AdamQkvRefIdeal.τ).loc Cert.AdamQkvRefIdeal.main_arg0) = m' ((c.tc : Thread Cert.AdamQkvRefIdeal.nD Cert.AdamQkvRefIdeal.τ).loc Cert.AdamQkvRefIdeal.main_arg0)
          ∧ r.2.mem ((c.tc : Thread Cert.AdamQkvRefIdeal.nD Cert.AdamQkvRefIdeal.τ).loc Cert.AdamQkvRefIdeal.main_arg1) = m' ((c.tc : Thread Cert.AdamQkvRefIdeal.nD Cert.AdamQkvRefIdeal.τ).loc Cert.AdamQkvRefIdeal.main_arg1)
          ∧ r.2.mem ((c.tc : Thread Cert.AdamQkvRefIdeal.nD Cert.AdamQkvRefIdeal.τ).loc Cert.AdamQkvRefIdeal.main_arg2) = m' ((c.tc : Thread Cert.AdamQkvRefIdeal.nD Cert.AdamQkvRefIdeal.τ).loc Cert.AdamQkvRefIdeal.main_arg2)
          ∧ r.2.mem ((c.tc : Thread Cert.AdamQkvRefIdeal.nD Cert.AdamQkvRefIdeal.τ).loc Cert.AdamQkvRefIdeal.main_arg3) = m' ((c.tc : Thread Cert.AdamQkvRefIdeal.nD Cert.AdamQkvRefIdeal.τ).loc Cert.AdamQkvRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v4) = v0 c
          ∧ r.2.mem ((c.tc : Thread Cert.AdamInRefIdeal.nD Cert.AdamInRefIdeal.τ).loc Cert.AdamInRefIdeal.main_v28) = v1 c
          ∧ r.2.mem ((c.tc : Thread Cert.AdamInRefIdeal.nD Cert.AdamInRefIdeal.τ).loc Cert.AdamInRefIdeal.main_v9) = v2 c
          ∧ r.2.mem ((c.tc : Thread Cert.AdamInRefIdeal.nD Cert.AdamInRefIdeal.τ).loc Cert.AdamInRefIdeal.main_v15) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_ConvMid_ConvMidIdeal : Prop :=
  True

def algebraic_ConvMidIdeal_ConvMidRefIdeal_pre_finite [hConvMidIdeal : Cert.ConvMidIdeal.Facts] [hConvMidRefIdeal : Cert.ConvMidRefIdeal.Facts] [hPre_finite : Cert.Pre_finite.Facts] : Prop :=
  ∀ (m : (ℓ : Loc Cert.ConvMidIdeal.nD Cert.ConvMidIdeal.τ Cert.ConvMidIdeal.sig) → Buf (Elt Ideal) ℓ) (g : Dev Cert.ConvMidIdeal.nD → PrngReg)
    (m' : (ℓ : Loc Cert.ConvMidRefIdeal.nD Cert.ConvMidRefIdeal.τ Cert.ConvMidRefIdeal.sig) → Buf (Elt Ideal) ℓ) (g' : Dev Cert.ConvMidRefIdeal.nD → PrngReg), Pre_ConvMidIdeal_finite m →
    (∀ c : Dev Cert.ConvMidIdeal.nD,
      m' ((c.tc : Thread Cert.ConvMidRefIdeal.nD Cert.ConvMidRefIdeal.τ).loc Cert.ConvMidRefIdeal.main_arg0) = m ((c.tc : Thread Cert.ConvMidIdeal.nD Cert.ConvMidIdeal.τ).loc Cert.ConvMidIdeal.main_arg0)
      ∧ m' ((c.tc : Thread Cert.ConvMidRefIdeal.nD Cert.ConvMidRefIdeal.τ).loc Cert.ConvMidRefIdeal.main_arg1) = m ((c.tc : Thread Cert.ConvMidIdeal.nD Cert.ConvMidIdeal.τ).loc Cert.ConvMidIdeal.main_arg1)
      ∧ m' ((c.tc : Thread Cert.ConvMidRefIdeal.nD Cert.ConvMidRefIdeal.τ).loc Cert.ConvMidRefIdeal.main_arg2) = m ((c.tc : Thread Cert.ConvMidIdeal.nD Cert.ConvMidIdeal.τ).loc Cert.ConvMidIdeal.main_arg2)
      ∧ m' ((c.tc : Thread Cert.ConvMidRefIdeal.nD Cert.ConvMidRefIdeal.τ).loc Cert.ConvMidRefIdeal.main_arg3) = m ((c.tc : Thread Cert.ConvMidIdeal.nD Cert.ConvMidIdeal.τ).loc Cert.ConvMidIdeal.main_arg3)
      ∧ m' ((c.tc : Thread Cert.ConvMidRefIdeal.nD Cert.ConvMidRefIdeal.τ).loc Cert.ConvMidRefIdeal.main_arg4) = m ((c.tc : Thread Cert.ConvMidIdeal.nD Cert.ConvMidIdeal.τ).loc Cert.ConvMidIdeal.main_arg4)
      ∧ m' ((c.tc : Thread Cert.ConvMidRefIdeal.nD Cert.ConvMidRefIdeal.τ).loc Cert.ConvMidRefIdeal.main_arg5) = m ((c.tc : Thread Cert.ConvMidIdeal.nD Cert.ConvMidIdeal.τ).loc Cert.ConvMidIdeal.main_arg5)) →
    ∃ (v0 : (c : Dev Cert.ConvMidIdeal.nD) → Buf (Elt Ideal) ((c.tc : Thread Cert.ConvMidIdeal.nD Cert.ConvMidIdeal.τ).loc Cert.ConvMidIdeal.main_v2_0)) (v1 : (c : Dev Cert.ConvMidIdeal.nD) → Buf (Elt Ideal) ((c.tc : Thread Cert.ConvMidIdeal.nD Cert.ConvMidIdeal.τ).loc Cert.ConvMidIdeal.main_v2_1)) (v2 : (c : Dev Cert.ConvMidIdeal.nD) → Buf (Elt Ideal) ((c.tc : Thread Cert.ConvMidIdeal.nD Cert.ConvMidIdeal.τ).loc Cert.ConvMidIdeal.main_v2_2)) (v3 : (c : Dev Cert.ConvMidIdeal.nD) → Buf (Elt Ideal) ((c.tc : Thread Cert.ConvMidIdeal.nD Cert.ConvMidIdeal.τ).loc Cert.ConvMidIdeal.main_v2_3)) (v4 : (c : Dev Cert.ConvMidIdeal.nD) → Buf (Elt Ideal) ((c.tc : Thread Cert.ConvMidIdeal.nD Cert.ConvMidIdeal.τ).loc Cert.ConvMidIdeal.main_v2_4)),
      θ_run (Cert.ConvMidIdeal.defs (F := Ideal)) (onTc (τ := Cert.ConvMidIdeal.τ) (Cert.ConvMidIdeal.main (F := Ideal))) ⟨m, fun _ => 0, g⟩ (fun r => ∀ c : Dev Cert.ConvMidIdeal.nD,
          r.2.mem ((c.tc : Thread Cert.ConvMidIdeal.nD Cert.ConvMidIdeal.τ).loc Cert.ConvMidIdeal.main_v2_0) = v0 c
          ∧ r.2.mem ((c.tc : Thread Cert.ConvMidIdeal.nD Cert.ConvMidIdeal.τ).loc Cert.ConvMidIdeal.main_v2_1) = v1 c
          ∧ r.2.mem ((c.tc : Thread Cert.ConvMidIdeal.nD Cert.ConvMidIdeal.τ).loc Cert.ConvMidIdeal.main_v2_2) = v2 c
          ∧ r.2.mem ((c.tc : Thread Cert.ConvMidIdeal.nD Cert.ConvMidIdeal.τ).loc Cert.ConvMidIdeal.main_v2_3) = v3 c
          ∧ r.2.mem ((c.tc : Thread Cert.ConvMidIdeal.nD Cert.ConvMidIdeal.τ).loc Cert.ConvMidIdeal.main_v2_4) = v4 c
          ∧ r.2.mem ((c.tc : Thread Cert.ConvMidIdeal.nD Cert.ConvMidIdeal.τ).loc Cert.ConvMidIdeal.main_arg0) = m ((c.tc : Thread Cert.ConvMidIdeal.nD Cert.ConvMidIdeal.τ).loc Cert.ConvMidIdeal.main_arg0)
          ∧ r.2.mem ((c.tc : Thread Cert.ConvMidIdeal.nD Cert.ConvMidIdeal.τ).loc Cert.ConvMidIdeal.main_arg1) = m ((c.tc : Thread Cert.ConvMidIdeal.nD Cert.ConvMidIdeal.τ).loc Cert.ConvMidIdeal.main_arg1)
          ∧ r.2.mem ((c.tc : Thread Cert.ConvMidIdeal.nD Cert.ConvMidIdeal.τ).loc Cert.ConvMidIdeal.main_arg2) = m ((c.tc : Thread Cert.ConvMidIdeal.nD Cert.ConvMidIdeal.τ).loc Cert.ConvMidIdeal.main_arg2)
          ∧ r.2.mem ((c.tc : Thread Cert.ConvMidIdeal.nD Cert.ConvMidIdeal.τ).loc Cert.ConvMidIdeal.main_arg3) = m ((c.tc : Thread Cert.ConvMidIdeal.nD Cert.ConvMidIdeal.τ).loc Cert.ConvMidIdeal.main_arg3)
          ∧ r.2.mem ((c.tc : Thread Cert.ConvMidIdeal.nD Cert.ConvMidIdeal.τ).loc Cert.ConvMidIdeal.main_arg4) = m ((c.tc : Thread Cert.ConvMidIdeal.nD Cert.ConvMidIdeal.τ).loc Cert.ConvMidIdeal.main_arg4)
          ∧ r.2.mem ((c.tc : Thread Cert.ConvMidIdeal.nD Cert.ConvMidIdeal.τ).loc Cert.ConvMidIdeal.main_arg5) = m ((c.tc : Thread Cert.ConvMidIdeal.nD Cert.ConvMidIdeal.τ).loc Cert.ConvMidIdeal.main_arg5))
      ∧ θ_run (Cert.ConvMidRefIdeal.defs (F := Ideal)) (onTc (τ := Cert.ConvMidRefIdeal.τ) (Cert.ConvMidRefIdeal.main (F := Ideal))) ⟨m', fun _ => 0, g'⟩ (fun r => ∀ c : Dev Cert.ConvMidRefIdeal.nD,
          r.2.mem ((c.tc : Thread Cert.ConvMidRefIdeal.nD Cert.ConvMidRefIdeal.τ).loc Cert.ConvMidRefIdeal.main_v63) = v0 c
          ∧ r.2.mem ((c.tc : Thread Cert.ConvMidRefIdeal.nD Cert.ConvMidRefIdeal.τ).loc Cert.ConvMidRefIdeal.main_v29) = v1 c
          ∧ r.2.mem ((c.tc : Thread Cert.ConvMidRefIdeal.nD Cert.ConvMidRefIdeal.τ).loc Cert.ConvMidRefIdeal.main_v38) = v2 c
          ∧ r.2.mem ((c.tc : Thread Cert.ConvMidRefIdeal.nD Cert.ConvMidRefIdeal.τ).loc Cert.ConvMidRefIdeal.main_v35) = v3 c
          ∧ r.2.mem ((c.tc : Thread Cert.ConvMidRefIdeal.nD Cert.ConvMidRefIdeal.τ).loc Cert.ConvMidRefIdeal.main_v65) = v4 c
          ∧ r.2.mem ((c.tc : Thread Cert.ConvMidRefIdeal.nD Cert.ConvMidRefIdeal.τ).loc Cert.ConvMidRefIdeal.main_arg0) = m' ((c.tc : Thread Cert.ConvMidRefIdeal.nD Cert.ConvMidRefIdeal.τ).loc Cert.ConvMidRefIdeal.main_arg0)
          ∧ r.2.mem ((c.tc : Thread Cert.ConvMidRefIdeal.nD Cert.ConvMidRefIdeal.τ).loc Cert.ConvMidRefIdeal.main_arg1) = m' ((c.tc : Thread Cert.ConvMidRefIdeal.nD Cert.ConvMidRefIdeal.τ).loc Cert.ConvMidRefIdeal.main_arg1)
          ∧ r.2.mem ((c.tc : Thread Cert.ConvMidRefIdeal.nD Cert.ConvMidRefIdeal.τ).loc Cert.ConvMidRefIdeal.main_arg2) = m' ((c.tc : Thread Cert.ConvMidRefIdeal.nD Cert.ConvMidRefIdeal.τ).loc Cert.ConvMidRefIdeal.main_arg2)
          ∧ r.2.mem ((c.tc : Thread Cert.ConvMidRefIdeal.nD Cert.ConvMidRefIdeal.τ).loc Cert.ConvMidRefIdeal.main_arg3) = m' ((c.tc : Thread Cert.ConvMidRefIdeal.nD Cert.ConvMidRefIdeal.τ).loc Cert.ConvMidRefIdeal.main_arg3)
          ∧ r.2.mem ((c.tc : Thread Cert.ConvMidRefIdeal.nD Cert.ConvMidRefIdeal.τ).loc Cert.ConvMidRefIdeal.main_arg4) = m' ((c.tc : Thread Cert.ConvMidRefIdeal.nD Cert.ConvMidRefIdeal.τ).loc Cert.ConvMidRefIdeal.main_arg4)
          ∧ r.2.mem ((c.tc : Thread Cert.ConvMidRefIdeal.nD Cert.ConvMidRefIdeal.τ).loc Cert.ConvMidRefIdeal.main_arg5) = m' ((c.tc : Thread Cert.ConvMidRefIdeal.nD Cert.ConvMidRefIdeal.τ).loc Cert.ConvMidRefIdeal.main_arg5))

def Claim : Prop :=
  ∃ (hConvIn : Cert.ConvIn.Facts) (hConvInIdeal : Cert.ConvInIdeal.Facts) (hConvInRefIdeal : Cert.ConvInRefIdeal.Facts) (hMlp : Cert.Mlp.Facts) (hMlpIdeal : Cert.MlpIdeal.Facts) (hMlpRefIdeal : Cert.MlpRefIdeal.Facts) (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hLoss : Cert.Loss.Facts) (hLossIdeal : Cert.LossIdeal.Facts) (hLossRefIdeal : Cert.LossRefIdeal.Facts) (hConvOut : Cert.ConvOut.Facts) (hConvOutIdeal : Cert.ConvOutIdeal.Facts) (hConvOutRefIdeal : Cert.ConvOutRefIdeal.Facts) (hAttnOut : Cert.AttnOut.Facts) (hAttnOutIdeal : Cert.AttnOutIdeal.Facts) (hAttnOutRefIdeal : Cert.AttnOutRefIdeal.Facts) (hQkvWeight : Cert.QkvWeight.Facts) (hQkvWeightIdeal : Cert.QkvWeightIdeal.Facts) (hQkvWeightRefIdeal : Cert.QkvWeightRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamOut : Cert.AdamOut.Facts) (hAdamOutIdeal : Cert.AdamOutIdeal.Facts) (hAdamOutRefIdeal : Cert.AdamOutRefIdeal.Facts) (hAdamQkv : Cert.AdamQkv.Facts) (hAdamQkvIdeal : Cert.AdamQkvIdeal.Facts) (hAdamQkvRefIdeal : Cert.AdamQkvRefIdeal.Facts) (hAdamIn : Cert.AdamIn.Facts) (hAdamInIdeal : Cert.AdamInIdeal.Facts) (hAdamInRefIdeal : Cert.AdamInRefIdeal.Facts) (hConvMid : Cert.ConvMid.Facts) (hConvMidIdeal : Cert.ConvMidIdeal.Facts) (hConvMidRefIdeal : Cert.ConvMidRefIdeal.Facts) (hPre_finite : Cert.Pre_finite.Facts),
    quiescent_ConvIn (hConvIn := hConvIn)
    ∧ quiescent_ConvInIdeal (hConvInIdeal := hConvInIdeal)
    ∧ quiescent_ConvInRefIdeal (hConvInRefIdeal := hConvInRefIdeal)
    ∧ quiescent_Mlp (hMlp := hMlp)
    ∧ quiescent_MlpIdeal (hMlpIdeal := hMlpIdeal)
    ∧ quiescent_MlpRefIdeal (hMlpRefIdeal := hMlpRefIdeal)
    ∧ quiescent_Down (hDown := hDown)
    ∧ quiescent_DownIdeal (hDownIdeal := hDownIdeal)
    ∧ quiescent_DownRefIdeal (hDownRefIdeal := hDownRefIdeal)
    ∧ quiescent_Up (hUp := hUp)
    ∧ quiescent_UpIdeal (hUpIdeal := hUpIdeal)
    ∧ quiescent_UpRefIdeal (hUpRefIdeal := hUpRefIdeal)
    ∧ quiescent_Loss (hLoss := hLoss)
    ∧ quiescent_LossIdeal (hLossIdeal := hLossIdeal)
    ∧ quiescent_LossRefIdeal (hLossRefIdeal := hLossRefIdeal)
    ∧ quiescent_ConvOut (hConvOut := hConvOut)
    ∧ quiescent_ConvOutIdeal (hConvOutIdeal := hConvOutIdeal)
    ∧ quiescent_ConvOutRefIdeal (hConvOutRefIdeal := hConvOutRefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ quiescent_QkvWeight (hQkvWeight := hQkvWeight)
    ∧ quiescent_QkvWeightIdeal (hQkvWeightIdeal := hQkvWeightIdeal)
    ∧ quiescent_QkvWeightRefIdeal (hQkvWeightRefIdeal := hQkvWeightRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamQkv (hAdamQkv := hAdamQkv)
    ∧ quiescent_AdamQkvIdeal (hAdamQkvIdeal := hAdamQkvIdeal)
    ∧ quiescent_AdamQkvRefIdeal (hAdamQkvRefIdeal := hAdamQkvRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_ConvMid (hConvMid := hConvMid)
    ∧ quiescent_ConvMidIdeal (hConvMidIdeal := hConvMidIdeal)
    ∧ quiescent_ConvMidIdeal_pre_finite (hConvMidIdeal := hConvMidIdeal) (hPre_finite := hPre_finite)
    ∧ quiescent_ConvMidRefIdeal (hConvMidRefIdeal := hConvMidRefIdeal)
    ∧ quiescent_ConvMidRefIdeal_pre_finite (hConvMidRefIdeal := hConvMidRefIdeal) (hPre_finite := hPre_finite)
    ∧ preserves_ConvIn_ConvInIdeal
    ∧ algebraic_ConvInIdeal_ConvInRefIdeal (hConvInIdeal := hConvInIdeal) (hConvInRefIdeal := hConvInRefIdeal)
    ∧ preserves_Mlp_MlpIdeal
    ∧ algebraic_MlpIdeal_MlpRefIdeal (hMlpIdeal := hMlpIdeal) (hMlpRefIdeal := hMlpRefIdeal)
    ∧ preserves_Down_DownIdeal
    ∧ algebraic_DownIdeal_DownRefIdeal (hDownIdeal := hDownIdeal) (hDownRefIdeal := hDownRefIdeal)
    ∧ preserves_Up_UpIdeal
    ∧ algebraic_UpIdeal_UpRefIdeal (hUpIdeal := hUpIdeal) (hUpRefIdeal := hUpRefIdeal)
    ∧ preserves_Loss_LossIdeal
    ∧ algebraic_LossIdeal_LossRefIdeal (hLossIdeal := hLossIdeal) (hLossRefIdeal := hLossRefIdeal)
    ∧ preserves_ConvOut_ConvOutIdeal
    ∧ algebraic_ConvOutIdeal_ConvOutRefIdeal (hConvOutIdeal := hConvOutIdeal) (hConvOutRefIdeal := hConvOutRefIdeal)
    ∧ preserves_AttnOut_AttnOutIdeal
    ∧ algebraic_AttnOutIdeal_AttnOutRefIdeal (hAttnOutIdeal := hAttnOutIdeal) (hAttnOutRefIdeal := hAttnOutRefIdeal)
    ∧ preserves_QkvWeight_QkvWeightIdeal
    ∧ algebraic_QkvWeightIdeal_QkvWeightRefIdeal (hQkvWeightIdeal := hQkvWeightIdeal) (hQkvWeightRefIdeal := hQkvWeightRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamQkv_AdamQkvIdeal
    ∧ algebraic_AdamQkvIdeal_AdamQkvRefIdeal (hAdamQkvIdeal := hAdamQkvIdeal) (hAdamQkvRefIdeal := hAdamQkvRefIdeal)
    ∧ preserves_AdamIn_AdamInIdeal
    ∧ algebraic_AdamInIdeal_AdamInRefIdeal (hAdamInIdeal := hAdamInIdeal) (hAdamInRefIdeal := hAdamInRefIdeal)
    ∧ preserves_ConvMid_ConvMidIdeal
    ∧ algebraic_ConvMidIdeal_ConvMidRefIdeal_pre_finite (hConvMidIdeal := hConvMidIdeal) (hConvMidRefIdeal := hConvMidRefIdeal) (hPre_finite := hPre_finite)
-- ==== Pre_finite.lean ====
abbrev S8192x1024 : Shape := ⟨2, ![8192, 1024]⟩
abbrev S1x1024 : Shape := ⟨2, ![1, 1024]⟩
abbrev S1024x1024 : Shape := ⟨2, ![1024, 1024]⟩
abbrev S17410x1024 : Shape := ⟨2, ![17410, 1024]⟩
abbrev S_ : Shape := ⟨0, ![]⟩

class Facts : Prop where
  concatenates_S8192x1024_S8192x1024_S1x1024_S1x1024_S1024x1024_S17410x1024_d0 : Shape.Concatenates [S8192x1024, S8192x1024, S1x1024, S1x1024, S1024x1024] S17410x1024 0
  bcast_S_S17410x1024 : S_.BroadcastsInDim S17410x1024 (![] : Fin 0 → Fin S17410x1024.rank)

variable [Facts]

def fn {F : FTy → Type} [FloatOps F] (main_arg0 : FVec F S8192x1024 .f32) (main_arg1 : FVec F S1x1024 .f32) (main_arg2 : FVec F S1x1024 .f32) (main_arg3 : FVec F S1024x1024 .f32) (main_arg4 : FVec F S1x1024 .f32) (main_arg5 : FVec F S8192x1024 .f32) : IVec S17410x1024 1 :=
  let main_v0 : FVec F S17410x1024 .f32 := concatenate S17410x1024 0 [⟨S8192x1024, main_arg0⟩, ⟨S8192x1024, main_arg5⟩, ⟨S1x1024, main_arg1⟩, ⟨S1x1024, main_arg2⟩, ⟨S1024x1024, main_arg3⟩] concatenates_S8192x1024_S8192x1024_S1x1024_S1x1024_S1024x1024_S17410x1024_d0
  let main_v1 : FVec F S17410x1024 .f32 := Host.absf main_v0
  let main_cst : FVec F S_ .f32 := constant S_ .f32 0x7F800000#32
  let main_v2 : FVec F S17410x1024 .f32 := broadcastInDim S17410x1024 ![] bcast_S_S17410x1024 main_cst
  let main_v3 : IVec S17410x1024 1 := cmpf .olt main_v1 main_v2
  main_v3
-- ==== ConvIn.lean ====
abbrev S8192x1024 : Shape := ⟨2, ![8192, 1024]⟩
abbrev S1x1024 : Shape := ⟨2, ![1, 1024]⟩
abbrev S1024x2048 : Shape := ⟨2, ![1024, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S4x256x8x256 : Shape := ⟨4, ![4, 256, 8, 256]⟩
abbrev S8x256x4x256 : Shape := ⟨4, ![8, 256, 4, 256]⟩
abbrev S8x256x1024 : Shape := ⟨3, ![8, 256, 1024]⟩
abbrev S512x1024 : Shape := ⟨2, ![512, 1024]⟩
abbrev S512x2048 : Shape := ⟨2, ![512, 2048]⟩
abbrev S1024 : Shape := ⟨1, ![1024]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩

abbrev nBuf : Space → Nat
  | .hbm => 34
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2048, .f32⟩
  | .hbm, ⟨3, _⟩ => ⟨S1x2048, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .bf16⟩
  | .hbm, ⟨25, _⟩ => ⟨S4x256x8x256, .f32⟩
  | .hbm, ⟨26, _⟩ => ⟨S8x256x4x256, .f32⟩
  | .hbm, ⟨27, _⟩ => ⟨S8x256x1024, .f32⟩
  | .hbm, ⟨28, _⟩ => ⟨S8x256x1024, .bf16⟩
  | .hbm, ⟨29, _⟩ => ⟨S8192x1024, .bf16⟩
  | .hbm, ⟨30, _⟩ => ⟨S8192x2048, .bf16⟩
  | .hbm, ⟨31, _⟩ => ⟨S8192x1024, .f32⟩
  | .hbm, ⟨32, _⟩ => ⟨S1x2048, .f32⟩
  | .hbm, ⟨33, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S8x256x1024, .bf16⟩
  | .local _ .vmem, ⟨10, _⟩ => ⟨S512x2048, .bf16⟩
  | .local _ .vmem, ⟨11, _⟩ => ⟨S512x2048, .bf16⟩
  | .local _ .vmem, ⟨12, _⟩ => ⟨S512x1024, .f32⟩
  | .local _ .vmem, ⟨13, _⟩ => ⟨S512x1024, .f32⟩
  | .local _ .vmem, ⟨14, _⟩ => ⟨S1x2048, .f32⟩
  | .local _ .vmem, ⟨15, _⟩ => ⟨S1x1024, .f32⟩
  | .local _ .vmem, ⟨16, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ConvInRefIdeal.lean ====
abbrev S8192x1024 : Shape := ⟨2, ![8192, 1024]⟩
abbrev S1x1024 : Shape := ⟨2, ![1, 1024]⟩
abbrev S1024x2048 : Shape := ⟨2, ![1024, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S2048 : Shape := ⟨1, ![2048]⟩
abbrev S2048x1024 : Shape := ⟨2, ![2048, 1024]⟩
abbrev S1024 : Shape := ⟨1, ![1024]⟩

abbrev nBuf : Space → Nat
  | .hbm => 78
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2048, .f32⟩
  | .hbm, ⟨3, _⟩ => ⟨S1x2048, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S2048x1024, .f32⟩
  | .hbm, ⟨51, _⟩ => ⟨S1024x2048, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x2048, .bf16⟩
  | .hbm, ⟨77, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== Mlp.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S2x512x8x512 : Shape := ⟨4, ![2, 512, 8, 512]⟩
abbrev S8x512x2x512 : Shape := ⟨4, ![8, 512, 2, 512]⟩
abbrev S8x512x1024 : Shape := ⟨3, ![8, 512, 1024]⟩
abbrev S512x1024 : Shape := ⟨2, ![512, 1024]⟩
abbrev S512x4096 : Shape := ⟨2, ![512, 4096]⟩
abbrev S1x512x1024 : Shape := ⟨3, ![1, 512, 1024]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩
abbrev S1024 : Shape := ⟨1, ![1024]⟩

abbrev nBuf : Space → Nat
  | .hbm => 36
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x4096, .bf16⟩
  | .hbm, ⟨26, _⟩ => ⟨S2x512x8x512, .f32⟩
  | .hbm, ⟨27, _⟩ => ⟨S8x512x2x512, .f32⟩
  | .hbm, ⟨28, _⟩ => ⟨S8x512x1024, .f32⟩
  | .hbm, ⟨29, _⟩ => ⟨S8x512x1024, .bf16⟩
  | .hbm, ⟨30, _⟩ => ⟨S8x512x1024, .f32⟩
  | .hbm, ⟨31, _⟩ => ⟨S8x512x1024, .bf16⟩
  | .hbm, ⟨32, _⟩ => ⟨S8192x4096, .bf16⟩
  | .hbm, ⟨33, _⟩ => ⟨S8192x1024, .f32⟩
  | .hbm, ⟨34, _⟩ => ⟨S8192x1024, .bf16⟩
  | .hbm, ⟨35, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x4096, .bf16⟩
  | .local _ .vmem, ⟨6, _⟩ => ⟨S512x4096, .bf16⟩
  | .local _ .vmem, ⟨7, _⟩ => ⟨S8x512x1024, .bf16⟩
  | .local _ .vmem, ⟨8, _⟩ => ⟨S8x512x1024, .bf16⟩
  | .local _ .vmem, ⟨9, _⟩ => ⟨S512x4096, .bf16⟩
  | .local _ .vmem, ⟨10, _⟩ => ⟨S512x4096, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v22_2 : Ref sig .tc := ⟨.hbm, 34, rfl⟩
abbrev main_v22_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MlpRefIdeal.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1024 : Shape := ⟨1, ![1024]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .f32⟩
  | .hbm, ⟨28, _⟩ => ⟨S_, .f32⟩
  | .hbm, ⟨29, _⟩ => ⟨S8192x4096, .f32⟩
  | .hbm, ⟨30, _⟩ => ⟨S8192x4096, .i1⟩
  | .hbm, ⟨31, _⟩ => ⟨S_, .f32⟩
  | .hbm, ⟨32, _⟩ => ⟨S8192x4096, .f32⟩
  | .hbm, ⟨33, _⟩ => ⟨S8192x4096, .f32⟩
  | .hbm, ⟨34, _⟩ => ⟨S_, .f32⟩
  | .hbm, ⟨35, _⟩ => ⟨S8192x4096, .f32⟩
  | .hbm, ⟨36, _⟩ => ⟨S8192x4096, .f32⟩
  | .hbm, ⟨37, _⟩ => ⟨S8192x1024, .f32⟩
  | .hbm, ⟨38, _⟩ => ⟨S1024x4096, .f32⟩
  | .hbm, ⟨39, _⟩ => ⟨S4096x1024, .f32⟩
  | .hbm, ⟨40, _⟩ => ⟨S8192x4096, .f32⟩
  | .hbm, ⟨41, _⟩ => ⟨S8192x4096, .f32⟩
  | .hbm, ⟨42, _⟩ => ⟨S_, .f32⟩
  | .hbm, ⟨43, _⟩ => ⟨S8192x4096, .f32⟩
  | .hbm, ⟨44, _⟩ => ⟨S8192x4096, .f32⟩
  | .hbm, ⟨45, _⟩ => ⟨S4096x1024, .f32⟩
  | .hbm, ⟨46, _⟩ => ⟨S1024x4096, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x4096, .bf16⟩
  | .hbm, ⟨72, _⟩ => ⟨S8192x1024, .f32⟩
  | .hbm, ⟨73, _⟩ => ⟨S8192x1024, .f32⟩
  | .hbm, ⟨74, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== Down.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S4096x512 : Shape := ⟨2, ![4096, 512]⟩
abbrev S512x1024 : Shape := ⟨2, ![512, 1024]⟩

abbrev nBuf : Space → Nat
  | .hbm => 28
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x4096, .bf16⟩
  | .hbm, ⟨26, _⟩ => ⟨S8192x1024, .bf16⟩
  | .hbm, ⟨27, _⟩ => ⟨S4096x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x1024, .f32⟩
  | .hbm, ⟨26, _⟩ => ⟨S1024x4096, .f32⟩
  | .hbm, ⟨27, _⟩ => ⟨S4096x1024, .f32⟩
  | .hbm, ⟨28, _⟩ => ⟨S8192x4096, .f32⟩
  | .hbm, ⟨29, _⟩ => ⟨S4096x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Up.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S8x512x1024 : Shape := ⟨3, ![8, 512, 1024]⟩
abbrev S4096x512 : Shape := ⟨2, ![4096, 512]⟩
abbrev S2x512x512 : Shape := ⟨3, ![2, 512, 512]⟩
abbrev S512x1024 : Shape := ⟨2, ![512, 1024]⟩
abbrev S512x512 : Shape := ⟨2, ![512, 512]⟩
abbrev S1x512x512 : Shape := ⟨3, ![1, 512, 512]⟩

abbrev nBuf : Space → Nat
  | .hbm => 59
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .i1⟩
  | .hbm, ⟨27, _⟩ => ⟨S_, .f32⟩
  | .hbm, ⟨28, _⟩ => ⟨S8192x4096, .f32⟩
  | .hbm, ⟨29, _⟩ => ⟨S8192x4096, .f32⟩
  | .hbm, ⟨30, _⟩ => ⟨S_, .f32⟩
  | .hbm, ⟨31, _⟩ => ⟨S8192x4096, .f32⟩
  | .hbm, ⟨32, _⟩ => ⟨S8192x4096, .f32⟩
  | .hbm, ⟨33, _⟩ => ⟨S8192x1024, .f32⟩
  | .hbm, ⟨34, _⟩ => ⟨S1024x4096, .f32⟩
  | .hbm, ⟨35, _⟩ => ⟨S4096x1024, .f32⟩
  | .hbm, ⟨36, _⟩ => ⟨S8192x4096, .f32⟩
  | .hbm, ⟨37, _⟩ => ⟨S8192x4096, .f32⟩
  | .hbm, ⟨38, _⟩ => ⟨S_, .f32⟩
  | .hbm, ⟨39, _⟩ => ⟨S8192x4096, .f32⟩
  | .hbm, ⟨40, _⟩ => ⟨S8192x4096, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .bf16⟩
  | .hbm, ⟨57, _⟩ => ⟨S8192x4096, .bf16⟩
  | .hbm, ⟨58, _⟩ => ⟨S8x512x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S2x512x512, .bf16⟩
  | .local _ .vmem, ⟨5, _⟩ => ⟨S2x512x512, .bf16⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1024 : Shape := ⟨1, ![1024]⟩
abbrev S2x512x8x512 : Shape := ⟨4, ![2, 512, 8, 512]⟩
abbrev S8x512x2x512 : Shape := ⟨4, ![8, 512, 2, 512]⟩
abbrev S8x512x1024 : Shape := ⟨3, ![8, 512, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .f32⟩
  | .hbm, ⟨28, _⟩ => ⟨S_, .f32⟩
  | .hbm, ⟨29, _⟩ => ⟨S8192x4096, .f32⟩
  | .hbm, ⟨30, _⟩ => ⟨S8192x4096, .i1⟩
  | .hbm, ⟨31, _⟩ => ⟨S_, .f32⟩
  | .hbm, ⟨32, _⟩ => ⟨S8192x4096, .f32⟩
  | .hbm, ⟨33, _⟩ => ⟨S8192x4096, .f32⟩
  | .hbm, ⟨34, _⟩ => ⟨S_, .f32⟩
  | .hbm, ⟨35, _⟩ => ⟨S8192x4096, .f32⟩
  | .hbm, ⟨36, _⟩ => ⟨S8192x4096, .f32⟩
  | .hbm, ⟨37, _⟩ => ⟨S8192x1024, .f32⟩
  | .hbm, ⟨38, _⟩ => ⟨S1024x4096, .f32⟩
  | .hbm, ⟨39, _⟩ => ⟨S4096x1024, .f32⟩
  | .hbm, ⟨40, _⟩ => ⟨S8192x4096, .f32⟩
  | .hbm, ⟨41, _⟩ => ⟨S8192x4096, .f32⟩
  | .hbm, ⟨42, _⟩ => ⟨S_, .f32⟩
  | .hbm, ⟨43, _⟩ => ⟨S8192x4096, .f32⟩
  | .hbm, ⟨44, _⟩ => ⟨S8192x4096, .f32⟩
  | .hbm, ⟨45, _⟩ => ⟨S4096x1024, .f32⟩
  | .hbm, ⟨46, _⟩ => ⟨S1024x4096, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S2x512x8x512, .f32⟩
  | .hbm, ⟨72, _⟩ => ⟨S8x512x2x512, .f32⟩
  | .hbm, ⟨73, _⟩ => ⟨S8x512x1024, .f32⟩
  | .hbm, ⟨74, _⟩ => ⟨S8x512x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== Loss.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S2x512x8x512 : Shape := ⟨4, ![2, 512, 8, 512]⟩
abbrev S8x512x2x512 : Shape := ⟨4, ![8, 512, 2, 512]⟩
abbrev S8x512x1024 : Shape := ⟨3, ![8, 512, 1024]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S512x512 : Shape := ⟨2, ![512, 512]⟩
abbrev S1x512x512 : Shape := ⟨3, ![1, 512, 512]⟩
abbrev S1x512x1024 : Shape := ⟨3, ![1, 512, 1024]⟩
abbrev S1024 : Shape := ⟨1, ![1024]⟩

abbrev nBuf : Space → Nat
  | .hbm => 16
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S2x512x8x512, .f32⟩
  | .hbm, ⟨6, _⟩ => ⟨S8x512x2x512, .f32⟩
  | .hbm, ⟨7, _⟩ => ⟨S8x512x1024, .f32⟩
  | .hbm, ⟨8, _⟩ => ⟨S8x512x1024, .bf16⟩
  | .hbm, ⟨9, _⟩ => ⟨S8x512x1024, .f32⟩
  | .hbm, ⟨10, _⟩ => ⟨S8x512x1024, .bf16⟩
  | .hbm, ⟨11, _⟩ => ⟨S8192x1024, .bf16⟩
  | .hbm, ⟨12, _⟩ => ⟨S8192x4096, .bf16⟩
  | .hbm, ⟨13, _⟩ => ⟨S8192x1024, .f32⟩
  | .hbm, ⟨14, _⟩ => ⟨S8192x1024, .bf16⟩
  | .hbm, ⟨15, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x512x1024, .bf16⟩
  | .local _ .vmem, ⟨4, _⟩ => ⟨S8x512x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x4096, .bf16⟩
  | .local _ .vmem, ⟨10, _⟩ => ⟨S512x4096, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossRefIdeal.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .bf16⟩
  | .hbm, ⟨51, _⟩ => ⟨S8192x4096, .bf16⟩
  | .hbm, ⟨52, _⟩ => ⟨S8192x1024, .bf16⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_cst_7 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_cst_9 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_10 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]
-- ==== ConvOut.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 43
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x1024, .f32⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .bf16⟩
  | .hbm, ⟨41, _⟩ => ⟨S8192x1024, .bf16⟩
  | .hbm, ⟨42, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvOutRefIdeal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x1024, .f32⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S1024x1024, .f32⟩
  | .hbm, ⟨48, _⟩ => ⟨S1024x1024, .f32⟩
  | .hbm, ⟨49, _⟩ => ⟨S8192x1024, .f32⟩
  | .hbm, ⟨50, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]
-- ==== AttnOut.lean ====
abbrev S8192x1024 : Shape := ⟨2, ![8192, 1024]⟩
abbrev S1024x1024 : Shape := ⟨2, ![1024, 1024]⟩
abbrev S1x1024 : Shape := ⟨2, ![1, 1024]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1x1024, .f32⟩
  | .hbm, ⟨3, _⟩ => ⟨S8192x1024, .f32⟩
  | .hbm, ⟨4, _⟩ => ⟨S8192x1024, .bf16⟩
  | .hbm, ⟨5, _⟩ => ⟨S8192x1024, .bf16⟩
  | .hbm, ⟨6, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnOutRefIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S1024x1024, .f32⟩
  | .hbm, ⟨12, _⟩ => ⟨S1024x1024, .f32⟩
  | .hbm, ⟨13, _⟩ => ⟨S8192x1024, .f32⟩
  | .hbm, ⟨14, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== QkvWeight.lean ====
abbrev S8192x1024 : Shape := ⟨2, ![8192, 1024]⟩
abbrev S1x1024 : Shape := ⟨2, ![1, 1024]⟩
abbrev S1024x1280 : Shape := ⟨2, ![1024, 1280]⟩
abbrev S1x1280 : Shape := ⟨2, ![1, 1280]⟩
abbrev S8192x1280 : Shape := ⟨2, ![8192, 1280]⟩
abbrev S_ : Shape := ⟨0, ![]⟩
abbrev S8192 : Shape := ⟨1, ![8192]⟩
abbrev S8192x1 : Shape := ⟨2, ![8192, 1]⟩
abbrev S4096x1024 : Shape := ⟨2, ![4096, 1024]⟩
abbrev S4096x640 : Shape := ⟨2, ![4096, 640]⟩
abbrev S1024x640 : Shape := ⟨2, ![1024, 640]⟩

abbrev nBuf : Space → Nat
  | .hbm => 23
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1280, .f32⟩
  | .hbm, ⟨3, _⟩ => ⟨S1x1280, .f32⟩
  | .hbm, ⟨4, _⟩ => ⟨S8192x1280, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x1280, .bf16⟩
  | .hbm, ⟨22, _⟩ => ⟨S1024x1280, .bf16⟩
  | .local _ .vmem, ⟨0, _⟩ => ⟨S4096x1024, .bf16⟩
  | .local _ .vmem, ⟨1, _⟩ => ⟨S4096x1024, .bf16⟩
  | .local _ .vmem, ⟨2, _⟩ => ⟨S4096x640, .bf16⟩
  | .local _ .vmem, ⟨3, _⟩ => ⟨S4096x640, .bf16⟩
  | .local _ .vmem, ⟨4, _⟩ => ⟨S1024x640, .bf16⟩
  | .local _ .vmem, ⟨5, _⟩ => ⟨S1024x640, .bf16⟩
  | .local _ .vmem, ⟨6, _⟩ => ⟨S1024x640, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvWeightRefIdeal.lean ====
abbrev S8192x1024 : Shape := ⟨2, ![8192, 1024]⟩
abbrev S1x1024 : Shape := ⟨2, ![1, 1024]⟩
abbrev S1024x1280 : Shape := ⟨2, ![1024, 1280]⟩
abbrev S1x1280 : Shape := ⟨2, ![1, 1280]⟩
abbrev S8192x1280 : Shape := ⟨2, ![8192, 1280]⟩
abbrev S_ : Shape := ⟨0, ![]⟩
abbrev S8192 : Shape := ⟨1, ![8192]⟩
abbrev S8192x1 : Shape := ⟨2, ![8192, 1]⟩
abbrev S1280 : Shape := ⟨1, ![1280]⟩
abbrev S1280x1024 : Shape := ⟨2, ![1280, 1024]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1280, .f32⟩
  | .hbm, ⟨3, _⟩ => ⟨S1x1280, .f32⟩
  | .hbm, ⟨4, _⟩ => ⟨S8192x1280, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1280, .f32⟩
  | .hbm, ⟨25, _⟩ => ⟨S8192x1280, .f32⟩
  | .hbm, ⟨26, _⟩ => ⟨S8192x1280, .f32⟩
  | .hbm, ⟨27, _⟩ => ⟨S8192x1280, .f32⟩
  | .hbm, ⟨28, _⟩ => ⟨S_, .f32⟩
  | .hbm, ⟨29, _⟩ => ⟨S1280, .f32⟩
  | .hbm, ⟨30, _⟩ => ⟨S1x1280, .f32⟩
  | .hbm, ⟨31, _⟩ => ⟨S1280x1024, .f32⟩
  | .hbm, ⟨32, _⟩ => ⟨S1024x1280, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S1024x1280, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== AdamUp.lean ====
abbrev S8x512x1024 : Shape := ⟨3, ![8, 512, 1024]⟩
abbrev S2x1024x512 : Shape := ⟨3, ![2, 1024, 512]⟩
abbrev S8x256x512 : Shape := ⟨3, ![8, 256, 512]⟩
abbrev S1x256x512 : Shape := ⟨3, ![1, 256, 512]⟩
abbrev S256x512 : Shape := ⟨2, ![256, 512]⟩

abbrev nBuf : Space → Nat
  | .hbm => 9
  | .vmem => 18
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .local _ .vmem, ⟨0, _⟩ => ⟨S8x256x512, .bf16⟩
  | .local _ .vmem, ⟨1, _⟩ => ⟨S8x256x512, .bf16⟩
  | .local _ .vmem, ⟨2, _⟩ => ⟨S8x256x512, .bf16⟩
  | .local _ .vmem, ⟨3, _⟩ => ⟨S8x256x512, .bf16⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 2], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg2 c0_i32_0
  let c0_i32_1 : BitVec 32 := 0#32
  let v2 : BitVec 1 := Scalar.cmpi .eq arg0 c0_i32_1
  let c0_i32_2 : BitVec 32 := 0#32
  let v3 : BitVec 32 := Scalar.select v2 arg1 c0_i32_2
  let c0_i32_3 : BitVec 32 := 0#32
  let c0_i32_4 : BitVec 32 := 0#32
  ![c0_i32_3.toNat, v1.toNat, v3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0_i32 : BitVec 32 := 0#32
  let v1 : BitVec 32 := Scalar.select v0 arg2 c0_i32
  let c1_i32_0 : BitVec 32 := 1#32
  let v2 : BitVec 1 := Scalar.cmpi .eq arg0 c1_i32_0
  let c0_i32_1 : BitVec 32 := 0#32
  let v3 : BitVec 32 := Scalar.select v2 arg1 c0_i32_1
  let c0_i32_2 : BitVec 32 := 0#32
  let c0_i32_3 : BitVec 32 := 0#32
  ![c0_i32_2.toNat, v1.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AdamUpRefIdeal.lean ====
abbrev S8x512x1024 : Shape := ⟨3, ![8, 512, 1024]⟩
abbrev S2x1024x512 : Shape := ⟨3, ![2, 1024, 512]⟩
abbrev S_ : Shape := ⟨0, ![]⟩
abbrev S512x1024 : Shape := ⟨2, ![512, 1024]⟩
abbrev S512x2x512 : Shape := ⟨3, ![512, 2, 512]⟩
abbrev S2x512x512 : Shape := ⟨3, ![2, 512, 512]⟩
abbrev S1024x512 : Shape := ⟨2, ![1024, 512]⟩
abbrev S1x1024x512 : Shape := ⟨3, ![1, 1024, 512]⟩

abbrev nBuf : Space → Nat
  | .hbm => 53
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S8x512x1024, .f32⟩
  | .hbm, ⟨6, _⟩ => ⟨S_, .f32⟩
  | .hbm, ⟨7, _⟩ => ⟨S512x1024, .f32⟩
  | .hbm, ⟨8, _⟩ => ⟨S512x2x512, .f32⟩
  | .hbm, ⟨9, _⟩ => ⟨S2x512x512, .f32⟩
  | .hbm, ⟨10, _⟩ => ⟨S1024x512, .f32⟩
  | .hbm, ⟨11, _⟩ => ⟨S8x512x1024, .f32⟩
  | .hbm, ⟨12, _⟩ => ⟨S_, .f32⟩
  | .hbm, ⟨13, _⟩ => ⟨S512x1024, .f32⟩
  | .hbm, ⟨14, _⟩ => ⟨S512x2x512, .f32⟩
  | .hbm, ⟨15, _⟩ => ⟨S2x512x512, .f32⟩
  | .hbm, ⟨16, _⟩ => ⟨S1024x512, .f32⟩
  | .hbm, ⟨17, _⟩ => ⟨S1x1024x512, .f32⟩
  | .hbm, ⟨18, _⟩ => ⟨S1x1024x512, .f32⟩
  | .hbm, ⟨19, _⟩ => ⟨S2x1024x512, .f32⟩
  | .hbm, ⟨20, _⟩ => ⟨S_, .f32⟩
  | .hbm, ⟨21, _⟩ => ⟨S2x1024x512, .f32⟩
  | .hbm, ⟨22, _⟩ => ⟨S2x1024x512, .f32⟩
  | .hbm, ⟨23, _⟩ => ⟨S_, .f32⟩
  | .hbm, ⟨24, _⟩ => ⟨S2x1024x512, .f32⟩
  | .hbm, ⟨25, _⟩ => ⟨S2x1024x512, .f32⟩
  | .hbm, ⟨26, _⟩ => ⟨S2x1024x512, .f32⟩
  | .hbm, ⟨27, _⟩ => ⟨S_, .f32⟩
  | .hbm, ⟨28, _⟩ => ⟨S2x1024x512, .f32⟩
  | .hbm, ⟨29, _⟩ => ⟨S2x1024x512, .f32⟩
  | .hbm, ⟨30, _⟩ => ⟨S2x1024x512, .f32⟩
  | .hbm, ⟨31, _⟩ => ⟨S_, .f32⟩
  | .hbm, ⟨32, _⟩ => ⟨S2x1024x512, .f32⟩
  | .hbm, ⟨33, _⟩ => ⟨S2x1024x512, .f32⟩
  | .hbm, ⟨34, _⟩ => ⟨S2x1024x512, .f32⟩
  | .hbm, ⟨35, _⟩ => ⟨S_, .f32⟩
  | .hbm, ⟨36, _⟩ => ⟨S2x1024x512, .f32⟩
  | .hbm, ⟨37, _⟩ => ⟨S2x1024x512, .f32⟩
  | .hbm, ⟨38, _⟩ => ⟨S_, .f32⟩
  | .hbm, ⟨39, _⟩ => ⟨S2x1024x512, .f32⟩
  | .hbm, ⟨40, _⟩ => ⟨S2x1024x512, .f32⟩
  | .hbm, ⟨41, _⟩ => ⟨S2x1024x512, .f32⟩
  | .hbm, ⟨42, _⟩ => ⟨S_, .f32⟩
  | .hbm, ⟨43, _⟩ => ⟨S2x1024x512, .f32⟩
  | .hbm, ⟨44, _⟩ => ⟨S2x1024x512, .f32⟩
  | .hbm, ⟨45, _⟩ => ⟨S2x1024x512, .f32⟩
  | .hbm, ⟨46, _⟩ => ⟨S_, .f32⟩
  | .hbm, ⟨47, _⟩ => ⟨S2x1024x512, .f32⟩
  | .hbm, ⟨48, _⟩ => ⟨S2x1024x512, .f32⟩
  | .hbm, ⟨49, _⟩ => ⟨S2x1024x512, .f32⟩
  | .hbm, ⟨50, _⟩ => ⟨S_, .f32⟩
  | .hbm, ⟨51, _⟩ => ⟨S2x1024x512, .f32⟩
  | .hbm, ⟨52, _⟩ => ⟨S2x1024x512, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]
-- ==== AdamDown.lean ====
abbrev S8x512x1024 : Shape := ⟨3, ![8, 512, 1024]⟩
abbrev S2x512x1024 : Shape := ⟨3, ![2, 512, 1024]⟩
abbrev S8x256x1024 : Shape := ⟨3, ![8, 256, 1024]⟩
abbrev S1x256x1024 : Shape := ⟨3, ![1, 256, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S2x512x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S8x256x1024, .bf16⟩
  | .local _ .vmem, ⟨3, _⟩ => ⟨S8x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 1, 2], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg2 c0_i32_0
  let c0_i32_1 : BitVec 32 := 0#32
  let v2 : BitVec 1 := Scalar.cmpi .eq arg0 c0_i32_1
  let c0_i32_2 : BitVec 32 := 0#32
  let v3 : BitVec 32 := Scalar.select v2 arg1 c0_i32_2
  let c0_i32_3 : BitVec 32 := 0#32
  let c0_i32_4 : BitVec 32 := 0#32
  ![c0_i32_3.toNat, v1.toNat, v3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0_i32 : BitVec 32 := 0#32
  let v1 : BitVec 32 := Scalar.select v0 arg2 c0_i32
  let c1_i32_0 : BitVec 32 := 1#32
  let v2 : BitVec 1 := Scalar.cmpi .eq arg0 c1_i32_0
  let c0_i32_1 : BitVec 32 := 0#32
  let v3 : BitVec 32 := Scalar.select v2 arg1 c0_i32_1
  let c0_i32_2 : BitVec 32 := 0#32
  let c0_i32_3 : BitVec 32 := 0#32
  ![c0_i32_2.toNat, v1.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AdamDownRefIdeal.lean ====
abbrev S8x512x1024 : Shape := ⟨3, ![8, 512, 1024]⟩
abbrev S2x512x1024 : Shape := ⟨3, ![2, 512, 1024]⟩
abbrev S_ : Shape := ⟨0, ![]⟩
abbrev S512x1024 : Shape := ⟨2, ![512, 1024]⟩
abbrev S1x512x1024 : Shape := ⟨3, ![1, 512, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S8x512x1024, .f32⟩
  | .hbm, ⟨6, _⟩ => ⟨S_, .f32⟩
  | .hbm, ⟨7, _⟩ => ⟨S512x1024, .f32⟩
  | .hbm, ⟨8, _⟩ => ⟨S8x512x1024, .f32⟩
  | .hbm, ⟨9, _⟩ => ⟨S_, .f32⟩
  | .hbm, ⟨10, _⟩ => ⟨S512x1024, .f32⟩
  | .hbm, ⟨11, _⟩ => ⟨S1x512x1024, .f32⟩
  | .hbm, ⟨12, _⟩ => ⟨S1x512x1024, .f32⟩
  | .hbm, ⟨13, _⟩ => ⟨S2x512x1024, .f32⟩
  | .hbm, ⟨14, _⟩ => ⟨S_, .f32⟩
  | .hbm, ⟨15, _⟩ => ⟨S2x512x1024, .f32⟩
  | .hbm, ⟨16, _⟩ => ⟨S2x512x1024, .f32⟩
  | .hbm, ⟨17, _⟩ => ⟨S_, .f32⟩
  | .hbm, ⟨18, _⟩ => ⟨S2x512x1024, .f32⟩
  | .hbm, ⟨19, _⟩ => ⟨S2x512x1024, .f32⟩
  | .hbm, ⟨20, _⟩ => ⟨S2x512x1024, .f32⟩
  | .hbm, ⟨21, _⟩ => ⟨S_, .f32⟩
  | .hbm, ⟨22, _⟩ => ⟨S2x512x1024, .f32⟩
  | .hbm, ⟨23, _⟩ => ⟨S2x512x1024, .f32⟩
  | .hbm, ⟨24, _⟩ => ⟨S2x512x1024, .f32⟩
  | .hbm, ⟨25, _⟩ => ⟨S_, .f32⟩
  | .hbm, ⟨26, _⟩ => ⟨S2x512x1024, .f32⟩
  | .hbm, ⟨27, _⟩ => ⟨S2x512x1024, .f32⟩
  | .hbm, ⟨28, _⟩ => ⟨S2x512x1024, .f32⟩
  | .hbm, ⟨29, _⟩ => ⟨S_, .f32⟩
  | .hbm, ⟨30, _⟩ => ⟨S2x512x1024, .f32⟩
  | .hbm, ⟨31, _⟩ => ⟨S2x512x1024, .f32⟩
  | .hbm, ⟨32, _⟩ => ⟨S_, .f32⟩
  | .hbm, ⟨33, _⟩ => ⟨S2x512x1024, .f32⟩
  | .hbm, ⟨34, _⟩ => ⟨S2x512x1024, .f32⟩
  | .hbm, ⟨35, _⟩ => ⟨S2x512x1024, .f32⟩
  | .hbm, ⟨36, _⟩ => ⟨S_, .f32⟩
  | .hbm, ⟨37, _⟩ => ⟨S2x512x1024, .f32⟩
  | .hbm, ⟨38, _⟩ => ⟨S2x512x1024, .f32⟩
  | .hbm, ⟨39, _⟩ => ⟨S2x512x1024, .f32⟩
  | .hbm, ⟨40, _⟩ => ⟨S_, .f32⟩
  | .hbm, ⟨41, _⟩ => ⟨S2x512x1024, .f32⟩
  | .hbm, ⟨42, _⟩ => ⟨S2x512x1024, .f32⟩
  | .hbm, ⟨43, _⟩ => ⟨S2x512x1024, .f32⟩
  | .hbm, ⟨44, _⟩ => ⟨S_, .f32⟩
  | .hbm, ⟨45, _⟩ => ⟨S2x512x1024, .f32⟩
  | .hbm, ⟨46, _⟩ => ⟨S2x512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamOut.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨3, ![1, 1, 1], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg2 c0_i32_0
  let c0_i32_1 : BitVec 32 := 0#32
  let v2 : BitVec 1 := Scalar.cmpi .eq arg0 c0_i32_1
  let c0_i32_2 : BitVec 32 := 0#32
  let v3 : BitVec 32 := Scalar.select v2 arg1 c0_i32_2
  let c0_i32_3 : BitVec 32 := 0#32
  let c0_i32_4 : BitVec 32 := 0#32
  ![c0_i32_3.toNat, v1.toNat, v3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true, true]
-- ==== AdamOutRefIdeal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamQkv.lean ====
abbrev S8x160x1024 : Shape := ⟨3, ![8, 160, 1024]⟩
abbrev S1x160x1024 : Shape := ⟨3, ![1, 160, 1024]⟩
abbrev S160x1024 : Shape := ⟨2, ![160, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x160x1024, .bf16⟩
  | .hbm, ⟨1, _⟩ => ⟨S1x160x1024, .f32⟩
  | .hbm, ⟨2, _⟩ => ⟨S1x160x1024, .f32⟩
  | .hbm, ⟨3, _⟩ => ⟨S1x160x1024, .f32⟩
  | .hbm, ⟨4, _⟩ => ⟨S1x160x1024, .f32⟩
  | .hbm, ⟨5, _⟩ => ⟨S1x160x1024, .f32⟩
  | .hbm, ⟨6, _⟩ => ⟨S1x160x1024, .f32⟩
  | .hbm, ⟨7, _⟩ => ⟨S1x160x1024, .f32⟩
  | .local _ .vmem, ⟨0, _⟩ => ⟨S8x160x1024, .bf16⟩
  | .local _ .vmem, ⟨1, _⟩ => ⟨S1x160x1024, .f32⟩
  | .local _ .vmem, ⟨2, _⟩ => ⟨S1x160x1024, .f32⟩
  | .local _ .vmem, ⟨3, _⟩ => ⟨S1x160x1024, .f32⟩
  | .local _ .vmem, ⟨4, _⟩ => ⟨S1x160x1024, .f32⟩
  | .local _ .vmem, ⟨5, _⟩ => ⟨S1x160x1024, .f32⟩
  | .local _ .vmem, ⟨6, _⟩ => ⟨S1x160x1024, .f32⟩
  | .local _ .vmem, ⟨7, _⟩ => ⟨S1x160x1024, .f32⟩
  | _, _ => ⟨S8x160x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨3, ![1, 1, 1], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg2 c0_i32_0
  let c0_i32_1 : BitVec 32 := 0#32
  let v2 : BitVec 1 := Scalar.cmpi .eq arg0 c0_i32_1
  let c0_i32_2 : BitVec 32 := 0#32
  let v3 : BitVec 32 := Scalar.select v2 arg1 c0_i32_2
  let c0_i32_3 : BitVec 32 := 0#32
  let c0_i32_4 : BitVec 32 := 0#32
  ![c0_i32_3.toNat, v1.toNat, v3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

abbrev stage0_0 : Fin 1 → Memref sig .tc .vmem S8x160x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, true]

abbrev stage0_1 : Fin 1 → Memref sig .tc .vmem S1x160x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, true]

abbrev stage0_2 : Fin 1 → Memref sig .tc .vmem S1x160x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true]

abbrev stage0_3 : Fin 1 → Memref sig .tc .vmem S1x160x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, true]

abbrev stage0_4 : Fin 1 → Memref sig .tc .vmem S1x160x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, true]

abbrev stage0_5 : Fin 1 → Memref sig .tc .vmem S1x160x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, true]

abbrev stage0_6 : Fin 1 → Memref sig .tc .vmem S1x160x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, true]

abbrev stage0_7 : Fin 1 → Memref sig .tc .vmem S1x160x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true, true]
-- ==== AdamQkvRefIdeal.lean ====
abbrev S8x160x1024 : Shape := ⟨3, ![8, 160, 1024]⟩
abbrev S1x160x1024 : Shape := ⟨3, ![1, 160, 1024]⟩
abbrev S_ : Shape := ⟨0, ![]⟩
abbrev S160x1024 : Shape := ⟨2, ![160, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x160x1024, .bf16⟩
  | .hbm, ⟨1, _⟩ => ⟨S1x160x1024, .f32⟩
  | .hbm, ⟨2, _⟩ => ⟨S1x160x1024, .f32⟩
  | .hbm, ⟨3, _⟩ => ⟨S1x160x1024, .f32⟩
  | .hbm, ⟨4, _⟩ => ⟨S8x160x1024, .f32⟩
  | .hbm, ⟨5, _⟩ => ⟨S_, .f32⟩
  | .hbm, ⟨6, _⟩ => ⟨S160x1024, .f32⟩
  | .hbm, ⟨7, _⟩ => ⟨S1x160x1024, .f32⟩
  | .hbm, ⟨8, _⟩ => ⟨S_, .f32⟩
  | .hbm, ⟨9, _⟩ => ⟨S1x160x1024, .f32⟩
  | .hbm, ⟨10, _⟩ => ⟨S1x160x1024, .f32⟩
  | .hbm, ⟨11, _⟩ => ⟨S_, .f32⟩
  | .hbm, ⟨12, _⟩ => ⟨S1x160x1024, .f32⟩
  | .hbm, ⟨13, _⟩ => ⟨S1x160x1024, .f32⟩
  | .hbm, ⟨14, _⟩ => ⟨S1x160x1024, .f32⟩
  | .hbm, ⟨15, _⟩ => ⟨S_, .f32⟩
  | .hbm, ⟨16, _⟩ => ⟨S1x160x1024, .f32⟩
  | .hbm, ⟨17, _⟩ => ⟨S1x160x1024, .f32⟩
  | .hbm, ⟨18, _⟩ => ⟨S1x160x1024, .f32⟩
  | .hbm, ⟨19, _⟩ => ⟨S_, .f32⟩
  | .hbm, ⟨20, _⟩ => ⟨S1x160x1024, .f32⟩
  | .hbm, ⟨21, _⟩ => ⟨S1x160x1024, .f32⟩
  | .hbm, ⟨22, _⟩ => ⟨S1x160x1024, .f32⟩
  | .hbm, ⟨23, _⟩ => ⟨S_, .f32⟩
  | .hbm, ⟨24, _⟩ => ⟨S1x160x1024, .f32⟩
  | .hbm, ⟨25, _⟩ => ⟨S1x160x1024, .f32⟩
  | .hbm, ⟨26, _⟩ => ⟨S_, .f32⟩
  | .hbm, ⟨27, _⟩ => ⟨S1x160x1024, .f32⟩
  | .hbm, ⟨28, _⟩ => ⟨S1x160x1024, .f32⟩
  | .hbm, ⟨29, _⟩ => ⟨S1x160x1024, .f32⟩
  | .hbm, ⟨30, _⟩ => ⟨S_, .f32⟩
  | .hbm, ⟨31, _⟩ => ⟨S1x160x1024, .f32⟩
  | .hbm, ⟨32, _⟩ => ⟨S1x160x1024, .f32⟩
  | .hbm, ⟨33, _⟩ => ⟨S1x160x1024, .f32⟩
  | .hbm, ⟨34, _⟩ => ⟨S_, .f32⟩
  | .hbm, ⟨35, _⟩ => ⟨S1x160x1024, .f32⟩
  | .hbm, ⟨36, _⟩ => ⟨S1x160x1024, .f32⟩
  | .hbm, ⟨37, _⟩ => ⟨S1x160x1024, .f32⟩
  | .hbm, ⟨38, _⟩ => ⟨S_, .f32⟩
  | .hbm, ⟨39, _⟩ => ⟨S1x160x1024, .f32⟩
  | .hbm, ⟨40, _⟩ => ⟨S1x160x1024, .f32⟩
  | _, _ => ⟨S8x160x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamIn.lean ====
abbrev S8x256x1024 : Shape := ⟨3, ![8, 256, 1024]⟩
abbrev S1x1024x256 : Shape := ⟨3, ![1, 1024, 256]⟩
abbrev S8x256x256 : Shape := ⟨3, ![8, 256, 256]⟩
abbrev S1x256x256 : Shape := ⟨3, ![1, 256, 256]⟩
abbrev S256x256 : Shape := ⟨2, ![256, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x256x1024, .bf16⟩
  | .hbm, ⟨1, _⟩ => ⟨S1x1024x256, .f32⟩
  | .hbm, ⟨2, _⟩ => ⟨S1x1024x256, .f32⟩
  | .hbm, ⟨3, _⟩ => ⟨S1x1024x256, .f32⟩
  | .hbm, ⟨4, _⟩ => ⟨S1x1024x256, .f32⟩
  | .hbm, ⟨5, _⟩ => ⟨S1x1024x256, .f32⟩
  | .hbm, ⟨6, _⟩ => ⟨S1x1024x256, .f32⟩
  | .hbm, ⟨7, _⟩ => ⟨S1x1024x256, .f32⟩
  | .local _ .vmem, ⟨0, _⟩ => ⟨S8x256x256, .bf16⟩
  | .local _ .vmem, ⟨1, _⟩ => ⟨S8x256x256, .bf16⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![1, 4, 1], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg2 c0_i32_0
  let c0_i32_1 : BitVec 32 := 0#32
  let v2 : BitVec 1 := Scalar.cmpi .eq arg0 c0_i32_1
  let c0_i32_2 : BitVec 32 := 0#32
  let v3 : BitVec 32 := Scalar.select v2 arg1 c0_i32_2
  let c0_i32_3 : BitVec 32 := 0#32
  let c0_i32_4 : BitVec 32 := 0#32
  ![c0_i32_3.toNat, v1.toNat, v3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== AdamInRefIdeal.lean ====
abbrev S8x256x1024 : Shape := ⟨3, ![8, 256, 1024]⟩
abbrev S1x1024x256 : Shape := ⟨3, ![1, 1024, 256]⟩
abbrev S_ : Shape := ⟨0, ![]⟩
abbrev S256x1024 : Shape := ⟨2, ![256, 1024]⟩
abbrev S256x4x256 : Shape := ⟨3, ![256, 4, 256]⟩
abbrev S4x256x256 : Shape := ⟨3, ![4, 256, 256]⟩

abbrev nBuf : Space → Nat
  | .hbm => 43
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S1x1024x256, .f32⟩
  | .hbm, ⟨2, _⟩ => ⟨S1x1024x256, .f32⟩
  | .hbm, ⟨3, _⟩ => ⟨S1x1024x256, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S256x4x256, .f32⟩
  | .hbm, ⟨8, _⟩ => ⟨S4x256x256, .f32⟩
  | .hbm, ⟨9, _⟩ => ⟨S1x1024x256, .f32⟩
  | .hbm, ⟨10, _⟩ => ⟨S_, .f32⟩
  | .hbm, ⟨11, _⟩ => ⟨S1x1024x256, .f32⟩
  | .hbm, ⟨12, _⟩ => ⟨S1x1024x256, .f32⟩
  | .hbm, ⟨13, _⟩ => ⟨S_, .f32⟩
  | .hbm, ⟨14, _⟩ => ⟨S1x1024x256, .f32⟩
  | .hbm, ⟨15, _⟩ => ⟨S1x1024x256, .f32⟩
  | .hbm, ⟨16, _⟩ => ⟨S1x1024x256, .f32⟩
  | .hbm, ⟨17, _⟩ => ⟨S_, .f32⟩
  | .hbm, ⟨18, _⟩ => ⟨S1x1024x256, .f32⟩
  | .hbm, ⟨19, _⟩ => ⟨S1x1024x256, .f32⟩
  | .hbm, ⟨20, _⟩ => ⟨S1x1024x256, .f32⟩
  | .hbm, ⟨21, _⟩ => ⟨S_, .f32⟩
  | .hbm, ⟨22, _⟩ => ⟨S1x1024x256, .f32⟩
  | .hbm, ⟨23, _⟩ => ⟨S1x1024x256, .f32⟩
  | .hbm, ⟨24, _⟩ => ⟨S1x1024x256, .f32⟩
  | .hbm, ⟨25, _⟩ => ⟨S_, .f32⟩
  | .hbm, ⟨26, _⟩ => ⟨S1x1024x256, .f32⟩
  | .hbm, ⟨27, _⟩ => ⟨S1x1024x256, .f32⟩
  | .hbm, ⟨28, _⟩ => ⟨S_, .f32⟩
  | .hbm, ⟨29, _⟩ => ⟨S1x1024x256, .f32⟩
  | .hbm, ⟨30, _⟩ => ⟨S1x1024x256, .f32⟩
  | .hbm, ⟨31, _⟩ => ⟨S1x1024x256, .f32⟩
  | .hbm, ⟨32, _⟩ => ⟨S_, .f32⟩
  | .hbm, ⟨33, _⟩ => ⟨S1x1024x256, .f32⟩
  | .hbm, ⟨34, _⟩ => ⟨S1x1024x256, .f32⟩
  | .hbm, ⟨35, _⟩ => ⟨S1x1024x256, .f32⟩
  | .hbm, ⟨36, _⟩ => ⟨S_, .f32⟩
  | .hbm, ⟨37, _⟩ => ⟨S1x1024x256, .f32⟩
  | .hbm, ⟨38, _⟩ => ⟨S1x1024x256, .f32⟩
  | .hbm, ⟨39, _⟩ => ⟨S1x1024x256, .f32⟩
  | .hbm, ⟨40, _⟩ => ⟨S_, .f32⟩
  | .hbm, ⟨41, _⟩ => ⟨S1x1024x256, .f32⟩
  | .hbm, ⟨42, _⟩ => ⟨S1x1024x256, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== ConvMid.lean ====
abbrev S8192x1024 : Shape := ⟨2, ![8192, 1024]⟩
abbrev S1x1024 : Shape := ⟨2, ![1, 1024]⟩
abbrev S1024x1024 : Shape := ⟨2, ![1024, 1024]⟩
abbrev S512x1024 : Shape := ⟨2, ![512, 1024]⟩
abbrev S1024 : Shape := ⟨1, ![1024]⟩
abbrev S512 : Shape := ⟨1, ![512]⟩
abbrev S512x1 : Shape := ⟨2, ![512, 1]⟩

abbrev nBuf : Space → Nat
  | .hbm => 13
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1024x1024, .bf16⟩
  | .hbm, ⟨8, _⟩ => ⟨S8192x1024, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ConvMidRefIdeal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 103
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x1024, .f32⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S1024x1024, .f32⟩
  | .hbm, ⟨56, _⟩ => ⟨S1024x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S8192x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S8192x1024, .f32⟩
  | .hbm, ⟨76, _⟩ => ⟨S8192x1024, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S8192, .f32⟩
  | .hbm, ⟨91, _⟩ => ⟨S8192x1, .f32⟩
  | .hbm, ⟨92, _⟩ => ⟨S_, .f32⟩
  | .hbm, ⟨93, _⟩ => ⟨S8192x1, .f32⟩
  | .hbm, ⟨94, _⟩ => ⟨S8192x1, .f32⟩
  | .hbm, ⟨95, _⟩ => ⟨S_, .f32⟩
  | .hbm, ⟨96, _⟩ => ⟨S8192, .f32⟩
  | .hbm, ⟨97, _⟩ => ⟨S8192x1024, .f32⟩
  | .hbm, ⟨98, _⟩ => ⟨S8192x1024, .f32⟩
  | .hbm, ⟨99, _⟩ => ⟨S8192x1024, .bf16⟩
  | .hbm, ⟨100, _⟩ => ⟨S_, .f32⟩
  | .hbm, ⟨101, _⟩ => ⟨S1024, .f32⟩
  | .hbm, ⟨102, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v23_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v23_1 : Ref sig .tc := ⟨.hbm, 46, rfl⟩
abbrev main_v23_0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_5 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v33 : Ref sig .tc := ⟨.hbm, 61, rfl⟩
abbrev main_cst_6 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_7 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_8 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_9 : Ref sig .tc := ⟨.hbm, 78, rfl⟩
abbrev main_v47 : Ref sig .tc := ⟨.hbm, 79, rfl⟩
abbrev main_v48 : Ref sig .tc := ⟨.hbm, 80, rfl⟩
abbrev main_cst_10 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_11 : Ref sig .tc := ⟨.hbm, 89, rfl⟩
abbrev main_v56 : Ref sig .tc := ⟨.hbm, 90, rfl⟩
abbrev main_v57 : Ref sig .tc := ⟨.hbm, 91, rfl⟩
abbrev main_cst_12 : Ref sig .tc := ⟨.hbm, 92, rfl⟩
abbrev main_v58 : Ref sig .tc := ⟨.hbm, 93, rfl⟩
abbrev main_v59 : Ref sig .tc := ⟨.hbm, 94, rfl⟩
abbrev main_cst_13 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_14 : Ref sig .tc := ⟨.hbm, 100, rfl⟩
abbrev main_v64 : Ref sig .tc := ⟨.hbm, 101, rfl⟩
abbrev main_v65 : Ref sig .tc := ⟨.hbm, 102, rfl⟩

abbrev nD : Nat := 1
abbrev τ : Topo := Topo.v7x

variable {F : FTy → Type} [FloatOps F]
-- ==== Proof.Pieces.lean ====
/- A scratch buffer written piece by piece and read back: when every stored piece is a block of one array `G` and the pieces
   tile the buffer, the load reads `G`. -/
module

public import Idealize.ShloMosaic.Lib.Pipeline.ReadBack
public import Idealize.ShloMosaic.Lib.Ring

@[expose] public section

namespace Cert.Pieces

open Idealize.ShloMosaic

variable {sig : RefSig} {κ : Kind} {sp : Space} {s : Shape} {e : EltTy} {Val : EltTy → Type}

/-- The load through a rectangle of pieces that tile the buffer with blocks of `G` is the load of `G`. -/
theorem readCov_of_pieces [∀ e, Nonempty (Val e)] (G : s.Idx → Val e) (v : View sig κ sp s e) (L : List (View.Piece Val s e)) (r : Rect s)
    (size : Fin s.rank → ℕ) (hc : View.Piece.tiledL L size = true) (h : View.PiecesOf G L) : v.readCov L r.toLoadRect = View.ld G r := by
  rw [View.readCov_eq_canon']
  funext j
  have := View.canon_append_of_piecesOf G [] L h (r.idx j) (View.cover_of_tiledL L size hc (r.idx j))
  rwa [List.append_nil] at this

/-- Two stores that are blocks of `G` and tile the buffer leave `G`, whatever was stored before them (a zero fill). -/
theorem canon_of_two [∀ e, Nonempty (Val e)] (G : s.Idx → Val e) (p q : View.Piece Val s e) (L : List (View.Piece Val s e))
    (size : Fin s.rank → ℕ) (hc : View.Piece.tiledL [p, q] size = true) (h : View.PiecesOf G [p, q]) : View.canon (p :: q :: L) = G := by
  funext y
  exact View.canon_append_of_piecesOf G L [p, q] h y (View.cover_of_tiledL [p, q] size hc y)

end Cert.Pieces

end
-- ==== Proof.ConvInBlock.lean ====
/- The gradient of the gated input projection: the blocks the kernel is given, and the values of its body at an index. -/
module

public import proofs.«01_k».proof.Proof.Gen.ConvInIdeal.Value
public import proofs.«01_k».proof.Proof.Gen.ConvInRefIdeal.Read
public import Idealize.ShloMosaic.Lib.Pipeline.ValueKit
public import Idealize.ShloMosaic.Lib.Claim
public import proofs.«01_k».proof.Proof.Pieces

@[expose] public section

set_option maxRecDepth 16384

noncomputable section

namespace Cert.ConvInIdeal.Block

open Cert.ConvInIdeal Cert.ConvInIdeal.Gen Idealize.ShloMosaic Idealize.ShloMosaic.TcCoe Idealize.SL.Sem
open Idealize.ShloMosaic.Pipeline (Dat)

variable (m : (ℓ : Loc nD τ sig) → Buf (Elt Ideal) ℓ)

open Cert.ConvInRefIdeal.Read in
/-- The projected input `u`, as the reference computes it from the kernel's arguments. -/
abbrev U (c : Dev nD) : FVec Ideal S8192x2048 .f32 :=
  val_main_v17 (F := Ideal) (m ((c : Thread nD τ).loc main_arg0)) (m ((c : Thread nD τ).loc main_arg1)) (m ((c : Thread nD τ).loc main_arg2))
    (m ((c : Thread nD τ).loc main_arg3))

/-- The cotangent of the gated output. -/
abbrev DGL (c : Dev nD) : FVec Ideal S8192x1024 .f32 := m ((c : Thread nD τ).loc main_arg4)

open Cert.ConvInRefIdeal.Read in
/-- The reference's gradient of `u`: its left half belongs to the value, its right half to the gate. -/
abbrev DU (c : Dev nD) : FVec Ideal S8192x2048 .f32 :=
  val_main_v33 (F := Ideal) (m ((c : Thread nD τ).loc main_arg0)) (m ((c : Thread nD τ).loc main_arg1)) (m ((c : Thread nD τ).loc main_arg2))
    (m ((c : Thread nD τ).loc main_arg3)) (m ((c : Thread nD τ).loc main_arg4))

/-- The input weight. -/
abbrev W (c : Dev nD) : FVec Ideal S1024x2048 .f32 := m ((c : Thread nD τ).loc main_arg2)

open Cert.ConvInRefIdeal.Read in
/-- The reference's gradient of the normalised input, `DU · Wᵀ`. -/
abbrev DH (c : Dev nD) : FVec Ideal S8192x1024 .f32 :=
  val_main_v38 (F := Ideal) (m ((c : Thread nD τ).loc main_arg0)) (m ((c : Thread nD τ).loc main_arg1)) (m ((c : Thread nD τ).loc main_arg2))
    (m ((c : Thread nD τ).loc main_arg3)) (m ((c : Thread nD τ).loc main_arg4))

/-- Every window's block index at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0, 0] ∧ win0_6.index t = ![t.val, 0]
    ∧ win0_7.index t = ![t.val, 0] ∧ win0_8.index t = ![0, 0] ∧ win0_9.index t = ![0, 0] :=
  (by decide +kernel : ∀ t : Fin grid0.N, _)

/-- The row of the array that row `r` of point `t`'s block is. -/
def row (t : Fin cfg0.N) (r : Fin 512) : Fin 8192 := ⟨t.val * 512 + r.val, by have := lt_of_lt_of_eq t.isLt N_0; omega⟩

/-- The saved `u` is the reference's. -/
theorem entry_u (c : Dev nD) : V m c main_v15 = truncf .bf16 (U m c) bitsLt_bf16_f32 := by
  entry_read
  rfl

/-- The weight as the kernel takes it: eight groups of columns, four quarters of rows side by side. -/
theorem entry_w (c : Dev nD) (j : Fin 8) (r : Fin 256) (k : Fin 1024) : V m c main_v19 (ix3 j r k)
    = W m c (ix2 ⟨k / 256 * 256 + r, by omega⟩ ⟨j * 256 + k % 256, by omega⟩) := by
  entry_read; pointwise

/-- The cotangent's cast. -/
theorem entry_dgl (c : Dev nD) : V m c main_v20 = truncf .bf16 (DGL m c) bitsLt_bf16_f32 := by
  entry_read; rfl

/-- The blocks, read at an index. -/
theorem dgl_at (c : Dev nD) (t : Fin cfg0.N) (r : Fin 512) (k : Fin 1024) : iblk m c 0 t (ix2 r k) = DGL m c (ix2 (row t r) k) := by
  blk_simp [iblk, idx t]
  rw [entry_dgl]
  show DGL m c _ = _
  blk_ext [idx t, row]

theorem u_at (c : Dev nD) (t : Fin cfg0.N) (r : Fin 512) (k : Fin 2048) : iblk m c 1 t (ix2 r k) = U m c (ix2 (row t r) k) := by
  blk_simp [iblk, idx t]
  rw [entry_u]
  show U m c _ = _
  generalize U m c = X
  blk_ext [idx t, row]

theorem w_at (c : Dev nD) (t : Fin cfg0.N) (j : Fin 8) (r : Fin 256) (k : Fin 1024) : iblk m c 5 t (ix3 j r k)
    = W m c (ix2 ⟨k / 256 * 256 + r, by omega⟩ ⟨j * 256 + k % 256, by omega⟩) := by
  refine Eq.trans ?_ (entry_w m c j r k)
  blk_simp [iblk, idx t]
  generalize V m c main_v19 = X
  blk_ext [idx t]
open Cert.ConvInRefIdeal.Read in
/-- The value's half of the gradient. -/
theorem da_eq (c : Dev nD) (t : Fin cfg0.N) (dgl u2 : Vec Ideal S512x1024 .bf16) (r : Fin 512) (k : Fin 1024)
    (hd : dgl (ix2 r k) = DGL m c (ix2 (row t r) k)) (hu : u2 (ix2 r k) = U m c (ix2 (row t r) ⟨1024 + k.val, by omega⟩)) :
    k0_pay10 (F := Ideal) dgl u2 (ix2 r k) = DU m c (ix2 (row t r) ⟨k, by omega⟩) := by
  pointwise [k0_pay10, k0_pay5, k0_pay4, k0_pay3, DU, val_main_v33, val_main_v31, val_main_v25, val_main_v24, val_main_v23, val_main_v22, val_main_v21,
    val_main_v20, val_main_v19, val_main_cst_4, val_main_cst_3]
  rw [hd, hu]
  rfl

open Cert.ConvInRefIdeal.Read in
/-- The gate's half: the kernel and the reference multiply the same factors in another order. -/
theorem dgt_eq (c : Dev nD) (t : Fin cfg0.N) (dgl u1 u2 : Vec Ideal S512x1024 .bf16) (r : Fin 512) (k : Fin 1024)
    (hd : dgl (ix2 r k) = DGL m c (ix2 (row t r) k)) (h1 : u1 (ix2 r k) = U m c (ix2 (row t r) ⟨k, by omega⟩))
    (hu : u2 (ix2 r k) = U m c (ix2 (row t r) ⟨1024 + k.val, by omega⟩)) :
    k0_pay11 (F := Ideal) dgl u1 u2 (ix2 r k) = DU m c (ix2 (row t r) ⟨1024 + k, by omega⟩) := by
  pointwise [k0_pay11, k0_pay6, k0_pay4, k0_pay3, DU, val_main_v33, val_main_v32, val_main_v30, val_main_v28, val_main_v27, val_main_v26, val_main_v25, val_main_v24, val_main_v23, val_main_v22, val_main_v21,
    val_main_v20, val_main_v19, val_main_v18, val_main_cst_5, val_main_cst_4, val_main_cst_3]
  rw [hd, h1, hu]
  show DGL m c _ * U m c _ * Ideal.logistic (U m c _) * (1 - Ideal.logistic (U m c _)) = U m c _ * DGL m c _ * (Ideal.logistic (U m c _) * (1 - Ideal.logistic (U m c _)))
  ac_rfl

/-- The two halves of the `u` block, and a quarter of a group of the weight's block, as the body loads them. -/
theorem ldg (c : Dev nD) (t : Fin cfg0.N) (h) (r : Fin 512) (k : Fin 1024) : View.ld (Val := Elt Ideal) (S := S512x2048) (e' := .bf16) (iblk m c 1 t) (Rect.unit (s := S512x2048) ![0, 1024] ![512, 1024] h) (ix2 r k) = U m c (ix2 (row t r) ⟨1024 + k.val, by omega⟩) := by
  pointwise
  exact u_at m c t _ _

theorem ldv (c : Dev nD) (t : Fin cfg0.N) (h) (r : Fin 512) (k : Fin 1024) : View.ld (Val := Elt Ideal) (S := S512x2048) (e' := .bf16) (iblk m c 1 t) (Rect.unit (s := S512x2048) ![0, 0] ![512, 1024] h) (ix2 r k) = U m c (ix2 (row t r) ⟨k.val, by omega⟩) := by
  pointwise
  exact u_at m c t _ _

theorem ldw (c : Dev nD) (t : Fin cfg0.N) (j q : ℕ) (hj : j < 8) (hq : q < 4) (h) (r k : Fin 256) :
   View.ld (Val := Elt Ideal) (e' := .bf16) (S := S8x256x1024) (iblk m c 5 t) (Rect.unit (s := S8x256x1024) ![j, 0, q * 256] ![1, 256, 256] h) (ix3 (0 : Fin 1) r k)
     = W m c (ix2 ⟨q * 256 + r, by omega⟩ ⟨j * 256 + k, by omega⟩) := by
  pointwise
  refine (w_at m c t _ _ _).trans ?_
  generalize W m c = X
  congr 1
  blk_ext

open Cert.ConvInRefIdeal.Read in
/-- The product `DU · Wᵀ` at an index. -/
theorem DH_at (c : Dev nD) (R : Fin 8192) (i : Fin 1024) : DH m c (ix2 R i) = ∑ k : Fin 2048, DU m c (ix2 R k) * W m c (ix2 i k) := by
  pointwise [DH, val_main_v38]

/-- One quarter of the product, as the kernel adds it up: eight partial products of 256 columns. -/
def quarter (da dg : FVec Ideal S512x1024 .bf16) (w0 w1 w2 w3 w4 w5 w6 w7 : Vec Ideal S1x256x256 .bf16) (r : Fin 512) (i : Fin 256) : EReal :=
  ∑ x : Fin 256, da (ix2 r ⟨x, by omega⟩) * w0 (ix3 0 i x) + ∑ x : Fin 256, da (ix2 r ⟨256 + x, by omega⟩) * w1 (ix3 0 i x)
    + ∑ x : Fin 256, da (ix2 r ⟨512 + x, by omega⟩) * w2 (ix3 0 i x) + ∑ x : Fin 256, da (ix2 r ⟨768 + x, by omega⟩) * w3 (ix3 0 i x)
    + ∑ x : Fin 256, dg (ix2 r ⟨x, by omega⟩) * w4 (ix3 0 i x) + ∑ x : Fin 256, dg (ix2 r ⟨256 + x, by omega⟩) * w5 (ix3 0 i x)
    + ∑ x : Fin 256, dg (ix2 r ⟨512 + x, by omega⟩) * w6 (ix3 0 i x) + ∑ x : Fin 256, dg (ix2 r ⟨768 + x, by omega⟩) * w7 (ix3 0 i x)

section
/-! The four quarters differ only in where the body cuts the sum of the eight partial products. -/

variable (da dg : FVec Ideal S512x1024 .bf16) (w0 w1 w2 w3 w4 w5 w6 w7 : Vec Ideal S1x256x256 .bf16) (r : Fin 512) (i : Fin 256)

theorem pay14_at : k0_pay14 dg (k0_pay12 da dg w0 w1 w2 w3 w4 w5) (k0_pay13 dg) w6 w7 (ix2 r i) = quarter da dg w0 w1 w2 w3 w4 w5 w6 w7 r i := by
  pointwise [k0_pay14, k0_pay12, k0_pay13, quarter]

theorem pay17_at : k0_pay17 dg (k0_pay15 da w0 w1 w2 w3) (k0_pay16 dg) w4 w5 w6 w7 (ix2 r i) = quarter da dg w0 w1 w2 w3 w4 w5 w6 w7 r i := by
  pointwise [k0_pay17, k0_pay15, k0_pay16, quarter]

theorem pay20_at : k0_pay20 da dg (k0_pay18 da w0 w1) (k0_pay19 da) w2 w3 w4 w5 w6 w7 (ix2 r i) = quarter da dg w0 w1 w2 w3 w4 w5 w6 w7 r i := by
  pointwise [k0_pay20, k0_pay18, k0_pay19, quarter]

theorem pay24_at : k0_pay24 (k0_pay22 da dg (k0_pay21 da) w0 w1 w2 w3 w4 w5 w6) (k0_pay23 dg) w7 (ix2 r i)
    = quarter da dg w0 w1 w2 w3 w4 w5 w6 w7 r i := by
  pointwise [k0_pay24, k0_pay22, k0_pay21, k0_pay23, quarter]
end

/-- The 2048 columns in eight groups. -/
theorem sum_groups (f : Fin 2048 → EReal) : ∑ k : Fin 2048, f k = ∑ j : Fin 8, ∑ x : Fin 256, f ⟨j * 256 + x, by omega⟩ := Fin.sum_univ_tiles 8 256 rfl f

/-- A quarter of the product over blocks of the gradient is the corresponding columns of `DU · Wᵀ`. -/
theorem quarter_eq (c : Dev nD) (t : Fin cfg0.N) (q : ℕ) (hq : q < 4) (da dg : FVec Ideal S512x1024 .bf16) (w0 w1 w2 w3 w4 w5 w6 w7 : Vec Ideal S1x256x256 .bf16)
    (hda : ∀ r k, da (ix2 r k) = DU m c (ix2 (row t r) ⟨k, by omega⟩)) (hdg : ∀ r k, dg (ix2 r k) = DU m c (ix2 (row t r) ⟨1024 + k, by omega⟩))
    (h0 : ∀ i k : Fin 256, w0 (ix3 0 i k) = W m c (ix2 ⟨q * 256 + i, by omega⟩ ⟨0 * 256 + k, by omega⟩))
    (h1 : ∀ i k : Fin 256, w1 (ix3 0 i k) = W m c (ix2 ⟨q * 256 + i, by omega⟩ ⟨1 * 256 + k, by omega⟩))
    (h2 : ∀ i k : Fin 256, w2 (ix3 0 i k) = W m c (ix2 ⟨q * 256 + i, by omega⟩ ⟨2 * 256 + k, by omega⟩))
    (h3 : ∀ i k : Fin 256, w3 (ix3 0 i k) = W m c (ix2 ⟨q * 256 + i, by omega⟩ ⟨3 * 256 + k, by omega⟩))
    (h4 : ∀ i k : Fin 256, w4 (ix3 0 i k) = W m c (ix2 ⟨q * 256 + i, by omega⟩ ⟨4 * 256 + k, by omega⟩))
    (h5 : ∀ i k : Fin 256, w5 (ix3 0 i k) = W m c (ix2 ⟨q * 256 + i, by omega⟩ ⟨5 * 256 + k, by omega⟩))
    (h6 : ∀ i k : Fin 256, w6 (ix3 0 i k) = W m c (ix2 ⟨q * 256 + i, by omega⟩ ⟨6 * 256 + k, by omega⟩))
    (h7 : ∀ i k : Fin 256, w7 (ix3 0 i k) = W m c (ix2 ⟨q * 256 + i, by omega⟩ ⟨7 * 256 + k, by omega⟩))
    (r : Fin 512) (i : Fin 256) : quarter da dg w0 w1 w2 w3 w4 w5 w6 w7 r i = DH m c (ix2 (row t r) ⟨q * 256 + i, by omega⟩) := by
  refine Eq.trans ?_ (DH_at m c _ _).symm
  rw [sum_groups, Fin.sum_univ_eight]
  simp only [quarter, hda, hdg, h0, h1, h2, h3, h4, h5, h6, h7]
  generalize DU m c = X
  generalize W m c = Y
  refine congrArg₂ (· + ·) (congrArg₂ (· + ·) (congrArg₂ (· + ·) (congrArg₂ (· + ·) (congrArg₂ (· + ·) (congrArg₂ (· + ·) (congrArg₂ (· + ·)
    ?_ ?_) ?_) ?_) ?_) ?_) ?_) ?_
  all_goals
    refine Finset.sum_congr rfl fun x _ => congrArg₂ (· * ·) (congrArg X ?_) (congrArg Y ?_) <;> blk_ext

/-- The gate's half of the `u` block. -/
abbrev LG (c : Dev nD) (t : Fin cfg0.N) : Vec Ideal S512x1024 .bf16 :=
  View.ld (Val := Elt Ideal) (S := S512x2048) (e' := .bf16) (iblk m c 1 t) (Rect.unit ![0, 1024] ![512, 1024] inb_S512x2048_S512x1024_0_1024)

/-- The value's half of the block. -/
abbrev LV (c : Dev nD) (t : Fin cfg0.N) : Vec Ideal S512x1024 .bf16 :=
  View.ld (Val := Elt Ideal) (S := S512x2048) (e' := .bf16) (iblk m c 1 t) (Rect.unit ![0, 0] ![512, 1024] inb_S512x2048_S512x1024_0_0)

/-- A quarter of a group of the weight. -/
abbrev LW (c : Dev nD) (t : Fin cfg0.N) (j o : ℕ) (h : ∀ a, ![j, 0, o] a + S1x256x256.size a ≤ S8x256x1024.size a) : Vec Ideal S1x256x256 .bf16 :=
  View.ld (Val := Elt Ideal) (S := S8x256x1024) (e' := .bf16) (iblk m c 5 t) (Rect.unit ![j, 0, o] ![1, 256, 256] h)

/-- The value's half of the point's gradient of `u`. -/
abbrev A (c : Dev nD) (t : Fin cfg0.N) : FVec Ideal S512x1024 .bf16 := k0_pay10 (iblk m c 0 t) (LG m c t)

/-- The gate's half. -/
abbrev B (c : Dev nD) (t : Fin cfg0.N) : FVec Ideal S512x1024 .bf16 := k0_pay11 (iblk m c 0 t) (LV m c t) (LG m c t)

/-- Both halves are the reference's. -/
theorem a_at (c : Dev nD) (t : Fin cfg0.N) (r : Fin 512) (k : Fin 1024) : A m c t (ix2 r k) = DU m c (ix2 (row t r) ⟨k, by omega⟩) :=
  da_eq m c t _ _ _ _ (dgl_at m c t _ _) (ldg m c t _ _ _)

theorem b_at (c : Dev nD) (t : Fin cfg0.N) (r : Fin 512) (k : Fin 1024) : B m c t (ix2 r k) = DU m c (ix2 (row t r) ⟨1024 + k, by omega⟩) :=
  dgt_eq m c t _ _ _ _ _ (dgl_at m c t _ _) (ldv m c t _ _ _) (ldg m c t _ _ _)

/-- A quarter over the point's own blocks. -/
theorem quarter_of_blocks (c : Dev nD) (t : Fin cfg0.N) (q : ℕ) (hq : q < 4) (h0) (h1) (h2) (h3) (h4) (h5) (h6) (h7) (r : Fin 512) (i : Fin 256) :
    quarter (A m c t) (B m c t) (LW m c t 0 (q * 256) h0) (LW m c t 1 (q * 256) h1) (LW m c t 2 (q * 256) h2) (LW m c t 3 (q * 256) h3)
      (LW m c t 4 (q * 256) h4) (LW m c t 5 (q * 256) h5) (LW m c t 6 (q * 256) h6) (LW m c t 7 (q * 256) h7) r i
    = DH m c (ix2 (row t r) ⟨q * 256 + i, by omega⟩) :=
  quarter_eq m c t q hq _ _ _ _ _ _ _ _ _ _ (a_at m c t) (b_at m c t) (ldw m c t 0 q (by omega) hq h0) (ldw m c t 1 q (by omega) hq h1)
    (ldw m c t 2 q (by omega) hq h2) (ldw m c t 3 q (by omega) hq h3) (ldw m c t 4 q (by omega) hq h4) (ldw m c t 5 q (by omega) hq h5)
    (ldw m c t 6 q (by omega) hq h6) (ldw m c t 7 q (by omega) hq h7) r i

/-- The rows of `DH` a point works on. -/
abbrev DHb (c : Dev nD) (t : Fin cfg0.N) : Vec Ideal S512x1024 .f32 := fun y => DH m c (ix2 (row t (y 0)) (y 1))

/-- The scratch, written in four quarters, reads back as the rows of `DH`. -/
theorem dh_load (c : Dev nD) (t : Fin cfg0.N) (v : View sig .tc .vmem S512x1024 .f32) :
    v.readCov (Val := Elt Ideal) [⟨Rect.unit ![0, 768] ![512, 256] inb_S512x1024_S512x256_0_768,
        k0_pay24 (k0_pay22 (A m c t) (B m c t) (k0_pay21 (A m c t)) (LW m c t 0 768 inb_S8x256x1024_S1x256x256_0_0_768) (LW m c t 1 768 inb_S8x256x1024_S1x256x256_1_0_768) (LW m c t 2 768 inb_S8x256x1024_S1x256x256_2_0_768) (LW m c t 3 768 inb_S8x256x1024_S1x256x256_3_0_768) (LW m c t 4 768 inb_S8x256x1024_S1x256x256_4_0_768) (LW m c t 5 768 inb_S8x256x1024_S1x256x256_5_0_768) (LW m c t 6 768 inb_S8x256x1024_S1x256x256_6_0_768)) (k0_pay23 (B m c t)) (LW m c t 7 768 inb_S8x256x1024_S1x256x256_7_0_768)⟩,
      ⟨Rect.unit ![0, 512] ![512, 256] inb_S512x1024_S512x256_0_512,
        k0_pay20 (A m c t) (B m c t) (k0_pay18 (A m c t) (LW m c t 0 512 inb_S8x256x1024_S1x256x256_0_0_512) (LW m c t 1 512 inb_S8x256x1024_S1x256x256_1_0_512)) (k0_pay19 (A m c t)) (LW m c t 2 512 inb_S8x256x1024_S1x256x256_2_0_512) (LW m c t 3 512 inb_S8x256x1024_S1x256x256_3_0_512) (LW m c t 4 512 inb_S8x256x1024_S1x256x256_4_0_512) (LW m c t 5 512 inb_S8x256x1024_S1x256x256_5_0_512) (LW m c t 6 512 inb_S8x256x1024_S1x256x256_6_0_512) (LW m c t 7 512 inb_S8x256x1024_S1x256x256_7_0_512)⟩,
      ⟨Rect.unit ![0, 256] ![512, 256] inb_S512x1024_S512x256_0_256,
        k0_pay17 (B m c t) (k0_pay15 (A m c t) (LW m c t 0 256 inb_S8x256x1024_S1x256x256_0_0_256) (LW m c t 1 256 inb_S8x256x1024_S1x256x256_1_0_256) (LW m c t 2 256 inb_S8x256x1024_S1x256x256_2_0_256) (LW m c t 3 256 inb_S8x256x1024_S1x256x256_3_0_256)) (k0_pay16 (B m c t)) (LW m c t 4 256 inb_S8x256x1024_S1x256x256_4_0_256) (LW m c t 5 256 inb_S8x256x1024_S1x256x256_5_0_256) (LW m c t 6 256 inb_S8x256x1024_S1x256x256_6_0_256) (LW m c t 7 256 inb_S8x256x1024_S1x256x256_7_0_256)⟩,
      ⟨Rect.unit ![0, 0] ![512, 256] inb_S512x1024_S512x256_0_0,
        k0_pay14 (B m c t) (k0_pay12 (A m c t) (B m c t) (LW m c t 0 0 inb_S8x256x1024_S1x256x256_0_0_0) (LW m c t 1 0 inb_S8x256x1024_S1x256x256_1_0_0) (LW m c t 2 0 inb_S8x256x1024_S1x256x256_2_0_0) (LW m c t 3 0 inb_S8x256x1024_S1x256x256_3_0_0) (LW m c t 4 0 inb_S8x256x1024_S1x256x256_4_0_0) (LW m c t 5 0 inb_S8x256x1024_S1x256x256_5_0_0)) (k0_pay13 (B m c t)) (LW m c t 6 0 inb_S8x256x1024_S1x256x256_6_0_0) (LW m c t 7 0 inb_S8x256x1024_S1x256x256_7_0_0)⟩]
      (Rect.unit (s := S512x1024) ![0, 0] ![512, 1024] inb_S512x1024_S512x1024_0_0).toLoadRect = DHb m c t := by
  refine (Pieces.readCov_of_pieces (Val := Elt Ideal) (s := S512x1024) (e := .f32) (DHb m c t) _ _
    (Rect.unit (s := S512x1024) ![0, 0] ![512, 1024] inb_S512x1024_S512x1024_0_0) S512x256.size ?_ ?_).trans ?_
  · sl_kernel_rfl
  · refine ⟨fun x => ?_, fun x => ?_, fun x => ?_, fun x => ?_, trivial⟩
    · idx_vars x
      refine (pay24_at _ _ _ _ _ _ _ _ _ _ _ _).trans ((quarter_of_blocks m c t 3 (by omega) _ _ _ _ _ _ _ _ x0 x1).trans ?_)
      dsimp only [DHb]
      generalize DH m c = X
      blk_ext [row]
    · idx_vars x
      refine (pay20_at _ _ _ _ _ _ _ _ _ _ _ _).trans ((quarter_of_blocks m c t 2 (by omega) _ _ _ _ _ _ _ _ x0 x1).trans ?_)
      dsimp only [DHb]
      generalize DH m c = X
      blk_ext [row]
    · idx_vars x
      refine (pay17_at _ _ _ _ _ _ _ _ _ _ _ _).trans ((quarter_of_blocks m c t 1 (by omega) _ _ _ _ _ _ _ _ x0 x1).trans ?_)
      dsimp only [DHb]
      generalize DH m c = X
      blk_ext [row]
    · idx_vars x
      refine (pay14_at _ _ _ _ _ _ _ _ _ _ _ _).trans ((quarter_of_blocks m c t 0 (by omega) _ _ _ _ _ _ _ _ x0 x1).trans ?_)
      dsimp only [DHb]
      generalize DH m c = X
      blk_ext [row]
  · funext y
    idx_vars y
    pointwise

end Cert.ConvInIdeal.Block

end
-- ==== Proof.Rms.lean ====
/- The gradient of the root-mean-square norm, over the extended reals.

   A row `x` of the input has the scale `r = 1 / √(mean (x²) + ε)`, and `d` is the cotangent of the normalised row times the
   gain.  The kernel computes `r · (d - x·r · mean (d · x·r))`; differentiating the scale through the square root and the
   square gives `d·r + x·T + T·x` with `T = (Σ x·d) · (-½ · (r / v)) / 1024`, `v` the argument of the reciprocal root.
   The two agree at every extended real: `r` is a finite number and not negative, whatever the row holds, so it distributes. -/
module

public import Idealize.ShloMosaic.PureOps.Ideal.Laws
public import Idealize.ShloMosaic.Lib.IdealHost

@[expose] public section

noncomputable section

namespace Cert.Rms

open Idealize.ShloMosaic

/-- The row length 1024 the mean divides by. -/
theorem width : Ideal.ofBits .f32 0x44800000#32 = ((1024 : ℝ) : EReal) := by
  simp [Ideal.ofBits, Ideal.ieee, -EReal.coe_mul]; norm_num

/-- The factor -½ of the derivative of the reciprocal square root. -/
theorem neg_half : Ideal.ofBits .f32 0xBF000000#32 = ((-(1 / 2) : ℝ) : EReal) := by
  simp [Ideal.ofBits, Ideal.ieee, -EReal.coe_mul, -EReal.coe_neg]; norm_num

/-- The norm's `ε` is a positive real number. -/
theorem eps_pos : ∃ e : ℝ, 0 < e ∧ Ideal.ofBits .f32 0x358637BD#32 = (e : EReal) := by
  refine ⟨_, ?_, by simp [Ideal.ofBits, Ideal.ieee]; norm_cast⟩
  positivity

/-- A square is not negative. -/
theorem sq_nonneg (x : EReal) : 0 ≤ x * x := by
  rcases le_total 0 x with h | h
  · exact mul_nonneg h h
  · have := EReal.neg_nonneg.2 h
    simpa using mul_nonneg this this

/-- A finite number that is not negative distributes over a sum of any extended reals. -/
theorem mul_sum_of_nonneg {ι : Type} (s : Finset ι) (r : ℝ) (hr : 0 ≤ r) (f : ι → EReal) :
    (r : EReal) * ∑ k ∈ s, f k = ∑ k ∈ s, (r : EReal) * f k := by
  classical
  induction s using Finset.induction_on with
  | empty => simp
  | insert a s ha ih =>
    rw [Finset.sum_insert ha, Finset.sum_insert ha, EReal.left_distrib_of_nonneg_of_ne_top (by exact_mod_cast hr) (EReal.coe_ne_top r), ih]

/-- The reciprocal square root of a positive extended real is a finite number `r ≥ 0`, and dividing it by its argument
    gives `r³`. -/
theorem rsqrt_pos (v : EReal) (hv : 0 < v) :
    ∃ r : ℝ, 0 ≤ r ∧ Ideal.rsqrt v = (r : EReal) ∧ Ideal.div (Ideal.rsqrt v) v = ((r * r * r : ℝ) : EReal) := by
  induction v with
  | bot => exact absurd hv (by simp)
  | top => exact ⟨0, le_rfl, by simp, by simp [Ideal.div]⟩
  | coe v =>
    have hv' : 0 < v := by exact_mod_cast hv
    refine ⟨(Real.sqrt v)⁻¹, by positivity, by simp [hv'.not_gt, hv'.ne'], ?_⟩
    rw [Ideal.rsqrt_coe, if_neg hv'.not_gt, if_neg hv'.ne', Ideal.div_coe hv'.ne', ← EReal.coe_mul]
    congr 1
    have hs := Real.mul_self_sqrt hv'.le
    have hp := Real.sqrt_pos.2 hv'
    rw [one_div, ← hs, mul_inv, Real.sqrt_mul_self hp.le]
    ring

section Row

variable {n : ℕ} (x d : Fin n → EReal)

/-- The argument of the reciprocal root: the mean square of the row plus `ε`. -/
def meanSq : EReal := Ideal.div (∑ k, x k * x k) (Ideal.ofBits .f32 0x44800000#32) + Ideal.ofBits .f32 0x358637BD#32

/-- The scale of the row. -/
def scale : EReal := Ideal.rsqrt (meanSq x)

/-- The kernel's gradient of the norm at position `i` of the row. -/
def back (i : Fin n) : EReal :=
  scale x * (d i - x i * scale x * Ideal.div (∑ k, d k * (x k * scale x)) (Ideal.ofBits .f32 0x44800000#32))

theorem meanSq_pos : 0 < meanSq x := by
  obtain ⟨e, he, hb⟩ := eps_pos
  have h0 : 0 ≤ ∑ k, x k * x k := Finset.sum_nonneg fun k _ => sq_nonneg _
  have h1 : 0 ≤ Ideal.div (∑ k, x k * x k) (Ideal.ofBits .f32 0x44800000#32) := by
    rw [width, Ideal.div_coe (by norm_num)]
    exact mul_nonneg h0 (by exact_mod_cast (by norm_num : (0 : ℝ) ≤ 1 / 1024))
  unfold meanSq
  rw [hb]
  calc (0 : EReal) < (e : EReal) := by exact_mod_cast he
    _ = 0 + (e : EReal) := (zero_add _).symm
    _ ≤ _ := add_le_add_left h1 _

/-- The derivative of the scale, multiplied out: what differentiating through the root and the square adds to each element. -/
def pull : EReal :=
  Ideal.div ((∑ k, x k * d k) * (Ideal.ofBits .f32 0xBF000000#32 * Ideal.div (scale x) (meanSq x))) (Ideal.ofBits .f32 0x44800000#32)

/-- THE GRADIENT OF THE NORM: the kernel's one-pass form is the derivative taken step by step. -/
theorem back_eq (i : Fin n) : back x d i = d i * scale x + x i * pull x d + pull x d * x i := by
  obtain ⟨r, hr, h1, h2⟩ := rsqrt_pos (meanSq x) (meanSq_pos x)
  have hr' : (0 : EReal) ≤ (r : EReal) := by exact_mod_cast hr
  unfold back pull
  rw [show scale x = (r : EReal) from h1, show Ideal.div ((r : ℝ) : EReal) (meanSq x) = _ from h1 ▸ h2, width, neg_half,
    Ideal.div_coe (by norm_num), Ideal.div_coe (by norm_num)]
  have hs : ∑ k, d k * (x k * (r : EReal)) = (r : EReal) * ∑ k, x k * d k := by
    rw [mul_sum_of_nonneg _ r hr]
    exact Finset.sum_congr rfl fun k _ => by rw [mul_comm (d k), mul_comm (x k), mul_assoc]
  rw [hs, sub_eq_add_neg, EReal.left_distrib_of_nonneg_of_ne_top hr' (EReal.coe_ne_top r), mul_comm (d i), add_assoc]
  congr 1
  generalize ∑ k, x k * d k = S
  set P : EReal := x i * S with hP
  set c : ℝ := r * r * r * (1 / 1024) with hc
  have hk : (r : EReal) * -(x i * (r : EReal) * ((r : EReal) * S * ((1 / 1024 : ℝ) : EReal))) = -((c : EReal) * P) := by
    rw [hc, EReal.coe_mul, EReal.coe_mul, EReal.coe_mul, mul_neg, hP]
    congr 1
    ac_rfl
  have hq : x i * (S * (((-(1 / 2) : ℝ) : EReal) * ((r * r * r : ℝ) : EReal)) * ((1 / 1024 : ℝ) : EReal))
      = -(((1 / 2 : ℝ) : EReal) * ((c : EReal) * P)) := by
    rw [hc, EReal.coe_mul (r * r * r), EReal.coe_neg, neg_mul, mul_neg, neg_mul, mul_neg, hP]
    congr 1
    ac_rfl
  rw [hk, mul_comm _ (x i), hq]
  generalize (c : EReal) * P = Q
  have h : (0 : EReal) ≤ ((1 / 2 : ℝ) : EReal) := by exact_mod_cast (by norm_num : (0 : ℝ) ≤ 1 / 2)
  rw [← mul_neg, ← EReal.right_distrib_of_nonneg h h, ← EReal.coe_add, add_halves, EReal.coe_one, one_mul]

end Row

end Cert.Rms

end
-- ==== Proof.ConvInGrad.lean ====
/- The gradient of the gated input projection: what the kernel leaves in its results. -/
module

public import proofs.«01_k».proof.Proof.ConvInBlock
public import proofs.«01_k».proof.Proof.Rms

@[expose] public section

set_option maxRecDepth 16384

noncomputable section

namespace Cert.ConvInIdeal.Grad

open Cert.ConvInIdeal Cert.ConvInIdeal.Gen Idealize.ShloMosaic Idealize.ShloMosaic.TcCoe Idealize.SL.Sem
open Idealize.ShloMosaic.Pipeline (Dat)
open Cert.ConvInIdeal.Block
variable (m : (ℓ : Loc nD τ sig) → Buf (Elt Ideal) ℓ)
/-- The input, the cotangent of the skip connection and the gain. -/
abbrev X (c : Dev nD) : FVec Ideal S8192x1024 .f32 := m ((c : Thread nD τ).loc main_arg0)
abbrev DXO (c : Dev nD) : FVec Ideal S8192x1024 .f32 := m ((c : Thread nD τ).loc main_arg5)
abbrev G (c : Dev nD) : FVec Ideal S1x1024 .f32 := m ((c : Thread nD τ).loc main_arg1)

open Cert.ConvInRefIdeal.Read in
/-- The reference's gradient of the input. -/
abbrev DX (c : Dev nD) : FVec Ideal S8192x1024 .f32 :=
  val_main_v59 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

open Cert.ConvInRefIdeal.Read in
theorem DX_at (c : Dev nD) (R : Fin 8192) (i : Fin 1024) : DX m c (ix2 R i)
    = DXO m c (ix2 R i) + Rms.back (fun k : Fin 1024 => X m c (ix2 R k)) (fun k => DH m c (ix2 R k) * G m c (ix2 0 k)) i := by
  rw [Rms.back_eq]
  pointwise [DX, val_main_v59, val_main_v57, val_main_v56, val_main_v55, val_main_v54, val_main_v53, val_main_v52, val_main_v51, val_main_v50, val_main_v49, val_main_v48, val_main_v47, val_main_v46, val_main_v45, val_main_v44, val_main_v43, val_main_v42, val_main_v10, val_main_v9, val_main_v8, val_main_v7, val_main_v6, val_main_v5, val_main_v4, val_main_v3, val_main_v2, val_main_v1, val_main_v0, val_main_cst_1, val_main_cst_2, val_main_cst_3, val_main_cst_4, val_main_cst_5, val_main_cst_6, val_main_cst_7, val_main_cst_8, val_main_cst_9, val_main_cst_10, val_main_cst_0, val_main_cst, Rms.scale, Rms.pull, Rms.meanSq]
  simp only [Fin.sum_univ_one]

theorem x_at (c : Dev nD) (t : Fin cfg0.N) (r : Fin 512) (k : Fin 1024) : iblk m c 2 t (ix2 r k) = X m c (ix2 (row t r) k) := by
  blk_ext [iblk, V, idx t, row]

theorem dxo_at (c : Dev nD) (t : Fin cfg0.N) (r : Fin 512) (k : Fin 1024) : iblk m c 3 t (ix2 r k) = DXO m c (ix2 (row t r) k) := by
  blk_ext [iblk, V, idx t, row]

theorem g_at (c : Dev nD) (t : Fin cfg0.N) (k : Fin 1024) : iblk m c 4 t (ix2 0 k) = G m c (ix2 0 k) := by
  blk_ext [iblk, V, idx t]

/-- The stored rows of the gradient of the input. -/
theorem pay28_at (c : Dev nD) (t : Fin cfg0.N) (y : S512x1024.Idx) :
    k0_pay28 (F := Ideal) (iblk m c 2 t) (DHb m c t) (iblk m c 4 t) (iblk m c 3 t) y = DX m c (ix2 (row t (y 0)) (y 1)) := by
  idx_vars y
  pointwise [k0_pay28, k0_pay26, k0_pay25]
  simp only [x_at, dxo_at, g_at]
  exact (DX_at m c _ _).symm

theorem o7_eq (c : Dev nD) (t : Fin cfg0.N) (y : S512x1024.Idx) : (outsAt0 m c t.val t.isLt).2.1 y = DX m c (ix2 (row t (y 0)) (y 1)) := by
  by_cases h0 : t.val % 16 = 0
  · rw [outsAt0_A m c t h0 h0]; frame_out
    rw [dh_load m c t]
    exact pay28_at m c t y
  · rw [outsAt0_B m c t h0 h0]; frame_out
    rw [dh_load m c t]
    exact pay28_at m c t y

open Cert.ConvInRefIdeal.Read in
/-- The reference's gradient of the bias and of the gain. -/
abbrev DB (c : Dev nD) : FVec Ideal S1x2048 .f32 :=
  val_main_v35 (F := Ideal) (m ((c : Thread nD τ).loc main_arg0)) (m ((c : Thread nD τ).loc main_arg1)) (m ((c : Thread nD τ).loc main_arg2))
    (m ((c : Thread nD τ).loc main_arg3)) (m ((c : Thread nD τ).loc main_arg4))

open Cert.ConvInRefIdeal.Read in
abbrev DG (c : Dev nD) : FVec Ideal S1x1024 .f32 :=
  val_main_v41 (F := Ideal) (m ((c : Thread nD τ).loc main_arg0)) (m ((c : Thread nD τ).loc main_arg1)) (m ((c : Thread nD τ).loc main_arg2))
    (m ((c : Thread nD τ).loc main_arg3)) (m ((c : Thread nD τ).loc main_arg4))

open Cert.ConvInRefIdeal.Read in
theorem DB_at (c : Dev nD) (j : S1x2048.Idx) : DB m c j = ∑ R : Fin 8192, DU m c (ix2 R (j 1)) := by
  pointwise [DB, val_main_v35, val_main_v34, val_main_cst_6]

open Cert.ConvInRefIdeal.Read in
theorem DG_at (c : Dev nD) (j : S1x1024.Idx) : DG m c j
    = ∑ R : Fin 8192, DH m c (ix2 R (j 1)) * (X m c (ix2 R (j 1)) * Rms.scale (fun k : Fin 1024 => X m c (ix2 R k))) := by
  pointwise [DG, val_main_v41, val_main_v40, val_main_v39, val_main_v12, val_main_v11, val_main_v7, val_main_v6, val_main_v5, val_main_v4, val_main_v3,
    val_main_v2, val_main_v1, val_main_v0, val_main_cst, val_main_cst_0, val_main_cst_1, val_main_cst_7, Rms.scale, Rms.meanSq]
  exact Finset.sum_congr rfl fun R _ => mul_comm _ _

/-- What a point adds to the gradient of the gain. -/
theorem pay2_at (c : Dev nD) (t : Fin cfg0.N) (prev : Vec Ideal S1x1024 .f32) (j : S1x1024.Idx) :
    k0_pay2 (F := Ideal) (k0_pay27 (iblk m c 2 t) (DHb m c t)) prev j
    = prev j + ∑ r : Fin 512, DH m c (ix2 (row t r) (j 1)) * (X m c (ix2 (row t r) (j 1)) * Rms.scale (fun k : Fin 1024 => X m c (ix2 (row t r) k))) := by
  idx_vars j
  pointwise [k0_pay2, k0_pay27, k0_pay26, k0_pay25, Rms.scale, Rms.meanSq]
  simp only [x_at, DHb]
  exact congrArg (prev (ix2 j0 j1) + ·) (Finset.sum_congr rfl fun r _ => rfl)

/-- The gradient of the gain over the rows of one point. -/
def dgPart (c : Dev nD) (t : Fin cfg0.N) (j : S1x1024.Idx) : EReal :=
  ∑ r : Fin 512, DH m c (ix2 (row t r) (j 1)) * (X m c (ix2 (row t r) (j 1)) * Rms.scale (fun k : Fin 1024 => X m c (ix2 (row t r) k)))

/-- The gradient of the bias over the rows of one point. -/
def dbPart (c : Dev nD) (t : Fin cfg0.N) (j : S1x2048.Idx) : EReal := ∑ r : Fin 512, DU m c (ix2 (row t r) (j 1))

theorem zero1 (j : S1x1024.Idx) : k0_pay1 (F := Ideal) j = 0 := by pointwise [k0_pay1]

theorem o9_A (c : Dev nD) (t : Fin cfg0.N) (h0 : t.val % 16 = 0) (j : S1x1024.Idx) :
    (outsAt0 m c t.val t.isLt).2.2.2 j = 0 + dgPart m c t j := by
  rw [outsAt0_A m c t h0 h0]; frame_out
  rw [dh_load m c t, pay2_at, zero1]
  rfl

theorem o9_B (c : Dev nD) (t : Fin cfg0.N) (h0 : ¬t.val % 16 = 0) (j : S1x1024.Idx) :
    (outsAt0 m c t.val t.isLt).2.2.2 j = (outsAt0 m c (t.val - 1) (by omega)).2.2.2 j + dgPart m c t j := by
  rw [outsAt0_B m c t h0 h0]; frame_out
  rw [dh_load m c t, pay2_at]
  rfl

theorem pay8_at (d u2 : Vec Ideal S512x1024 .bf16) (prev : Vec Ideal S1x1024 .f32) (x0 : Fin 1) (x : Fin 1024) :
    k0_pay8 (F := Ideal) d u2 prev (ix2 x0 x) = prev (ix2 x0 x) + ∑ r : Fin 512, k0_pay10 d u2 (ix2 r x) := by
  pointwise [k0_pay8, k0_pay10]

theorem pay9_at (d u1 u2 : Vec Ideal S512x1024 .bf16) (prev : Vec Ideal S1x1024 .f32) (x0 : Fin 1) (x : Fin 1024) :
    k0_pay9 (F := Ideal) d u1 u2 prev (ix2 x0 x) = prev (ix2 x0 x) + ∑ r : Fin 512, k0_pay11 d u1 u2 (ix2 r x) := by
  pointwise [k0_pay9, k0_pay11]

/-- The two halves of a point's part of the gradient of the bias. -/
theorem a_sum (c : Dev nD) (t : Fin cfg0.N) (x : Fin 1024) (y : S1x2048.Idx) (hy : (y 1 : ℕ) = x) :
    ∑ r : Fin 512, A m c t (ix2 r x) = dbPart m c t y := by
  refine Finset.sum_congr rfl fun r _ => (a_at m c t r x).trans ?_
  generalize DU m c = Z
  blk_ext

theorem b_sum (c : Dev nD) (t : Fin cfg0.N) (x : Fin 1024) (y : S1x2048.Idx) (hy : (y 1 : ℕ) = 1024 + x) :
    ∑ r : Fin 512, B m c t (ix2 r x) = dbPart m c t y := by
  refine Finset.sum_congr rfl fun r _ => (b_at m c t r x).trans ?_
  generalize DU m c = Z
  blk_ext

theorem o8_A (c : Dev nD) (t : Fin cfg0.N) (h0 : t.val % 16 = 0) : (outsAt0 m c t.val t.isLt).2.2.1 = fun j => 0 + dbPart m c t j := by
  rw [outsAt0_A m c t h0 h0]; frame_out
  simp (disch := decide) only [↓View.readCov_skip, ↓View.readCov_fill]
  refine Pieces.canon_of_two (Val := Elt Ideal) (s := S1x2048) (e := .f32) _ _ _ _ S1x1024.size ?_ ?_
  · sl_kernel_rfl
  · refine ⟨fun x => ?_, fun x => ?_, trivial⟩
    · idx_vars x
      refine (pay9_at _ _ _ _ _ _).trans (congrArg₂ (· + ·) ?_ (b_sum m c t x1 _ ?_))
      · pointwise [k0_pay7]
      · blk_simp
    · idx_vars x
      refine (pay8_at _ _ _ _ _).trans (congrArg₂ (· + ·) ?_ (a_sum m c t x1 _ ?_))
      · pointwise [k0_pay7]
      · blk_simp

theorem o8_B (c : Dev nD) (t : Fin cfg0.N) (h0 : ¬t.val % 16 = 0) :
    (outsAt0 m c t.val t.isLt).2.2.1 = fun j => (outsAt0 m c (t.val - 1) (by omega)).2.2.1 j + dbPart m c t j := by
  rw [outsAt0_B m c t h0 h0]; frame_out
  generalize (outsAt0 m c (t.val - 1) _).2.2.1 = P
  funext y
  clear h0
  canon_tiles x h
  · idx_vars x
    refine (pay9_at _ _ _ _ _ _).trans (congrArg₂ (· + ·) ?_ (b_sum m c t x1 y h1))
    pointwise
    blk_ext
  · idx_vars x
    refine (pay8_at _ _ _ _ _).trans (congrArg₂ (· + ·) ?_ (a_sum m c t x1 y h1))
    pointwise
    blk_ext

theorem o6_eq (c : Dev nD) (t : Fin cfg0.N) (y : S512x2048.Idx) : (outsAt0 m c t.val t.isLt).1 y = DU m c (ix2 (row t (y 0)) (y 1)) := by
  by_cases hA : t.val % 16 = 0
  · rw [outsAt0_A m c t hA hA]; frame_out
    canon_tiles x h
    · idx_vars x
      refine (b_at m c t x0 x1).trans ?_
      generalize DU m c = Z
      blk_ext [row]
    · idx_vars x
      refine (a_at m c t x0 x1).trans ?_
      generalize DU m c = Z
      blk_ext [row]
  · rw [outsAt0_B m c t hA hA]; frame_out
    canon_tiles x h
    · idx_vars x
      refine (b_at m c t x0 x1).trans ?_
      generalize DU m c = Z
      blk_ext [row]
    · idx_vars x
      refine (a_at m c t x0 x1).trans ?_
      generalize DU m c = Z
      blk_ext [row]

theorem final8 (c : Dev nD) : (dats m 0 c).arrAt 8 (cfgs 0).N = DB m c := by
  refine (dats m 0 c).arrAt_eq_of_after_last 8 t0_15 (by decide +kernel) _ fun j => ?_
  blk_simp
  rw [after0_8, Pipeline.eq_sum_fin_of_reset_step_apply_last (fun n h => (outsAt0 m c n h).2.2.1) 16 (fun _ => 0) (fun p j => dbPart m c p j)
    (fun t h j => congrFun (o8_A m c t h) j) (fun t h j => congrFun (o8_B m c t h) j) (le_of_eq N_0) t0_15 rfl j, zero_add, DB_at]
  idx_vars j
  refine Fin.sum_mul_add_congr fun t r hl => ?_
  generalize DU m c = Z
  blk_ext [row]

theorem final9 (c : Dev nD) : (dats m 0 c).arrAt 9 (cfgs 0).N = DG m c := by
  refine (dats m 0 c).arrAt_eq_of_after_last 9 t0_15 (by decide +kernel) _ fun j => ?_
  blk_simp
  rw [after0_9, Pipeline.eq_sum_fin_of_reset_step_apply_last (fun n h => (outsAt0 m c n h).2.2.2) 16 (fun _ => 0) (fun p j => dgPart m c p j)
    (o9_A m c) (o9_B m c) (le_of_eq N_0) t0_15 rfl j, zero_add, DG_at]
  idx_vars j
  refine Fin.sum_mul_add_congr fun t r hl => ?_
  rfl

theorem final6 (c : Dev nD) : (dats m 0 c).arrAt 6 (cfgs 0).N = truncf .bf16 (DU m c) bitsLt_bf16_f32 := by
  refine (dats m 0 c).arrAt_eq_of_covers 6 _ (by decide +kernel) fun t _ y => ?_
  blk_simp
  rw [after0_6, o6_eq]
  refine Eq.trans ?_ (show DU m c _ = truncf .bf16 (DU m c) bitsLt_bf16_f32 _ from rfl)
  generalize DU m c = Z
  blk_ext [idx t, row]
theorem final7 (c : Dev nD) : (dats m 0 c).arrAt 7 (cfgs 0).N = DX m c := by
  refine (dats m 0 c).arrAt_eq_of_covers 7 _ (by decide +kernel) fun t _ y => ?_
  blk_simp
  rw [after0_7, o7_eq]
  generalize DX m c = Z
  blk_ext [idx t, row]

end Cert.ConvInIdeal.Grad

end
-- ==== Proof.ConvIn.lean ====
/- The claims about the gradient of the convolution block's input projection: the runs of the kernel and of its reference,
   joined by the equalities of `ConvInGrad`. -/
module

public import proofs.«01_k».proof.Defs
public import proofs.«01_k».proof.Proof.Gen.ConvIn.Frame
public import proofs.«01_k».proof.Proof.Gen.ConvInIdeal.Frame
public import proofs.«01_k».proof.Proof.Gen.ConvInRefIdeal.Run
public import proofs.«01_k».proof.Proof.ConvInGrad

@[expose] public section

set_option maxRecDepth 16384

noncomputable section

namespace Cert.ConvIn.Claims

open Idealize.ShloMosaic Idealize.ShloMosaic.TcCoe Idealize.SL.Sem

set_option maxHeartbeats 2000000 in
open Cert.ConvInRefIdeal.Read Cert.ConvInIdeal.Grad in
/-- Kernel and reference compute the same four arrays. -/
theorem algebraic : Cert.algebraic_ConvInIdeal_ConvInRefIdeal := by
  pair_intro
  · run_from Cert.ConvInIdeal.Gen.run_main m g
  · refine (θ_run Cert.ConvInRefIdeal.defs _ _).mono (fun r h c => ?_) (Cert.ConvInRefIdeal.Value.run m' g')
    have a0 := (hagree c).1
    have a1 := (hagree c).2.1
    have a2 := (hagree c).2.2.1
    have a3 := (hagree c).2.2.2.1
    have a4 := (hagree c).2.2.2.2.1
    have a5 := (hagree c).2.2.2.2.2
    refine ⟨(h c).1.trans ?_, (h c).2.1.trans ?_, (h c).2.2.1.trans ?_, (h c).2.2.2.1.trans ?_, (h c).2.2.2.2⟩
    · rw [val_main_v58_eq, a0, a1, a2, a3, a4]; exact (final6 m c).symm
    · rw [val_main_v59_eq, a0, a1, a2, a3, a4, a5]; exact (final7 m c).symm
    · rw [val_main_v35_eq, a0, a1, a2, a3, a4]; exact (final8 m c).symm
    · rw [val_main_v41_eq, a0, a1, a2, a3, a4]; exact (final9 m c).symm

/-- The reference terminates, keeps its arguments and leaves every counter at zero. -/
theorem reference_frame : Cert.quiescent_ConvInRefIdeal := fun m g _ =>
  (θ_run Cert.ConvInRefIdeal.defs _ _).mono (fun r h => ⟨fun c => (h c).2.2.2.2, sem_eq_zero_of_no_sems (by decide) r.2⟩)
    (Cert.ConvInRefIdeal.Value.run m g)

end Cert.ConvIn.Claims

end
-- ==== Proof.MlpBlock.lean ====
/- The gradient of the feed-forward layer: the blocks the kernel is given, and the values of its body at an index. -/
module

public import proofs.«01_k».proof.Proof.Gen.MlpIdeal.Value
public import proofs.«01_k».proof.Proof.Gen.MlpRefIdeal.Read
public import Idealize.ShloMosaic.Lib.Pipeline.ValueKit
public import Idealize.ShloMosaic.Lib.Claim
public import proofs.«01_k».proof.Proof.Pieces

@[expose] public section

set_option maxRecDepth 16384

noncomputable section

namespace Cert.MlpIdeal.Block

open Cert.MlpIdeal Cert.MlpIdeal.Gen Idealize.ShloMosaic Idealize.ShloMosaic.TcCoe Idealize.SL.Sem
open Idealize.ShloMosaic.Pipeline (Dat)

variable (m : (ℓ : Loc nD τ sig) → Buf (Elt Ideal) ℓ)

/-- The input, the gain, the two weights and the cotangent of the layer's output. -/
abbrev X (c : Dev nD) : FVec Ideal S8192x1024 .f32 := m ((c : Thread nD τ).loc main_arg0)
abbrev G (c : Dev nD) : FVec Ideal S1x1024 .f32 := m ((c : Thread nD τ).loc main_arg1)
abbrev WU (c : Dev nD) : FVec Ideal S1024x4096 .f32 := m ((c : Thread nD τ).loc main_arg2)
abbrev WD (c : Dev nD) : FVec Ideal S4096x1024 .f32 := m ((c : Thread nD τ).loc main_arg3)
abbrev DY (c : Dev nD) : FVec Ideal S8192x1024 .f32 := m ((c : Thread nD τ).loc main_arg4)

open Cert.MlpRefIdeal.Read

/-- The layer's inner values before the squared ReLU, as the reference computes them. -/
abbrev UP (c : Dev nD) : FVec Ideal S8192x4096 .f32 := val_main_v15 (F := Ideal) (X m c) (G m c) (WU m c)

/-- … and after it. -/
abbrev ACT (c : Dev nD) : FVec Ideal S8192x4096 .f32 := val_main_v20 (F := Ideal) (X m c) (G m c) (WU m c)

/-- The reference's gradient of `UP`. -/
abbrev DUP (c : Dev nD) : FVec Ideal S8192x4096 .f32 := val_main_v29 (F := Ideal) (X m c) (G m c) (WU m c) (WD m c) (DY m c)

/-- The reference's gradient of the normalised input, `DUP · WUᵀ`. -/
abbrev DH (c : Dev nD) : FVec Ideal S8192x1024 .f32 := val_main_v32 (F := Ideal) (X m c) (G m c) (WU m c) (WD m c) (DY m c)

/-- Every window's block index at every grid point. -/
theorem idx : ∀ t : Fin cfg0.N, win0_0.index t = ![t.val, 0] ∧ win0_1.index t = ![t.val, 0] ∧ win0_2.index t = ![0, 0]
    ∧ win0_3.index t = ![t.val, 0] ∧ win0_4.index t = ![0, 0, 0] ∧ win0_5.index t = ![0, 0, 0] ∧ win0_6.index t = ![t.val, 0]
    ∧ win0_7.index t = ![t.val, 0] ∧ win0_8.index t = ![t.val, 0] ∧ win0_9.index t = ![0, 0] :=
  (by decide +kernel : ∀ t : Fin grid0.N, _)

/-- The row of the array that row `r` of point `t`'s block is. -/
def row (t : Fin cfg0.N) (r : Fin 512) : Fin 8192 := ⟨t.val * 512 + r.val, by have := lt_of_lt_of_eq t.isLt N_0; omega⟩

/-- The saved activation is the reference's. -/
theorem entry_act (c : Dev nD) : V m c main_v15 = truncf .bf16 (ACT m c) bitsLt_bf16_f32 := by
  entry_read
  rfl

/-- The first weight as the kernel takes it: eight groups of columns, the two halves of the rows side by side. -/
theorem entry_wu (c : Dev nD) (j : Fin 8) (r : Fin 512) (k : Fin 1024) : V m c main_v19 (ix3 j r k)
    = WU m c (ix2 ⟨k / 512 * 512 + r, by omega⟩ ⟨j * 512 + k % 512, by omega⟩) := by
  simp only [V, hostOps0, hostOps0_1, hostOps0_2, List.flatten_cons, List.flatten_nil, List.append_nil, List.cons_append, List.nil_append]
  entry_read; pointwise

/-- The second weight as the kernel takes it: eight groups of rows. -/
theorem entry_wd (c : Dev nD) (j : Fin 8) (r : Fin 512) (k : Fin 1024) : V m c main_v21 (ix3 j r k)
    = WD m c (ix2 ⟨j * 512 + r, by omega⟩ k) := by
  simp only [V, hostOps0, hostOps0_1, hostOps0_2, List.flatten_cons, List.flatten_nil, List.append_nil, List.cons_append, List.nil_append]
  entry_read; pointwise

/-- The blocks, read at an index. -/
theorem dy_at (c : Dev nD) (t : Fin cfg0.N) (r : Fin 512) (k : Fin 1024) : iblk m c 0 t (ix2 r k) = DY m c (ix2 (row t r) k) := by
  blk_ext [iblk, V, idx t, row]

theorem x_at (c : Dev nD) (t : Fin cfg0.N) (r : Fin 512) (k : Fin 1024) : iblk m c 1 t (ix2 r k) = X m c (ix2 (row t r) k) := by
  blk_ext [iblk, V, idx t, row]

theorem g_at (c : Dev nD) (t : Fin cfg0.N) (k : Fin 1024) : iblk m c 2 t (ix2 0 k) = G m c (ix2 0 k) := by
  blk_ext [iblk, V, idx t]

theorem act_at (c : Dev nD) (t : Fin cfg0.N) (r : Fin 512) (k : Fin 4096) : iblk m c 3 t (ix2 r k) = ACT m c (ix2 (row t r) k) := by
  blk_simp [iblk, idx t]
  rw [entry_act]
  show ACT m c _ = _
  generalize ACT m c = Z
  blk_ext [idx t, row]

theorem wu_at (c : Dev nD) (t : Fin cfg0.N) (j : Fin 8) (r : Fin 512) (k : Fin 1024) : iblk m c 4 t (ix3 j r k)
    = WU m c (ix2 ⟨k / 512 * 512 + r, by omega⟩ ⟨j * 512 + k % 512, by omega⟩) := by
  refine Eq.trans ?_ (entry_wu m c j r k)
  blk_simp [iblk, idx t]
  generalize V m c main_v19 = Z
  blk_ext [idx t]

theorem wd_at (c : Dev nD) (t : Fin cfg0.N) (j : Fin 8) (r : Fin 512) (k : Fin 1024) : iblk m c 5 t (ix3 j r k)
    = WD m c (ix2 ⟨j * 512 + r, by omega⟩ k) := by
  refine Eq.trans ?_ (entry_wd m c j r k)
  blk_simp [iblk, idx t]
  generalize V m c main_v21 = Z
  blk_ext [idx t]

/-- A group of each weight, a half of the first weight's, and a group of the activation's columns, as the body loads them. -/
abbrev LU (c : Dev nD) (t : Fin cfg0.N) (j o : ℕ)
    (h : ∀ a : Fin S8x512x1024.rank, (![j, 0, o] : Fin S8x512x1024.rank → ℕ) a + (![1, 512, 512] : Fin S8x512x1024.rank → ℕ) a ≤ S8x512x1024.size a) : Vec Ideal S1x512x512 .bf16 :=
  View.ld (Val := Elt Ideal) (S := S8x512x1024) (e' := .bf16) (iblk m c 4 t) (Rect.unit (s := S8x512x1024) ![j, 0, o] ![1, 512, 512] h)

abbrev LD (c : Dev nD) (t : Fin cfg0.N) (j : ℕ)
    (h : ∀ a : Fin S8x512x1024.rank, (![j, 0, 0] : Fin S8x512x1024.rank → ℕ) a + (![1, 512, 1024] : Fin S8x512x1024.rank → ℕ) a ≤ S8x512x1024.size a) : Vec Ideal S1x512x1024 .bf16 :=
  View.ld (Val := Elt Ideal) (S := S8x512x1024) (e' := .bf16) (iblk m c 5 t) (Rect.unit (s := S8x512x1024) ![j, 0, 0] ![1, 512, 1024] h)

abbrev LA (c : Dev nD) (t : Fin cfg0.N) (o : ℕ)
    (h : ∀ a : Fin S512x4096.rank, (![0, o] : Fin S512x4096.rank → ℕ) a + (![512, 512] : Fin S512x4096.rank → ℕ) a ≤ S512x4096.size a) : Vec Ideal S512x512 .bf16 :=
  View.ld (Val := Elt Ideal) (S := S512x4096) (e' := .bf16) (iblk m c 3 t) (Rect.unit (s := S512x4096) ![0, o] ![512, 512] h)

theorem lu_at (c : Dev nD) (t : Fin cfg0.N) (j q : ℕ) (hj : j < 8) (hq : q < 2) (h) (r k : Fin 512) :
    LU m c t j (q * 512) h (ix3 (0 : Fin 1) r k) = WU m c (ix2 ⟨q * 512 + r, by omega⟩ ⟨j * 512 + k, by omega⟩) := by
  unfold LU
  pointwise
  refine (wu_at m c t _ _ _).trans ?_
  generalize WU m c = Z
  congr 1
  blk_ext

theorem ld_at (c : Dev nD) (t : Fin cfg0.N) (j : ℕ) (hj : j < 8) (h) (r : Fin 512) (k : Fin 1024) :
    LD m c t j h (ix3 (0 : Fin 1) r k) = WD m c (ix2 ⟨j * 512 + r, by omega⟩ k) := by
  unfold LD
  pointwise
  refine (wd_at m c t _ _ _).trans ?_
  generalize WD m c = Z
  congr 1
  blk_ext

theorem la_at (c : Dev nD) (t : Fin cfg0.N) (j : ℕ) (hj : j < 8) (h) (r k : Fin 512) :
    LA m c t (j * 512) h (ix2 r k) = ACT m c (ix2 (row t r) ⟨j * 512 + k, by omega⟩) := by
  unfold LA
  pointwise
  exact act_at m c t _ _

/-! The bodies of the eight groups differ only in where the printed text cuts them: `k0_pay6` is a group of the gradient of `UP`, `k0_pay25`
    adds its product with a half of a group of the weight to what is accumulated. -/
section
variable (v : Vec Ideal S512x1024 .f32) (w : Vec Ideal S1x512x1024 .bf16) (a : Vec Ideal S512x512 .bf16) (u : Vec Ideal S1x512x512 .bf16)
  (x y z : FVec Ideal S512x512 .f32) (p : FVec Ideal S512x512 .bf16)
theorem group1 : k0_pay10 (F := Ideal) (k0_pay9 v w) a = k0_pay6 v w a := rfl
theorem group2 : k0_pay15 (F := Ideal) (k0_pay13 (k0_pay5 v) w) (k0_pay14 a) = k0_pay6 v w a := rfl
theorem group3 : k0_pay21 (F := Ideal) (k0_pay18 (k0_pay5 v) w) (k0_pay19 a) k0_pay20 = k0_pay6 v w a := rfl
theorem group4 : k0_pay24 (F := Ideal) (k0_pay5 v) w a = k0_pay6 v w a := rfl
theorem group5 : k0_pay27 (F := Ideal) (k0_pay5 v) w a = k0_pay6 v w a := rfl
theorem group6 : k0_pay30 (F := Ideal) (k0_pay5 v) w a = k0_pay6 v w a := rfl
theorem group7 : k0_pay34 (F := Ideal) (k0_pay5 v) w a = k0_pay6 v w a := rfl
theorem first_hi : k0_pay8 (F := Ideal) v w a u = k0_pay7 v w a u := rfl
theorem lo1 : k0_pay11 (F := Ideal) x a u z = k0_pay25 (k0_pay10 x a) u z := rfl
theorem hi1 : k0_pay12 (F := Ideal) x a u z = k0_pay25 (k0_pay10 x a) u z := rfl
theorem lo2 : k0_pay16 (F := Ideal) x p u z = k0_pay25 (k0_pay15 x p) u z := rfl
theorem hi2 : k0_pay17 (F := Ideal) x p u z = k0_pay25 (k0_pay15 x p) u z := rfl
theorem lo3 : k0_pay22 (F := Ideal) x y k0_pay20 u z = k0_pay25 (k0_pay21 x y k0_pay20) u z := rfl
theorem hi3 : k0_pay23 (F := Ideal) x y k0_pay20 u z = k0_pay25 (k0_pay21 x y k0_pay20) u z := rfl
theorem hi4 : k0_pay26 (F := Ideal) p u z = k0_pay25 p u z := rfl
theorem lo5 : k0_pay28 (F := Ideal) p u z = k0_pay25 p u z := rfl
theorem hi5 : k0_pay29 (F := Ideal) p u z = k0_pay25 p u z := rfl
theorem lo6 : k0_pay32 (F := Ideal) p (k0_pay31 u) z = k0_pay25 p u z := rfl
theorem hi6 : k0_pay33 (F := Ideal) p u z = k0_pay25 p u z := rfl
theorem lo7 : k0_pay36 (F := Ideal) (k0_pay35 (k0_pay5 v) w a u) z = k0_pay25 (k0_pay34 (k0_pay5 v) w a) u z := rfl
theorem hi7 : k0_pay37 (F := Ideal) p u z = k0_pay25 p u z := rfl
end

/-- Two halves side by side. -/
def join (a b : FVec Ideal S512x512 .f32) : FVec Ideal S512x1024 .f32 := fun y =>
  if h : (y 1 : ℕ) < 512 then a (ix2 (y 0) ⟨y 1, h⟩) else b (ix2 (y 0) ⟨(y 1 : ℕ) - 512, by have := (y 1).isLt; change _ < 1024 at this; omega⟩)

theorem join_lo (a b : FVec Ideal S512x512 .f32) (r : Fin 512) (k : Fin 512) (k' : Fin 1024) (h : k'.val = k) : join a b (ix2 r k') = a (ix2 r k) := by
  have e : k' = (⟨k, by omega⟩ : Fin 1024) := Fin.ext h
  rw [e]
  exact dif_pos k.isLt

theorem join_hi (a b : FVec Ideal S512x512 .f32) (r : Fin 512) (k : Fin 512) (k' : Fin 1024) (h : k'.val = 512 + k) : join a b (ix2 r k') = b (ix2 r k) := by
  have e : k' = (⟨512 + k, by omega⟩ : Fin 1024) := Fin.ext h
  rw [e]
  refine (dif_neg (by show ¬ (512 + k.val < 512); omega)).trans (congrArg b (congrArg (ix2 r) (Fin.ext ?_)))
  show 512 + k.val - 512 = k
  omega

theorem canon_halves (a b : FVec Ideal S512x512 .f32) (L : List (View.Piece (Elt Ideal) S512x1024 .f32)) (h h') :
    View.canon (⟨Rect.unit (s := S512x1024) ![0, 512] ![512, 512] h, b⟩ :: ⟨Rect.unit (s := S512x1024) ![0, 0] ![512, 512] h', a⟩ :: L) = join a b := by
  refine Pieces.canon_of_two (Val := Elt Ideal) (s := S512x1024) (e := .f32) _ _ _ _ S512x512.size ?_ ?_
  · sl_kernel_rfl
  · refine ⟨fun x => ?_, fun x => ?_, trivial⟩
    · idx_vars x
      refine Eq.symm (Eq.trans ?_ (join_hi a b x0 x1 ⟨512 + x1, by omega⟩ rfl))
      blk_ext
    · idx_vars x
      refine Eq.symm (Eq.trans ?_ (join_lo a b x0 x1 ⟨x1, by omega⟩ rfl))
      blk_ext

theorem canon_halves' (a b : FVec Ideal S512x512 .f32) (L : List (View.Piece (Elt Ideal) S512x1024 .f32)) (h h') :
    View.canon (⟨Rect.unit (s := S512x1024) ![0, 0] ![512, 512] h', a⟩ :: ⟨Rect.unit (s := S512x1024) ![0, 512] ![512, 512] h, b⟩ :: L) = join a b := by
  refine Pieces.canon_of_two (Val := Elt Ideal) (s := S512x1024) (e := .f32) _ _ _ _ S512x512.size ?_ ?_
  · sl_kernel_rfl
  · refine ⟨fun x => ?_, fun x => ?_, trivial⟩
    · idx_vars x
      refine Eq.symm (Eq.trans ?_ (join_lo a b x0 x1 ⟨x1, by omega⟩ rfl))
      blk_ext
    · idx_vars x
      refine Eq.symm (Eq.trans ?_ (join_hi a b x0 x1 ⟨512 + x1, by omega⟩ rfl))
      blk_ext

/-- The left half read back after both halves were stored. -/
theorem read_lo (v : View sig .tc .vmem S512x1024 .f32) (a b : FVec Ideal S512x512 .f32) (L : List (View.Piece (Elt Ideal) S512x1024 .f32)) (h h' h'') :
    v.readCov (Val := Elt Ideal) (⟨Rect.unit (s := S512x1024) ![0, 512] ![512, 512] h, b⟩ :: ⟨Rect.unit (s := S512x1024) ![0, 0] ![512, 512] h', a⟩ :: L)
      (Rect.unit (s := S512x1024) ![0, 0] ![512, 512] h'').toLoadRect = a := by
  rw [View.readCov_eq_canon', canon_halves]
  funext y
  idx_vars y
  refine Eq.trans ?_ (join_lo a b y0 y1 ⟨y1, by omega⟩ rfl)
  pointwise
  blk_ext

/-- The right half. -/
theorem read_hi (v : View sig .tc .vmem S512x1024 .f32) (a b : FVec Ideal S512x512 .f32) (L : List (View.Piece (Elt Ideal) S512x1024 .f32)) (h h' h'') :
    v.readCov (Val := Elt Ideal) (⟨Rect.unit (s := S512x1024) ![0, 0] ![512, 512] h', a⟩ :: ⟨Rect.unit (s := S512x1024) ![0, 512] ![512, 512] h, b⟩ :: L)
      (Rect.unit (s := S512x1024) ![0, 512] ![512, 512] h'').toLoadRect = b := by
  rw [View.readCov_eq_canon', canon_halves']
  funext y
  idx_vars y
  refine Eq.trans ?_ (join_hi a b y0 y1 ⟨512 + y1, by omega⟩ rfl)
  pointwise
  blk_ext

/-- Both halves. -/
theorem read_all (v : View sig .tc .vmem S512x1024 .f32) (a b : FVec Ideal S512x512 .f32) (L : List (View.Piece (Elt Ideal) S512x1024 .f32)) (h h' h'') :
    v.readCov (Val := Elt Ideal) (⟨Rect.unit (s := S512x1024) ![0, 512] ![512, 512] h, b⟩ :: ⟨Rect.unit (s := S512x1024) ![0, 0] ![512, 512] h', a⟩ :: L)
      (Rect.unit (s := S512x1024) ![0, 0] ![512, 1024] h'').toLoadRect = join a b := by
  rw [View.readCov_eq_canon', canon_halves]
  funext y
  idx_vars y
  pointwise

theorem sqrt_zero : Ideal.sqrt 0 = 0 := by
  rw [← EReal.coe_zero, Ideal.sqrt_coe]; simp

/-- The kernel takes the derivative of the squared ReLU from its value, `2 · √(relu(u)²)`; the reference takes `2 · relu(u)` where `u > 0`
    and zero elsewhere. They are the same at every extended real. -/
theorem relu2 (d u : EReal) : d * (2 * Ideal.sqrt (max u 0 * max u 0)) = if 0 < u then d * (2 * max u 0) else 0 := by
  induction u using EReal.rec with
  | bot => simp [sqrt_zero]
  | top => simp
  | coe r =>
    by_cases h : 0 < r
    · have h' : (0 : EReal) < (r : EReal) := by exact_mod_cast h
      rw [if_pos h', max_eq_left h'.le, ← EReal.coe_mul, Ideal.sqrt_coe, if_neg (by nlinarith), Real.sqrt_mul_self h.le]
    · have h' : ¬ (0 : EReal) < (r : EReal) := by exact_mod_cast h
      rw [if_neg h', max_eq_right (not_lt.mp h')]
      simp [sqrt_zero]

theorem two : Ideal.ofBits FTy.f32 1073741824#32 = 2 := by
  simp [Ideal.ofBits, Ideal.ieee, -EReal.coe_mul]; norm_num; rfl

theorem ACT_at (c : Dev nD) (R : Fin 8192) (k : Fin 4096) : ACT m c (ix2 R k) = max (UP m c (ix2 R k)) 0 * max (UP m c (ix2 R k)) 0 := by
  pointwise [ACT, UP, val_main_v20, val_main_v16, val_main_call0_v0, val_main_call0_cst]

/-- One group of the gradient of `UP`. -/
theorem dup_at (c : Dev nD) (t : Fin cfg0.N) (j : ℕ) (hj : j < 8) (h h') (r k : Fin 512) :
    k0_pay6 (F := Ideal) (iblk m c 0 t) (LD m c t j h) (LA m c t (j * 512) h') (ix2 r k) = DUP m c (ix2 (row t r) ⟨j * 512 + k, by omega⟩) := by
  pointwise [k0_pay6, k0_pay5, DUP, val_main_v29, val_main_v28, val_main_v27, val_main_v26, val_main_v22, val_main_v21, val_main_v18, val_main_v17, val_main_v16, val_main_call0_v0, val_main_call0_cst, val_main_cst_3, val_main_cst_5, val_main_cst_6]
  rw [la_at m c t j hj, ACT_at, two, relu2]
  refine if_congr Iff.rfl (congrArg (· * _) (Finset.sum_congr rfl fun x _ => congrArg₂ (· * ·) (dy_at m c t r x) (ld_at m c t j hj h k x))) rfl

/-- The reference's `DUP · WUᵀ` at an index. -/
theorem DH_at (c : Dev nD) (R : Fin 8192) (i : Fin 1024) : DH m c (ix2 R i) = ∑ k : Fin 4096, DUP m c (ix2 R k) * WU m c (ix2 i k) := by
  pointwise [DH, val_main_v32]

/-- The first group's product. -/
theorem first_at (v : Vec Ideal S512x1024 .f32) (w : Vec Ideal S1x512x1024 .bf16) (a : Vec Ideal S512x512 .bf16) (u : Vec Ideal S1x512x512 .bf16) (r i : Fin 512) :
    k0_pay7 (F := Ideal) v w a u (ix2 r i) = ∑ x : Fin 512, k0_pay6 (F := Ideal) v w a (ix2 r x) * u (ix3 0 i x) := by
  pointwise [k0_pay7]

/-- A further group's. -/
theorem next_at (p : FVec Ideal S512x512 .bf16) (u : Vec Ideal S1x512x512 .bf16) (z : FVec Ideal S512x512 .f32) (r i : Fin 512) :
    k0_pay25 (F := Ideal) p u z (ix2 r i) = z (ix2 r i) + ∑ x : Fin 512, p (ix2 r x) * u (ix3 0 i x) := by
  pointwise [k0_pay25]

end Cert.MlpIdeal.Block

end
-- ==== Proof.MlpHalf.lean ====
/- The gradient of the feed-forward layer: one half of the accumulator's columns, built up over the eight groups. -/
module

public import Idealize.ShloMosaic.Lib.Pipeline.ValueKit
public import Idealize.ShloMosaic.Lib.Claim
public import proofs.«01_k».proof.Proof.MlpBlock

@[expose] public section

set_option maxRecDepth 16384

noncomputable section

namespace Cert.MlpIdeal.Block

open Cert.MlpIdeal Cert.MlpIdeal.Gen Idealize.ShloMosaic Idealize.ShloMosaic.TcCoe Idealize.SL.Sem
open Idealize.ShloMosaic.Pipeline (Dat)

variable (m : (ℓ : Loc nD τ sig) → Buf (Elt Ideal) ℓ)

/-- The eight groups added up are the whole product's half. -/
theorem half_at (D W : Fin 4096 → EReal) {v : Vec Ideal S512x1024 .f32} {w : Vec Ideal S1x512x1024 .bf16} {a : Vec Ideal S512x512 .bf16}
    {p1 p2 p3 p4 p5 p6 p7 : FVec Ideal S512x512 .bf16} {u0 u1 u2 u3 u4 u5 u6 u7 : Vec Ideal S1x512x512 .bf16} (r i : Fin 512)
    (h0 : ∀ k : Fin 512, k0_pay6 (F := Ideal) v w a (ix2 r k) = D ⟨0 * 512 + k, by omega⟩) (g0 : ∀ k : Fin 512, u0 (ix3 0 i k) = W ⟨0 * 512 + k, by omega⟩)
    (h1 : ∀ k : Fin 512, p1 (ix2 r k) = D ⟨1 * 512 + k, by omega⟩) (g1 : ∀ k : Fin 512, u1 (ix3 0 i k) = W ⟨1 * 512 + k, by omega⟩)
    (h2 : ∀ k : Fin 512, p2 (ix2 r k) = D ⟨2 * 512 + k, by omega⟩) (g2 : ∀ k : Fin 512, u2 (ix3 0 i k) = W ⟨2 * 512 + k, by omega⟩)
    (h3 : ∀ k : Fin 512, p3 (ix2 r k) = D ⟨3 * 512 + k, by omega⟩) (g3 : ∀ k : Fin 512, u3 (ix3 0 i k) = W ⟨3 * 512 + k, by omega⟩)
    (h4 : ∀ k : Fin 512, p4 (ix2 r k) = D ⟨4 * 512 + k, by omega⟩) (g4 : ∀ k : Fin 512, u4 (ix3 0 i k) = W ⟨4 * 512 + k, by omega⟩)
    (h5 : ∀ k : Fin 512, p5 (ix2 r k) = D ⟨5 * 512 + k, by omega⟩) (g5 : ∀ k : Fin 512, u5 (ix3 0 i k) = W ⟨5 * 512 + k, by omega⟩)
    (h6 : ∀ k : Fin 512, p6 (ix2 r k) = D ⟨6 * 512 + k, by omega⟩) (g6 : ∀ k : Fin 512, u6 (ix3 0 i k) = W ⟨6 * 512 + k, by omega⟩)
    (h7 : ∀ k : Fin 512, p7 (ix2 r k) = D ⟨7 * 512 + k, by omega⟩) (g7 : ∀ k : Fin 512, u7 (ix3 0 i k) = W ⟨7 * 512 + k, by omega⟩) :
    k0_pay25 (F := Ideal) p7 u7 (k0_pay25 p6 u6 (k0_pay25 p5 u5 (k0_pay25 p4 u4 (k0_pay25 p3 u3 (k0_pay25 p2 u2 (k0_pay25 p1 u1 (k0_pay7 v w a u0))))))) (ix2 r i)
      = ∑ k : Fin 4096, D k * W k := by
  have e : ∀ {n : ℕ} (hn : n < 8) (p : FVec Ideal S512x512 .bf16) (u : Vec Ideal S1x512x512 .bf16)
      (hp : ∀ k : Fin 512, p (ix2 r k) = D ⟨n * 512 + k, by omega⟩) (hu : ∀ k : Fin 512, u (ix3 0 i k) = W ⟨n * 512 + k, by omega⟩),
      ∑ x : Fin 512, p (ix2 r x) * u (ix3 0 i x) = ∑ x : Fin 512, D ⟨n * 512 + x, by omega⟩ * W ⟨n * 512 + x, by omega⟩ :=
    fun hn p u hp hu => Finset.sum_congr rfl fun x _ => congrArg₂ (· * ·) (hp x) (hu x)
  rw [next_at, next_at, next_at, next_at, next_at, next_at, next_at, first_at, e (by omega) _ u0 h0 g0, e (by omega) p1 u1 h1 g1, e (by omega) p2 u2 h2 g2,
    e (by omega) p3 u3 h3 g3, e (by omega) p4 u4 h4 g4, e (by omega) p5 u5 h5 g5, e (by omega) p6 u6 h6 g6, e (by omega) p7 u7 h7 g7]
  refine Eq.symm ((Fin.sum_univ_tiles 8 512 rfl _).trans ?_)
  rw [Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  all_goals exact Finset.sum_congr rfl fun x _ => congrArg₂ (· * ·) (congrArg D (Fin.ext rfl)) (congrArg W (Fin.ext rfl))

/-- The reference's gradient of the normalised input, point `t`'s rows. -/
def DHb (c : Dev nD) (t : Fin cfg0.N) : FVec Ideal S512x1024 .f32 := fun y => DH m c (ix2 (row t (y 0)) (y 1))

/-- Two halves, each known, side by side. -/
theorem join_eq (c : Dev nD) (t : Fin cfg0.N) (a b : FVec Ideal S512x512 .f32)
    (ha : ∀ (r i : Fin 512) (i' : Fin 1024), i'.val = 0 * 512 + i → a (ix2 r i) = DH m c (ix2 (row t r) i'))
    (hb : ∀ (r i : Fin 512) (i' : Fin 1024), i'.val = 1 * 512 + i → b (ix2 r i) = DH m c (ix2 (row t r) i')) : join a b = DHb m c t := by
  funext y
  idx_vars y
  by_cases h : y1.val < 512
  · exact (join_lo a b y0 ⟨y1, h⟩ y1 rfl).trans (ha _ _ _ (by simp))
  · exact (join_hi a b y0 ⟨y1 - 512, by omega⟩ y1 (by simp; omega)).trans (hb _ _ _ (by simp; omega))

end Cert.MlpIdeal.Block

end
-- ==== Proof.MlpGrad.lean ====
/- The gradient of the feed-forward layer: what the kernel leaves in its results. -/
module

public import Idealize.ShloMosaic.Lib.Pipeline.ValueKit
public import Idealize.ShloMosaic.Lib.Claim
public import proofs.«01_k».proof.Proof.MlpHalf
public import proofs.«01_k».proof.Proof.Rms

@[expose] public section

set_option maxRecDepth 16384

noncomputable section

namespace Cert.MlpIdeal.Grad

open Cert.MlpIdeal Cert.MlpIdeal.Gen Idealize.ShloMosaic Idealize.ShloMosaic.TcCoe Idealize.SL.Sem
open Idealize.ShloMosaic.Pipeline (Dat)
open Cert.MlpIdeal.Block
open Cert.MlpRefIdeal.Read

variable (m : (ℓ : Loc nD τ sig) → Buf (Elt Ideal) ℓ)

/-- Group `j` of the gradient of `UP`, as the body computes it. -/
abbrev P (c : Dev nD) (t : Fin cfg0.N) (j o : ℕ)
    (h : ∀ a : Fin S8x512x1024.rank, (![j, 0, 0] : Fin S8x512x1024.rank → ℕ) a + (![1, 512, 1024] : Fin S8x512x1024.rank → ℕ) a ≤ S8x512x1024.size a)
    (h' : ∀ a : Fin S512x4096.rank, (![0, o] : Fin S512x4096.rank → ℕ) a + (![512, 512] : Fin S512x4096.rank → ℕ) a ≤ S512x4096.size a) : FVec Ideal S512x512 .bf16 :=
  k0_pay6 (iblk m c 0 t) (LD m c t j h) (LA m c t o h')

/-- The left half of what the scratch buffer holds after the eight groups, and the right half. -/
abbrev lo (c : Dev nD) (t : Fin cfg0.N) : FVec Ideal S512x512 .f32 :=
  (k0_pay25 (P m c t 7 3584 inb_S8x512x1024_S1x512x1024_7_0_0 inb_S512x4096_S512x512_0_3584) (LU m c t 7 0 inb_S8x512x1024_S1x512x512_7_0_0)
      (k0_pay25 (P m c t 6 3072 inb_S8x512x1024_S1x512x1024_6_0_0 inb_S512x4096_S512x512_0_3072) (LU m c t 6 0 inb_S8x512x1024_S1x512x512_6_0_0)
      (k0_pay25 (P m c t 5 2560 inb_S8x512x1024_S1x512x1024_5_0_0 inb_S512x4096_S512x512_0_2560) (LU m c t 5 0 inb_S8x512x1024_S1x512x512_5_0_0)
      (k0_pay25 (P m c t 4 2048 inb_S8x512x1024_S1x512x1024_4_0_0 inb_S512x4096_S512x512_0_2048) (LU m c t 4 0 inb_S8x512x1024_S1x512x512_4_0_0)
      (k0_pay25 (P m c t 3 1536 inb_S8x512x1024_S1x512x1024_3_0_0 inb_S512x4096_S512x512_0_1536) (LU m c t 3 0 inb_S8x512x1024_S1x512x512_3_0_0)
      (k0_pay25 (P m c t 2 1024 inb_S8x512x1024_S1x512x1024_2_0_0 inb_S512x4096_S512x512_0_1024) (LU m c t 2 0 inb_S8x512x1024_S1x512x512_2_0_0)
      (k0_pay25 (P m c t 1 512 inb_S8x512x1024_S1x512x1024_1_0_0 inb_S512x4096_S512x512_0_512) (LU m c t 1 0 inb_S8x512x1024_S1x512x512_1_0_0)
      (k0_pay7 (iblk m c 0 t) (LD m c t 0 inb_S8x512x1024_S1x512x1024_0_0_0) (LA m c t 0 inb_S512x4096_S512x512_0_0) (LU m c t 0 0 inb_S8x512x1024_S1x512x512_0_0_0)))))))))

abbrev hi (c : Dev nD) (t : Fin cfg0.N) : FVec Ideal S512x512 .f32 :=
  (k0_pay25 (P m c t 7 3584 inb_S8x512x1024_S1x512x1024_7_0_0 inb_S512x4096_S512x512_0_3584) (LU m c t 7 512 inb_S8x512x1024_S1x512x512_7_0_512)
      (k0_pay25 (P m c t 6 3072 inb_S8x512x1024_S1x512x1024_6_0_0 inb_S512x4096_S512x512_0_3072) (LU m c t 6 512 inb_S8x512x1024_S1x512x512_6_0_512)
      (k0_pay25 (P m c t 5 2560 inb_S8x512x1024_S1x512x1024_5_0_0 inb_S512x4096_S512x512_0_2560) (LU m c t 5 512 inb_S8x512x1024_S1x512x512_5_0_512)
      (k0_pay25 (P m c t 4 2048 inb_S8x512x1024_S1x512x1024_4_0_0 inb_S512x4096_S512x512_0_2048) (LU m c t 4 512 inb_S8x512x1024_S1x512x512_4_0_512)
      (k0_pay25 (P m c t 3 1536 inb_S8x512x1024_S1x512x1024_3_0_0 inb_S512x4096_S512x512_0_1536) (LU m c t 3 512 inb_S8x512x1024_S1x512x512_3_0_512)
      (k0_pay25 (P m c t 2 1024 inb_S8x512x1024_S1x512x1024_2_0_0 inb_S512x4096_S512x512_0_1024) (LU m c t 2 512 inb_S8x512x1024_S1x512x512_2_0_512)
      (k0_pay25 (P m c t 1 512 inb_S8x512x1024_S1x512x1024_1_0_0 inb_S512x4096_S512x512_0_512) (LU m c t 1 512 inb_S8x512x1024_S1x512x512_1_0_512)
      (k0_pay7 (iblk m c 0 t) (LD m c t 0 inb_S8x512x1024_S1x512x1024_0_0_0) (LA m c t 0 inb_S512x4096_S512x512_0_0) (LU m c t 0 512 inb_S8x512x1024_S1x512x512_0_0_512)))))))))

theorem lo_at (c : Dev nD) (t : Fin cfg0.N) (r i : Fin 512) (i' : Fin 1024) (h : i'.val = 0 * 512 + i) : lo m c t (ix2 r i) = DH m c (ix2 (row t r) i') := by
  have e : i' = (⟨0 * 512 + i, by omega⟩ : Fin 1024) := Fin.ext h
  rw [e, DH_at]
  exact half_at (fun k => DUP m c (ix2 (row t r) k)) (fun k => WU m c (ix2 ⟨0 * 512 + i, by omega⟩ k)) r i
        (dup_at m c t 0 (by decide) _ _ r) (lu_at m c t 0 0 (by decide) (by decide) _ i)
        (dup_at m c t 1 (by decide) _ _ r) (lu_at m c t 1 0 (by decide) (by decide) _ i)
        (dup_at m c t 2 (by decide) _ _ r) (lu_at m c t 2 0 (by decide) (by decide) _ i)
        (dup_at m c t 3 (by decide) _ _ r) (lu_at m c t 3 0 (by decide) (by decide) _ i)
        (dup_at m c t 4 (by decide) _ _ r) (lu_at m c t 4 0 (by decide) (by decide) _ i)
        (dup_at m c t 5 (by decide) _ _ r) (lu_at m c t 5 0 (by decide) (by decide) _ i)
        (dup_at m c t 6 (by decide) _ _ r) (lu_at m c t 6 0 (by decide) (by decide) _ i)
        (dup_at m c t 7 (by decide) _ _ r) (lu_at m c t 7 0 (by decide) (by decide) _ i)

theorem hi_at (c : Dev nD) (t : Fin cfg0.N) (r i : Fin 512) (i' : Fin 1024) (h : i'.val = 1 * 512 + i) : hi m c t (ix2 r i) = DH m c (ix2 (row t r) i') := by
  have e : i' = (⟨1 * 512 + i, by omega⟩ : Fin 1024) := Fin.ext h
  rw [e, DH_at]
  exact half_at (fun k => DUP m c (ix2 (row t r) k)) (fun k => WU m c (ix2 ⟨1 * 512 + i, by omega⟩ k)) r i
        (dup_at m c t 0 (by decide) _ _ r) (lu_at m c t 0 1 (by decide) (by decide) _ i)
        (dup_at m c t 1 (by decide) _ _ r) (lu_at m c t 1 1 (by decide) (by decide) _ i)
        (dup_at m c t 2 (by decide) _ _ r) (lu_at m c t 2 1 (by decide) (by decide) _ i)
        (dup_at m c t 3 (by decide) _ _ r) (lu_at m c t 3 1 (by decide) (by decide) _ i)
        (dup_at m c t 4 (by decide) _ _ r) (lu_at m c t 4 1 (by decide) (by decide) _ i)
        (dup_at m c t 5 (by decide) _ _ r) (lu_at m c t 5 1 (by decide) (by decide) _ i)
        (dup_at m c t 6 (by decide) _ _ r) (lu_at m c t 6 1 (by decide) (by decide) _ i)
        (dup_at m c t 7 (by decide) _ _ r) (lu_at m c t 7 1 (by decide) (by decide) _ i)

/-- The scratch buffer after the eight groups. -/
theorem dh_eq (c : Dev nD) (t : Fin cfg0.N) : join (lo m c t) (hi m c t) = DHb m c t :=
  join_eq m c t _ _ (lo_at m c t) (hi_at m c t)

/-- The reference's gradient of the input. -/
abbrev DX (c : Dev nD) : FVec Ideal S8192x1024 .f32 := val_main_v53 (F := Ideal) (X m c) (G m c) (WU m c) (WD m c) (DY m c)

theorem DX_at (c : Dev nD) (R : Fin 8192) (i : Fin 1024) : DX m c (ix2 R i)
    = DY m c (ix2 R i) + Rms.back (fun k : Fin 1024 => X m c (ix2 R k)) (fun k => DH m c (ix2 R k) * G m c (ix2 0 k)) i := by
  rw [Rms.back_eq]
  pointwise [DX, val_main_v53, val_main_v51, val_main_v50, val_main_v49, val_main_v48, val_main_v47, val_main_v46, val_main_v45, val_main_v44, val_main_v43, val_main_v42, val_main_v41, val_main_v40, val_main_v39, val_main_v38, val_main_v37, val_main_v36, val_main_v10, val_main_v9, val_main_v8, val_main_v7, val_main_v6, val_main_v5, val_main_v4, val_main_v3, val_main_v2, val_main_v1, val_main_v0, val_main_cst_1, val_main_cst_2, val_main_cst_3, val_main_cst_4, val_main_cst_5, val_main_cst_6, val_main_cst_7, val_main_cst_8, val_main_cst_9, val_main_cst_10, val_main_cst_0, val_main_cst, Rms.scale, Rms.pull, Rms.meanSq]
  simp only [Fin.sum_univ_one]

/-- The stored rows of the gradient of the input. -/
theorem pay1_at (c : Dev nD) (t : Fin cfg0.N) (y : S512x1024.Idx) :
    k0_pay1 (F := Ideal) (k0_pay40 (iblk m c 1 t) (DHb m c t) (iblk m c 2 t)) (k0_pay41 (iblk m c 1 t)) (iblk m c 0 t) y = DX m c (ix2 (row t (y 0)) (y 1)) := by
  idx_vars y
  pointwise [k0_pay1, k0_pay40, k0_pay41, k0_pay39, k0_pay38]
  simp only [x_at, dy_at, g_at]
  exact (DX_at m c _ _).symm

theorem o7_eq (c : Dev nD) (t : Fin cfg0.N) (y : S512x1024.Idx) : (outsAt0 m c t.val t.isLt).2.1 y = DX m c (ix2 (row t (y 0)) (y 1)) := by
  by_cases h0 : t.val % 16 = 0
  · rw [outsAt0_A m c t h0]; frame_out
    simp only [↓read_lo, ↓read_hi, ↓read_all, lo1, hi1, lo2, hi2, lo3, hi3, hi4, lo5, hi5, lo6, hi6, lo7, hi7, first_hi, group1, group2, group3, group4, group5, group6, group7]
    rw [dh_eq m c t]
    exact pay1_at m c t y
  · rw [outsAt0_B m c t h0]; frame_out
    simp only [↓read_lo, ↓read_hi, ↓read_all, lo1, hi1, lo2, hi2, lo3, hi3, hi4, lo5, hi5, lo6, hi6, lo7, hi7, first_hi, group1, group2, group3, group4, group5, group6, group7]
    rw [dh_eq m c t]
    exact pay1_at m c t y

theorem o8_eq (c : Dev nD) (t : Fin cfg0.N) (y : S512x1024.Idx) : (outsAt0 m c t.val t.isLt).2.2.1 y = DX m c (ix2 (row t (y 0)) (y 1)) := by
  by_cases h0 : t.val % 16 = 0
  · rw [outsAt0_A m c t h0]; frame_out
    simp only [↓read_lo, ↓read_hi, ↓read_all, lo1, hi1, lo2, hi2, lo3, hi3, hi4, lo5, hi5, lo6, hi6, lo7, hi7, first_hi, group1, group2, group3, group4, group5, group6, group7]
    rw [dh_eq m c t]
    exact pay1_at m c t y
  · rw [outsAt0_B m c t h0]; frame_out
    simp only [↓read_lo, ↓read_hi, ↓read_all, lo1, hi1, lo2, hi2, lo3, hi3, hi4, lo5, hi5, lo6, hi6, lo7, hi7, first_hi, group1, group2, group3, group4, group5, group6, group7]
    rw [dh_eq m c t]
    exact pay1_at m c t y

/-- The reference's gradient of the gain. -/
abbrev DG (c : Dev nD) : FVec Ideal S1x1024 .f32 := val_main_v35 (F := Ideal) (X m c) (G m c) (WU m c) (WD m c) (DY m c)

theorem DG_at (c : Dev nD) (j : S1x1024.Idx) : DG m c j
    = ∑ R : Fin 8192, DH m c (ix2 R (j 1)) * (X m c (ix2 R (j 1)) * Rms.scale (fun k : Fin 1024 => X m c (ix2 R k))) := by
  pointwise [DG, val_main_v35, val_main_v34, val_main_v33, val_main_v12, val_main_v11, val_main_v10, val_main_v9, val_main_v8, val_main_v7, val_main_v6, val_main_v5, val_main_v4, val_main_v3,
    val_main_v2, val_main_v1, val_main_v0, val_main_cst, val_main_cst_0, val_main_cst_1, val_main_cst_2, val_main_cst_3, val_main_cst_4, val_main_cst_5, val_main_cst_6, val_main_cst_7, Rms.scale, Rms.meanSq]
  exact Finset.sum_congr rfl fun R _ => mul_comm _ _

/-- What a point adds to the gradient of the gain. -/
theorem pay4_at (c : Dev nD) (t : Fin cfg0.N) (prev : Vec Ideal S1x1024 .f32) (j : S1x1024.Idx) :
    k0_pay4 (F := Ideal) (DHb m c t) (k0_pay39 (iblk m c 1 t)) prev j
    = prev j + ∑ r : Fin 512, DH m c (ix2 (row t r) (j 1)) * (X m c (ix2 (row t r) (j 1)) * Rms.scale (fun k : Fin 1024 => X m c (ix2 (row t r) k))) := by
  idx_vars j
  pointwise [k0_pay4, k0_pay39, k0_pay38, Rms.scale, Rms.meanSq]
  simp only [x_at, DHb]
  exact congrArg (prev (ix2 j0 j1) + ·) (Finset.sum_congr rfl fun r _ => rfl)

/-- The gradient of the gain over the rows of one point. -/
def dgPart (c : Dev nD) (t : Fin cfg0.N) (j : S1x1024.Idx) : EReal :=
  ∑ r : Fin 512, DH m c (ix2 (row t r) (j 1)) * (X m c (ix2 (row t r) (j 1)) * Rms.scale (fun k : Fin 1024 => X m c (ix2 (row t r) k)))

theorem zero3 (j : S1x1024.Idx) : k0_pay3 (F := Ideal) j = 0 := by pointwise [k0_pay3]

theorem o9_A (c : Dev nD) (t : Fin cfg0.N) (h0 : t.val % 16 = 0) (j : S1x1024.Idx) :
    (outsAt0 m c t.val t.isLt).2.2.2 j = 0 + dgPart m c t j := by
  rw [outsAt0_A m c t h0]; frame_out
  simp only [↓read_lo, ↓read_hi, ↓read_all, lo1, hi1, lo2, hi2, lo3, hi3, hi4, lo5, hi5, lo6, hi6, lo7, hi7, first_hi, group1, group2, group3, group4, group5, group6, group7]
  rw [dh_eq m c t, pay4_at, zero3]
  rfl

theorem o9_B (c : Dev nD) (t : Fin cfg0.N) (h0 : ¬t.val % 16 = 0) (j : S1x1024.Idx) :
    (outsAt0 m c t.val t.isLt).2.2.2 j = (outsAt0 m c (t.val - 1) (by omega)).2.2.2 j + dgPart m c t j := by
  rw [outsAt0_B m c t h0]; frame_out
  simp only [↓read_lo, ↓read_hi, ↓read_all, lo1, hi1, lo2, hi2, lo3, hi3, hi4, lo5, hi5, lo6, hi6, lo7, hi7, first_hi, group1, group2, group3, group4, group5, group6, group7]
  rw [dh_eq m c t, pay4_at]
  rfl

/-- Every piece stored to the gradient of `UP` is that gradient's. -/
theorem piece_at (c : Dev nD) (t : Fin cfg0.N) (j : ℕ) (hj : j < 8) (h h') (x : S512x512.Idx) (y : S512x4096.Idx) (h0 : (y 0 : ℕ) = x 0) (h1 : (y 1 : ℕ) = j * 512 + x 1) :
    P m c t j (j * 512) h h' x = DUP m c (ix2 (row t (y 0)) (y 1)) := by
  idx_vars x
  refine (dup_at m c t j hj h h' x0 x1).trans (congrArg (DUP m c) (congrArg₂ ix2 (congrArg (row t) (Fin.ext h0.symm)) (Fin.ext h1.symm)))

theorem o6_eq (c : Dev nD) (t : Fin cfg0.N) (y : S512x4096.Idx) : (outsAt0 m c t.val t.isLt).1 y = DUP m c (ix2 (row t (y 0)) (y 1)) := by
  by_cases hA : t.val % 16 = 0
  · rw [outsAt0_A m c t hA]; frame_out
    simp only [group1, group2, group3, group4, group5, group6, group7]
    canon_tiles x h
    · exact piece_at m c t 7 (by decide) _ _ x y h0 (by omega)
    · exact piece_at m c t 6 (by decide) _ _ x y h0 (by omega)
    · exact piece_at m c t 5 (by decide) _ _ x y h0 (by omega)
    · exact piece_at m c t 4 (by decide) _ _ x y h0 (by omega)
    · exact piece_at m c t 3 (by decide) _ _ x y h0 (by omega)
    · exact piece_at m c t 2 (by decide) _ _ x y h0 (by omega)
    · exact piece_at m c t 1 (by decide) _ _ x y h0 (by omega)
    · exact piece_at m c t 0 (by decide) _ _ x y h0 (by omega)
  · rw [outsAt0_B m c t hA]; frame_out
    simp only [group1, group2, group3, group4, group5, group6, group7]
    canon_tiles x h
    · exact piece_at m c t 7 (by decide) _ _ x y h0 (by omega)
    · exact piece_at m c t 6 (by decide) _ _ x y h0 (by omega)
    · exact piece_at m c t 5 (by decide) _ _ x y h0 (by omega)
    · exact piece_at m c t 4 (by decide) _ _ x y h0 (by omega)
    · exact piece_at m c t 3 (by decide) _ _ x y h0 (by omega)
    · exact piece_at m c t 2 (by decide) _ _ x y h0 (by omega)
    · exact piece_at m c t 1 (by decide) _ _ x y h0 (by omega)
    · exact piece_at m c t 0 (by decide) _ _ x y h0 (by omega)

theorem final6 (c : Dev nD) : (dats m 0 c).arrAt 6 (cfgs 0).N = truncf .bf16 (DUP m c) bitsLt_bf16_f32 := by
  refine (dats m 0 c).arrAt_eq_of_covers 6 _ (by decide +kernel) fun t _ y => ?_
  blk_simp
  rw [after0_6, o6_eq]
  refine Eq.trans ?_ (show DUP m c _ = truncf .bf16 (DUP m c) bitsLt_bf16_f32 _ from rfl)
  generalize DUP m c = Z
  blk_ext [idx t, row]

theorem final7 (c : Dev nD) : (dats m 0 c).arrAt 7 (cfgs 0).N = DX m c := by
  refine (dats m 0 c).arrAt_eq_of_covers 7 _ (by decide +kernel) fun t _ y => ?_
  blk_simp
  rw [after0_7, o7_eq]
  generalize DX m c = Z
  blk_ext [idx t, row]

theorem final8 (c : Dev nD) : (dats m 0 c).arrAt 8 (cfgs 0).N = truncf .bf16 (DX m c) bitsLt_bf16_f32 := by
  refine (dats m 0 c).arrAt_eq_of_covers 8 _ (by decide +kernel) fun t _ y => ?_
  blk_simp
  rw [after0_8, o8_eq]
  refine Eq.trans ?_ (show DX m c _ = truncf .bf16 (DX m c) bitsLt_bf16_f32 _ from rfl)
  generalize DX m c = Z
  blk_ext [idx t, row]

theorem final9 (c : Dev nD) : (dats m 0 c).arrAt 9 (cfgs 0).N = DG m c := by
  refine (dats m 0 c).arrAt_eq_of_after_last 9 t0_15 (by decide +kernel) _ fun j => ?_
  blk_simp
  rw [after0_9, Pipeline.eq_sum_fin_of_reset_step_apply_last (fun n h => (outsAt0 m c n h).2.2.2) 16 (fun _ => 0) (fun p j => dgPart m c p j)
    (o9_A m c) (o9_B m c) (le_of_eq N_0) t0_15 rfl j, zero_add, DG_at]
  idx_vars j
  refine Fin.sum_mul_add_congr fun t r hl => ?_
  rfl

end Cert.MlpIdeal.Grad

end
-- ==== Proof.Mlp.lean ====
/- The claims about the gradient of the feed-forward layer: the runs of the kernel and of its reference,
   joined by the equalities of `MlpGrad`. -/
module

public import proofs.«01_k».proof.Defs
public import proofs.«01_k».proof.Proof.Gen.Mlp.Frame
public import proofs.«01_k».proof.Proof.Gen.MlpIdeal.Frame
public import proofs.«01_k».proof.Proof.Gen.MlpRefIdeal.Run
public import proofs.«01_k».proof.Proof.MlpGrad

@[expose] public section

set_option maxRecDepth 16384

noncomputable section

namespace Cert.Mlp.Claims

open Idealize.ShloMosaic Idealize.ShloMosaic.TcCoe Idealize.SL.Sem

set_option maxHeartbeats 2000000 in
open Cert.MlpRefIdeal.Read Cert.MlpIdeal.Grad in
/-- Kernel and reference compute the same four arrays. -/
theorem algebraic : Cert.algebraic_MlpIdeal_MlpRefIdeal := by
  pair_intro
  · run_from Cert.MlpIdeal.Gen.run_main m g
    · exact Cert.MlpIdeal.Gen.V_main_arg2 m c
    · exact Cert.MlpIdeal.Gen.V_main_arg3 m c
  · refine (θ_run Cert.MlpRefIdeal.defs _ _).mono (fun r h c => ?_) (Cert.MlpRefIdeal.Value.run m' g')
    have a0 := (hagree c).1
    have a1 := (hagree c).2.1
    have a2 := (hagree c).2.2.1
    have a3 := (hagree c).2.2.2.1
    have a4 := (hagree c).2.2.2.2
    refine ⟨(h c).1.trans ?_, (h c).2.1.trans ?_, (h c).2.2.1.trans ?_, (h c).2.2.2.1.trans ?_, (h c).2.2.2.2⟩
    · refine (val_main_v52_eq _ _ _ _ _).trans ?_
      rw [a0, a1, a2, a3, a4]; exact (final6 m c).symm
    · rw [val_main_v53_eq, a0, a1, a2, a3, a4]; exact (final7 m c).symm
    · rw [val_main_v55_eq, a0, a1, a2, a3, a4]; exact (final8 m c).symm
    · refine (val_main_v35_eq _ _ _ _ _).trans ?_
      rw [a0, a1, a2, a3, a4]; exact (final9 m c).symm

/-- The reference terminates, keeps its arguments and leaves every counter at zero. -/
theorem reference_frame : Cert.quiescent_MlpRefIdeal := fun m g _ =>
  (θ_run Cert.MlpRefIdeal.defs _ _).mono (fun r h => ⟨fun c => (h c).2.2.2.2, sem_eq_zero_of_no_sems (by decide) r.2⟩)
    (Cert.MlpRefIdeal.Value.run m g)

end Cert.Mlp.Claims

end
-- ==== Proof.DownGrad.lean ====
/- The gradient of the feed-forward layer's second weight: the blocks the kernel is given and what it leaves in its result. -/
module

public import proofs.«01_k».proof.Proof.Gen.DownIdeal.Value
public import proofs.«01_k».proof.Proof.Gen.DownRefIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.DownIdeal.Grad

open Cert.DownIdeal Cert.DownIdeal.Gen Idealize.ShloMosaic Idealize.ShloMosaic.TcCoe Idealize.SL.Sem
open Idealize.ShloMosaic.Pipeline (Dat)
open Cert.DownRefIdeal.Read

variable (m : (ℓ : Loc nD τ sig) → Buf (Elt Ideal) ℓ)

/-- The input, the gain, the two weights and the cotangent of the layer's output. -/
abbrev X (c : Dev nD) : FVec Ideal S8192x1024 .f32 := m ((c : Thread nD τ).loc main_arg0)
abbrev G (c : Dev nD) : FVec Ideal S1x1024 .f32 := m ((c : Thread nD τ).loc main_arg1)
abbrev WU (c : Dev nD) : FVec Ideal S1024x4096 .f32 := m ((c : Thread nD τ).loc main_arg2)
abbrev DY (c : Dev nD) : FVec Ideal S8192x1024 .f32 := m ((c : Thread nD τ).loc main_arg4)

/-- The layer's inner values after the squared ReLU, as the reference computes them. -/
abbrev ACT (c : Dev nD) : FVec Ideal S8192x4096 .f32 := val_main_v14 (F := Ideal) (X m c) (G m c) (WU m c)

/-- The reference's gradient of the second weight, `ACTᵀ · DY`. -/
abbrev DW (c : Dev nD) : FVec Ideal S4096x1024 .f32 := val_main_v17 (F := Ideal) (X m c) (G m c) (WU m c) (DY m c)

/-- Every window's block index at every grid point. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

/-- The row of the array that row `r` of point `t`'s blocks is, and the column of the activation that column `k` is. -/
def row (t : Fin cfg0.N) (r : Fin 4096) : Fin 8192 := ⟨t.val % 2 * 4096 + r.val, by omega⟩
def col (t : Fin cfg0.N) (k : Fin 512) : Fin 4096 := ⟨t.val / 2 * 512 + k.val, by have := lt_of_lt_of_eq t.isLt N_0; omega⟩

/-- The saved activation is the reference's. -/
theorem entry_act (c : Dev nD) : V m c main_v15 = truncf .bf16 (ACT m c) bitsLt_bf16_f32 := by
  entry_read
  rfl

theorem entry_dy (c : Dev nD) : V m c main_v16 = truncf .bf16 (DY m c) bitsLt_bf16_f32 := by
  entry_read
  rfl

theorem act_at (c : Dev nD) (t : Fin cfg0.N) (r : Fin 4096) (k : Fin 512) : iblk m c 0 t (ix2 r k) = ACT m c (ix2 (row t r) (col t k)) := by
  blk_simp [iblk, idx t]
  rw [entry_act]
  show ACT m c _ = _
  generalize ACT m c = Z
  blk_ext [idx t, row, col]

theorem dy_at (c : Dev nD) (t : Fin cfg0.N) (r : Fin 4096) (k : Fin 1024) : iblk m c 1 t (ix2 r k) = DY m c (ix2 (row t r) k) := by
  blk_simp [iblk, idx t]
  rw [entry_dy]
  show DY m c _ = _
  generalize DY m c = Z
  blk_ext [idx t, row]

theorem DW_at (c : Dev nD) (f : Fin 4096) (i : Fin 1024) : DW m c (ix2 f i) = ∑ R : Fin 8192, ACT m c (ix2 R f) * DY m c (ix2 R i) := by
  pointwise [DW, val_main_v17, val_main_v16]
  exact Finset.sum_congr rfl fun R _ => mul_comm _ _

/-- What a point adds to its block of the gradient. -/
def part (c : Dev nD) (t : Fin cfg0.N) (y : S512x1024.Idx) : EReal :=
  ∑ r : Fin 4096, ACT m c (ix2 (row t r) (col t (y 0))) * DY m c (ix2 (row t r) (y 1))

theorem pay2_at (c : Dev nD) (t : Fin cfg0.N) (z : Vec Ideal S512x1024 .f32) (y : S512x1024.Idx) :
    k0_pay2 (F := Ideal) z (iblk m c 0 t) (iblk m c 1 t) y = z y + part m c t y := by
  idx_vars y
  pointwise [k0_pay2]
  simp only [act_at, dy_at]
  rfl

theorem zero1 (y : S512x1024.Idx) : k0_pay1 (F := Ideal) y = 0 := by pointwise [k0_pay1]

/-- The accumulator after the first point of a block. -/
theorem acc_A (c : Dev nD) (t : Fin cfg0.N) (h0 : t.val % 2 = 0) (y : S512x1024.Idx) : (outsAt0 m c t.val t.isLt).2 y = part m c t y := by
  rw [outsAt0_A m c t h0 (by omega)]; frame_out
  rw [pay2_at, zero1, zero_add]

/-- What the second point of a block writes back. -/
theorem out_B (c : Dev nD) (t : Fin cfg0.N) (h1 : t.val % 2 = 1) (y : S512x1024.Idx) :
    (outsAt0 m c t.val t.isLt).1 y = (outsAt0 m c (t.val - 1) (by omega)).2 y + part m c t y := by
  rw [outsAt0_B m c t (by omega) h1]; frame_out
  refine (pay2_at m c t _ y).trans ?_
  rw [read_unread_whole]

theorem out_eq (c : Dev nD) (t : Fin cfg0.N) (h1 : t.val % 2 = 1) (y : S512x1024.Idx) :
    (outsAt0 m c t.val t.isLt).1 y = DW m c (ix2 (col t (y 0)) (y 1)) := by
  have hN := lt_of_lt_of_eq t.isLt N_0
  rw [out_B m c t h1, acc_A m c ⟨t.val - 1, by omega⟩ (by show (t.val - 1) % 2 = 0; omega)]
  idx_vars y
  refine Eq.trans ?_ (DW_at m c _ _).symm
  refine Eq.symm ((Fin.sum_univ_tiles 2 4096 rfl _).trans ?_)
  rw [Fin.sum_univ_two]
  unfold part
  generalize ACT m c = Z
  generalize DY m c = W
  refine congrArg₂ (· + ·) ?_ ?_
  all_goals refine Finset.sum_congr rfl fun x _ => congrArg₂ (· * ·) (congrArg Z ?_) (congrArg W ?_) <;> blk_ext [row, col]

theorem final2 (c : Dev nD) : (dats m 0 c).arrAt 2 (cfgs 0).N = truncf .bf16 (DW m c) bitsLt_bf16_f32 := by
  refine (dats m 0 c).arrAt_eq_of_covers 2 _ (by decide +kernel) fun t hf y => ?_
  blk_simp
  rw [after0_2, out_eq m c t ((flush0_2 t).mp hf)]
  refine Eq.trans ?_ (show DW m c _ = truncf .bf16 (DW m c) bitsLt_bf16_f32 _ from rfl)
  generalize DW m c = Z
  blk_ext [idx t, col]

end Cert.DownIdeal.Grad

end
-- ==== Proof.Down.lean ====
/- The claims about the gradient of the feed-forward layer's second weight: the runs of the kernel and of its reference,
   joined by the equality of `DownGrad`. -/
module

public import proofs.«01_k».proof.Defs
public import proofs.«01_k».proof.Proof.Gen.Down.Frame
public import proofs.«01_k».proof.Proof.Gen.DownIdeal.Frame
public import proofs.«01_k».proof.Proof.Gen.DownRefIdeal.Run
public import proofs.«01_k».proof.Proof.DownGrad

@[expose] public section

set_option maxRecDepth 16384

noncomputable section

namespace Cert.Down.Claims

open Idealize.ShloMosaic Idealize.ShloMosaic.TcCoe Idealize.SL.Sem

set_option maxHeartbeats 2000000 in
open Cert.DownRefIdeal.Read Cert.DownIdeal.Grad in
/-- Kernel and reference compute the same array. -/
theorem algebraic : Cert.algebraic_DownIdeal_DownRefIdeal := by
  pair_intro
  · run_from Cert.DownIdeal.Gen.run_main m g
    · exact Cert.DownIdeal.Gen.V_main_arg0 m c
    · exact Cert.DownIdeal.Gen.V_main_arg1 m c
    · exact Cert.DownIdeal.Gen.V_main_arg2 m c
    · exact Cert.DownIdeal.Gen.V_main_arg3 m c
    · exact Cert.DownIdeal.Gen.V_main_arg4 m c
  · refine (θ_run Cert.DownRefIdeal.defs _ _).mono (fun r h c => ?_) (Cert.DownRefIdeal.Value.run m' g')
    have a0 := (hagree c).1
    have a1 := (hagree c).2.1
    have a2 := (hagree c).2.2.1
    have a3 := (hagree c).2.2.2.1
    have a4 := (hagree c).2.2.2.2
    refine ⟨(h c).1.trans ?_, (h c).2⟩
    refine (val_main_v19_eq _ _ _ _).trans ?_
    rw [a0, a1, a2, a4]; exact (final2 m c).symm

/-- The reference terminates, keeps its arguments and leaves every counter at zero. -/
theorem reference_frame : Cert.quiescent_DownRefIdeal := fun m g _ =>
  (θ_run Cert.DownRefIdeal.defs _ _).mono (fun r h => ⟨fun c => (h c).2, sem_eq_zero_of_no_sems (by decide) r.2⟩)
    (Cert.DownRefIdeal.Value.run m g)

end Cert.Down.Claims

end
-- ==== Proof.UpGrad.lean ====
/- The gradient of the feed-forward layer's first weight: the blocks the kernel is given and what it leaves in its result. -/
module

public import proofs.«01_k».proof.Proof.Gen.UpIdeal.Value
public import proofs.«01_k».proof.Proof.Gen.UpRefIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.UpIdeal.Grad

open Cert.UpIdeal Cert.UpIdeal.Gen Idealize.ShloMosaic Idealize.ShloMosaic.TcCoe Idealize.SL.Sem
open Idealize.ShloMosaic.Pipeline (Dat)
open Cert.UpRefIdeal.Read

variable (m : (ℓ : Loc nD τ sig) → Buf (Elt Ideal) ℓ)

/-- The input, the gain, the two weights and the cotangent of the layer's output. -/
abbrev X (c : Dev nD) : FVec Ideal S8192x1024 .f32 := m ((c : Thread nD τ).loc main_arg0)
abbrev G (c : Dev nD) : FVec Ideal S1x1024 .f32 := m ((c : Thread nD τ).loc main_arg1)
abbrev WU (c : Dev nD) : FVec Ideal S1024x4096 .f32 := m ((c : Thread nD τ).loc main_arg2)
abbrev WD (c : Dev nD) : FVec Ideal S4096x1024 .f32 := m ((c : Thread nD τ).loc main_arg3)
abbrev DY (c : Dev nD) : FVec Ideal S8192x1024 .f32 := m ((c : Thread nD τ).loc main_arg4)

/-- The normalised input, as the reference computes it. -/
abbrev H (c : Dev nD) : FVec Ideal S8192x1024 .f32 := val_main_v14 (F := Ideal) (X m c) (G m c)

/-- The reference's gradient of the layer's inner values. -/
abbrev DUP (c : Dev nD) : FVec Ideal S8192x4096 .f32 := val_main_v29 (F := Ideal) (X m c) (G m c) (WU m c) (WD m c) (DY m c)

/-- The reference's gradient of the first weight, `Hᵀ · DUP`, laid out in eight groups of columns with the two halves of the rows side by side. -/
abbrev DW (c : Dev nD) : FVec Ideal S8x512x1024 .f32 := val_main_v54 (F := Ideal) (X m c) (G m c) (WU m c) (WD m c) (DY m c)

/-- Every window's block index at every grid point. -/
theorem idx : ∀ t : Fin cfg0.N, win0_0.index t = ![t.val % 2, t.val / 8] ∧ win0_1.index t = ![t.val % 2, t.val / 2 % 4]
    ∧ win0_2.index t = ![t.val / 2 % 4, 0, t.val / 8] :=
  (by decide +kernel : ∀ t : Fin grid0.N, _)

/-- The row of the arrays that row `r` of point `t`'s blocks is, the column of the input that column `k` is, and that of the inner values. -/
def row (t : Fin cfg0.N) (r : Fin 4096) : Fin 8192 := ⟨t.val % 2 * 4096 + r.val, by omega⟩
def col (t : Fin cfg0.N) (k : Fin 512) : Fin 1024 := ⟨t.val / 8 * 512 + k.val, by have := lt_of_lt_of_eq t.isLt N_0; omega⟩
def inner (t : Fin cfg0.N) (k : Fin 1024) : Fin 4096 := ⟨t.val / 2 % 4 * 1024 + k.val, by omega⟩

/-- The normalised input and the gradient of the inner values, as the kernel takes them. -/
theorem entry_h (c : Dev nD) : V m c main_v39 = truncf .bf16 (H m c) bitsLt_bf16_f32 := by
  entry_read
  rfl

theorem entry_dup (c : Dev nD) : V m c main_v40 = truncf .bf16 (DUP m c) bitsLt_bf16_f32 := by
  entry_read
  rfl

theorem h_at (c : Dev nD) (t : Fin cfg0.N) (r : Fin 4096) (k : Fin 512) : iblk m c 0 t (ix2 r k) = H m c (ix2 (row t r) (col t k)) := by
  blk_simp [iblk, idx t]
  rw [entry_h]
  show H m c _ = _
  generalize H m c = Z
  blk_ext [idx t, row, col]

theorem dup_at (c : Dev nD) (t : Fin cfg0.N) (r : Fin 4096) (k : Fin 1024) : iblk m c 1 t (ix2 r k) = DUP m c (ix2 (row t r) (inner t k)) := by
  blk_simp [iblk, idx t]
  rw [entry_dup]
  show DUP m c _ = _
  generalize DUP m c = Z
  blk_ext [idx t, row, inner]

theorem DW_at (c : Dev nD) (g : Fin 8) (r : Fin 512) (z : Fin 1024) : DW m c (ix3 g r z)
    = ∑ R : Fin 8192, H m c (ix2 R ⟨z / 512 * 512 + r, by omega⟩) * DUP m c (ix2 R ⟨g * 512 + z % 512, by omega⟩) := by
  pointwise [DW, val_main_v54, val_main_v53, val_main_v52, val_main_v31, val_main_v30]
  exact Finset.sum_congr rfl fun R _ => mul_comm _ _

/-- What a point adds to its block of the gradient. -/
def part (c : Dev nD) (t : Fin cfg0.N) (r : Fin 512) (k : Fin 1024) : EReal :=
  ∑ x : Fin 4096, H m c (ix2 (row t x) (col t r)) * DUP m c (ix2 (row t x) (inner t k))

theorem pay2_at (c : Dev nD) (t : Fin cfg0.N) (z : Vec Ideal S512x1024 .f32) (r : Fin 512) (k : Fin 1024) :
    k0_pay2 (F := Ideal) z (iblk m c 0 t) (iblk m c 1 t) (ix2 r k) = z (ix2 r k) + part m c t r k := by
  pointwise [k0_pay2]
  simp only [h_at, dup_at]
  rfl

theorem zero1 (y : S512x1024.Idx) : k0_pay1 (F := Ideal) y = 0 := by pointwise [k0_pay1]

/-- The accumulator after the first point of a block. -/
theorem acc_A (c : Dev nD) (t : Fin cfg0.N) (h0 : t.val % 2 = 0) (r : Fin 512) (k : Fin 1024) : (outsAt0 m c t.val t.isLt).2 (ix2 r k) = part m c t r k := by
  rw [outsAt0_A m c t h0 (by omega)]; frame_out
  rw [pay2_at, zero1, zero_add]

/-- What the second point of a block writes back: the two groups of columns one after the other. -/
theorem out_B (c : Dev nD) (t : Fin cfg0.N) (h1 : t.val % 2 = 1) (y : S2x512x512.Idx) :
    (outsAt0 m c t.val t.isLt).1 y = (outsAt0 m c (t.val - 1) (by omega)).2 (ix2 (y 1) ⟨(y 0).val * 512 + (y 2).val, by have := (y 0).isLt; have := (y 2).isLt; simp at *; omega⟩)
      + part m c t (y 1) ⟨(y 0).val * 512 + (y 2).val, by have := (y 0).isLt; have := (y 2).isLt; simp at *; omega⟩ := by
  rw [outsAt0_B m c t (by omega) h1]; frame_out
  rw [read_unread_whole]
  generalize (outsAt0 m c (t.val - 1) _).2 = P
  clear h1
  canon_tiles x h
  · simp (disch := decide) only [↓View.readCov_fill]
    refine Eq.trans ?_ (pay2_at m c t P _ _)
    generalize k0_pay2 (F := Ideal) P (iblk m c 0 t) (iblk m c 1 t) = Q
    pointwise [k0_pay4]
    blk_ext
  · simp (disch := decide) only [↓View.readCov_fill]
    refine Eq.trans ?_ (pay2_at m c t P _ _)
    generalize k0_pay2 (F := Ideal) P (iblk m c 0 t) (iblk m c 1 t) = Q
    pointwise [k0_pay3]
    blk_ext

theorem out_eq (c : Dev nD) (t : Fin cfg0.N) (h1 : t.val % 2 = 1) (g : Fin 2) (r z : Fin 512) :
    (outsAt0 m c t.val t.isLt).1 (ix3 g r z) = DW m c (ix3 ⟨t.val / 2 % 4 * 2 + g, by omega⟩ r ⟨t.val / 8 * 512 + z, by have := lt_of_lt_of_eq t.isLt N_0; omega⟩) := by
  have hN := lt_of_lt_of_eq t.isLt N_0
  rw [out_B m c t h1]
  refine Eq.trans (congrArg (· + _) (acc_A m c ⟨t.val - 1, by omega⟩ (by show (t.val - 1) % 2 = 0; omega) _ _)) ?_
  refine Eq.trans ?_ (DW_at m c _ _ _).symm
  refine Eq.symm ((Fin.sum_univ_tiles 2 4096 rfl _).trans ?_)
  rw [Fin.sum_univ_two]
  unfold part
  generalize H m c = Z
  generalize DUP m c = W
  refine congrArg₂ (· + ·) ?_ ?_
  all_goals refine Finset.sum_congr rfl fun x _ => congrArg₂ (· * ·) (congrArg Z ?_) (congrArg W ?_) <;> blk_ext [row, col, inner]

theorem final2 (c : Dev nD) : (dats m 0 c).arrAt 2 (cfgs 0).N = truncf .bf16 (DW m c) bitsLt_bf16_f32 := by
  refine (dats m 0 c).arrAt_eq_of_covers 2 _ (by decide +kernel) fun t hf y => ?_
  blk_simp
  rw [after0_2]
  refine Eq.trans ?_ (show DW m c _ = truncf .bf16 (DW m c) bitsLt_bf16_f32 _ from rfl)
  idx_vars y
  refine (out_eq m c t ((flush0_2 t).mp hf) y0 y1 y2).trans ?_
  generalize DW m c = Z
  blk_ext [idx t]

end Cert.UpIdeal.Grad

end
-- ==== Proof.Up.lean ====
/- The claims about the gradient of the feed-forward layer's first weight: the runs of the kernel and of its reference,
   joined by the equality of `UpGrad`. -/
module

public import proofs.«01_k».proof.Defs
public import proofs.«01_k».proof.Proof.Gen.Up.Frame
public import proofs.«01_k».proof.Proof.Gen.UpIdeal.Frame
public import proofs.«01_k».proof.Proof.Gen.UpRefIdeal.Run
public import proofs.«01_k».proof.Proof.UpGrad

@[expose] public section

set_option maxRecDepth 16384

noncomputable section

namespace Cert.Up.Claims

open Idealize.ShloMosaic Idealize.ShloMosaic.TcCoe Idealize.SL.Sem

set_option maxHeartbeats 2000000 in
open Cert.UpRefIdeal.Read Cert.UpIdeal.Grad in
/-- Kernel and reference compute the same array. -/
theorem algebraic : Cert.algebraic_UpIdeal_UpRefIdeal := by
  pair_intro
  · run_from Cert.UpIdeal.Gen.run_main m g
    · exact Cert.UpIdeal.Gen.V_main_arg0 m c
    · exact Cert.UpIdeal.Gen.V_main_arg1 m c
    · exact Cert.UpIdeal.Gen.V_main_arg2 m c
    · exact Cert.UpIdeal.Gen.V_main_arg3 m c
    · exact Cert.UpIdeal.Gen.V_main_arg4 m c
  · refine (θ_run Cert.UpRefIdeal.defs _ _).mono (fun r h c => ?_) (Cert.UpRefIdeal.Value.run m' g')
    have a0 := (hagree c).1
    have a1 := (hagree c).2.1
    have a2 := (hagree c).2.2.1
    have a3 := (hagree c).2.2.2.1
    have a4 := (hagree c).2.2.2.2
    refine ⟨(h c).1.trans ?_, (h c).2⟩
    refine (val_main_v55_eq _ _ _ _ _).trans ?_
    rw [a0, a1, a2, a3, a4]; exact (final2 m c).symm

/-- The reference terminates, keeps its arguments and leaves every counter at zero. -/
theorem reference_frame : Cert.quiescent_UpRefIdeal := fun m g _ =>
  (θ_run Cert.UpRefIdeal.defs _ _).mono (fun r h => ⟨fun c => (h c).2, sem_eq_zero_of_no_sems (by decide) r.2⟩)
    (Cert.UpRefIdeal.Value.run m g)

end Cert.Up.Claims

end
-- ==== Proof.LossBlock.lean ====
/- The last feed-forward layer with the loss head: the blocks the kernel is given, and the values of its body at an index. -/
module

public import proofs.«01_k».proof.Proof.Gen.LossIdeal.Value
public import proofs.«01_k».proof.Proof.Gen.LossRefIdeal.Read
public import Idealize.ShloMosaic.Lib.Pipeline.ValueKit
public import Idealize.ShloMosaic.Lib.Claim

@[expose] public section

set_option maxRecDepth 16384

noncomputable section

namespace Cert.LossIdeal.Block

open Cert.LossIdeal Cert.LossIdeal.Gen Idealize.ShloMosaic Idealize.ShloMosaic.TcCoe Idealize.SL.Sem
open Idealize.ShloMosaic.Pipeline (Dat)
open Cert.LossRefIdeal.Read

variable (m : (ℓ : Loc nD τ sig) → Buf (Elt Ideal) ℓ)

/-- The input, the gain, the two weights and the target. -/
abbrev X (c : Dev nD) : FVec Ideal S8192x1024 .f32 := m ((c : Thread nD τ).loc main_arg0)
abbrev G (c : Dev nD) : FVec Ideal S1x1024 .f32 := m ((c : Thread nD τ).loc main_arg1)
abbrev WU (c : Dev nD) : FVec Ideal S1024x4096 .f32 := m ((c : Thread nD τ).loc main_arg2)
abbrev WD (c : Dev nD) : FVec Ideal S4096x1024 .f32 := m ((c : Thread nD τ).loc main_arg3)
abbrev TG (c : Dev nD) : FVec Ideal S8192x1024 .f32 := m ((c : Thread nD τ).loc main_arg4)

/-- The normalised input, as the reference computes it. -/
abbrev H (c : Dev nD) : FVec Ideal S8192x1024 .f32 := val_main_v11 (F := Ideal) (X m c) (G m c)

/-- The layer's inner values after the squared ReLU. -/
abbrev ACT (c : Dev nD) : FVec Ideal S8192x4096 .f32 := val_main_v14 (F := Ideal) (X m c) (G m c) (WU m c)

/-- The layer's output less the target. -/
abbrev DIFF (c : Dev nD) : FVec Ideal S8192x1024 .f32 := val_main_v17 (F := Ideal) (X m c) (G m c) (WU m c) (WD m c) (TG m c)

/-- The gradient of the loss by the layer's output. -/
abbrev DY (c : Dev nD) : FVec Ideal S8192x1024 .f32 := val_main_v31 (F := Ideal) (X m c) (G m c) (WU m c) (WD m c) (TG m c)

/-- The column sums of the squared differences. -/
abbrev SQ (c : Dev nD) : FVec Ideal S1x1024 .f32 := val_main_v38 (F := Ideal) (X m c) (G m c) (WU m c) (WD m c) (TG m c)

/-- Every window's block index at every grid point. -/
theorem idx : ∀ t : Fin cfg0.N, win0_0.index t = ![t.val, 0] ∧ win0_1.index t = ![0, 0] ∧ win0_2.index t = ![0, 0, 0]
    ∧ win0_3.index t = ![0, 0, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![0, 0] :=
  (by decide +kernel : ∀ t : Fin grid0.N, _)

/-- The row of the array that row `r` of point `t`'s block is. -/
def row (t : Fin cfg0.N) (r : Fin 512) : Fin 8192 := ⟨t.val * 512 + r.val, by have := lt_of_lt_of_eq t.isLt N_0; omega⟩

/-- The first weight as the kernel takes it: eight groups of columns, the two halves of the rows side by side. -/
theorem entry_wu (c : Dev nD) (j : Fin 8) (r : Fin 512) (k : Fin 1024) : V m c main_v3 (ix3 j r k)
    = WU m c (ix2 ⟨k / 512 * 512 + r, by omega⟩ ⟨j * 512 + k % 512, by omega⟩) := by
  entry_read; pointwise

/-- The second weight as the kernel takes it: eight groups of rows. -/
theorem entry_wd (c : Dev nD) (j : Fin 8) (r : Fin 512) (k : Fin 1024) : V m c main_v5 (ix3 j r k)
    = WD m c (ix2 ⟨j * 512 + r, by omega⟩ k) := by
  entry_read; pointwise

/-! The blocks, read at an index. -/

theorem x_at (c : Dev nD) (t : Fin cfg0.N) (r : Fin 512) (k : Fin 1024) : iblk m c 0 t (ix2 r k) = X m c (ix2 (row t r) k) := by
  blk_ext [iblk, V, idx t, row]

theorem g_at (c : Dev nD) (t : Fin cfg0.N) (k : Fin 1024) : iblk m c 1 t (ix2 0 k) = G m c (ix2 0 k) := by
  blk_ext [iblk, V, idx t]

theorem wu_at (c : Dev nD) (t : Fin cfg0.N) (j : Fin 8) (r : Fin 512) (k : Fin 1024) : iblk m c 2 t (ix3 j r k)
    = WU m c (ix2 ⟨k / 512 * 512 + r, by omega⟩ ⟨j * 512 + k % 512, by omega⟩) := by
  refine Eq.trans ?_ (entry_wu m c j r k)
  blk_simp [iblk, idx t]
  generalize V m c main_v3 = Z
  blk_ext [idx t]

theorem wd_at (c : Dev nD) (t : Fin cfg0.N) (j : Fin 8) (r : Fin 512) (k : Fin 1024) : iblk m c 3 t (ix3 j r k)
    = WD m c (ix2 ⟨j * 512 + r, by omega⟩ k) := by
  refine Eq.trans ?_ (entry_wd m c j r k)
  blk_simp [iblk, idx t]
  generalize V m c main_v5 = Z
  blk_ext [idx t]

theorem tg_at (c : Dev nD) (t : Fin cfg0.N) (r : Fin 512) (k : Fin 1024) : iblk m c 4 t (ix2 r k) = TG m c (ix2 (row t r) k) := by
  blk_ext [iblk, V, idx t, row]

/-- Half of a group of the first weight, as the body loads it. -/
abbrev LU (c : Dev nD) (t : Fin cfg0.N) (j o : ℕ)
    (h : ∀ a : Fin S8x512x1024.rank, (![j, 0, o] : Fin S8x512x1024.rank → ℕ) a + (![1, 512, 512] : Fin S8x512x1024.rank → ℕ) a ≤ S8x512x1024.size a) : Vec Ideal S1x512x512 .bf16 :=
  View.ld (Val := Elt Ideal) (S := S8x512x1024) (e' := .bf16) (iblk m c 2 t) (Rect.unit (s := S8x512x1024) ![j, 0, o] ![1, 512, 512] h)

/-- A group of the second weight. -/
abbrev LD (c : Dev nD) (t : Fin cfg0.N) (j : ℕ)
    (h : ∀ a : Fin S8x512x1024.rank, (![j, 0, 0] : Fin S8x512x1024.rank → ℕ) a + (![1, 512, 1024] : Fin S8x512x1024.rank → ℕ) a ≤ S8x512x1024.size a) : Vec Ideal S1x512x1024 .bf16 :=
  View.ld (Val := Elt Ideal) (S := S8x512x1024) (e' := .bf16) (iblk m c 3 t) (Rect.unit (s := S8x512x1024) ![j, 0, 0] ![1, 512, 1024] h)

theorem lu_at (c : Dev nD) (t : Fin cfg0.N) (j q : ℕ) (hj : j < 8) (hq : q < 2) (h) (r k : Fin 512) :
    LU m c t j (q * 512) h (ix3 (0 : Fin 1) r k) = WU m c (ix2 ⟨q * 512 + r, by omega⟩ ⟨j * 512 + k, by omega⟩) := by
  unfold LU
  pointwise
  refine (wu_at m c t _ _ _).trans ?_
  generalize WU m c = Z
  congr 1
  blk_ext

theorem ld_at (c : Dev nD) (t : Fin cfg0.N) (j : ℕ) (hj : j < 8) (h) (r : Fin 512) (k : Fin 1024) :
    LD m c t j h (ix3 (0 : Fin 1) r k) = WD m c (ix2 ⟨j * 512 + r, by omega⟩ k) := by
  unfold LD
  pointwise
  refine (wd_at m c t _ _ _).trans ?_
  generalize WD m c = Z
  congr 1
  blk_ext

/-! The bodies of the eight groups differ only in where the printed text cuts them: `k0_pay11` is a group of the inner values, `k0_pay18` adds
    its product with a group of the second weight to what is accumulated. -/
section
variable (x : Vec Ideal S512x1024 .f32) (g : Vec Ideal S1x1024 .f32) (v : FVec Ideal S512x1024 .bf16) (a b : Vec Ideal S1x512x512 .bf16)
  (z : Vec Ideal S512x1024 .f32) (w : Vec Ideal S1x512x1024 .bf16) (p : FVec Ideal S512x512 .f32) (q : FVec Ideal S512x512 .bf16) (o : FVec Ideal S512x512 .f32)
theorem group0 : k0_pay8 (F := Ideal) x g a b = k0_pay11 (k0_pay7 x g) a b := rfl
theorem group2 : k0_pay15 (F := Ideal) (k0_pay13 v a) (k0_pay14 v) b = k0_pay11 v a b := rfl
theorem group3 : k0_pay17 (F := Ideal) v a b = k0_pay11 v a b := rfl
theorem group4 : k0_pay19 (F := Ideal) v a b = k0_pay11 v a b := rfl
theorem group5 : k0_pay22 (F := Ideal) v (k0_pay21 v) a b = k0_pay11 v a b := rfl
theorem group6 : k0_pay26 (F := Ideal) (k0_pay24 v a b) k0_pay25 = k0_pay11 v a b := rfl
theorem group7 : k0_pay28 (F := Ideal) v a b = k0_pay11 v a b := rfl
theorem add1 : k0_pay12 (F := Ideal) v a b z w = k0_pay18 (k0_pay11 v a b) z w := rfl
theorem add2 : k0_pay16 (F := Ideal) p q b z w = k0_pay18 (k0_pay15 p q b) z w := rfl
theorem add4 : k0_pay20 (F := Ideal) v a b z w = k0_pay18 (k0_pay19 v a b) z w := rfl
theorem add5 : k0_pay23 (F := Ideal) v q a b z w = k0_pay18 (k0_pay22 v q a b) z w := rfl
theorem add6 : k0_pay27 (F := Ideal) p o z w = k0_pay18 (k0_pay26 p o) z w := rfl
theorem add7 : k0_pay1 (F := Ideal) z (k0_pay29 v a b w) = k0_pay18 (k0_pay28 v a b) z w := rfl
end

/-- The stored normalised input. -/
theorem h_at (c : Dev nD) (t : Fin cfg0.N) (r : Fin 512) (k : Fin 1024) : k0_pay7 (F := Ideal) (iblk m c 0 t) (iblk m c 1 t) (ix2 r k) = H m c (ix2 (row t r) k) := by
  pointwise [k0_pay7, H, val_main_v11, val_main_v10, val_main_v9, val_main_v8, val_main_v7, val_main_v6, val_main_v5, val_main_v4, val_main_v3,
    val_main_v2, val_main_v1, val_main_v0, val_main_cst, val_main_cst_0, val_main_cst_1]
  simp only [x_at, g_at]

/-- The square of the positive part. -/
def relu2 (u : EReal) : EReal := max u 0 * max u 0

theorem ACT_at (c : Dev nD) (R : Fin 8192) (k : Fin 4096) : ACT m c (ix2 R k) = relu2 (∑ i : Fin 1024, H m c (ix2 R i) * WU m c (ix2 i k)) := by
  pointwise [ACT, H, val_main_v14, val_main_v13, val_main_v12, val_main_call0_v0, val_main_call0_cst, relu2]

theorem pay11_at (v : FVec Ideal S512x1024 .bf16) (a b : Vec Ideal S1x512x512 .bf16) (r k : Fin 512) : k0_pay11 (F := Ideal) v a b (ix2 r k)
    = relu2 (∑ i : Fin 512, v (ix2 r ⟨0 * 512 + i, by omega⟩) * a (ix3 0 i k) + ∑ i : Fin 512, v (ix2 r ⟨1 * 512 + i, by omega⟩) * b (ix3 0 i k)) := by
  pointwise [k0_pay11, relu2]

/-- One group of the inner values. -/
theorem act_at (c : Dev nD) (t : Fin cfg0.N) (j : ℕ) (hj : j < 8) (h h') (r k : Fin 512) :
    k0_pay11 (F := Ideal) (k0_pay7 (iblk m c 0 t) (iblk m c 1 t)) (LU m c t j 0 h) (LU m c t j 512 h') (ix2 r k) = ACT m c (ix2 (row t r) ⟨j * 512 + k, by omega⟩) := by
  rw [ACT_at, pay11_at]
  refine congrArg relu2 (Eq.symm ((Fin.sum_univ_tiles 2 512 rfl _).trans ?_))
  rw [Fin.sum_univ_two]
  refine congrArg₂ (· + ·) (Finset.sum_congr rfl fun i _ => Eq.symm ?_) (Finset.sum_congr rfl fun i _ => Eq.symm ?_)
  · exact congrArg₂ (· * ·) (h_at m c t r _) (lu_at m c t j 0 hj (by decide) h i k)
  · exact congrArg₂ (· * ·) (h_at m c t r _) (lu_at m c t j 1 hj (by decide) h' i k)

/-- The first group's product, and a further group's added to what is accumulated. -/
theorem first_at (x : Vec Ideal S512x1024 .f32) (g : Vec Ideal S1x1024 .f32) (a b : Vec Ideal S1x512x512 .bf16) (w : Vec Ideal S1x512x1024 .bf16) (r : Fin 512) (i : Fin 1024) :
    k0_pay10 (F := Ideal) (k0_pay9 x g a b w) (ix2 r i) = ∑ k : Fin 512, k0_pay11 (F := Ideal) (k0_pay7 x g) a b (ix2 r k) * w (ix3 0 k i) := by
  rw [← group0]
  pointwise [k0_pay10, k0_pay9]

theorem next_at (p : FVec Ideal S512x512 .bf16) (z : Vec Ideal S512x1024 .f32) (w : Vec Ideal S1x512x1024 .bf16) (r : Fin 512) (i : Fin 1024) :
    k0_pay18 (F := Ideal) p z w (ix2 r i) = z (ix2 r i) + ∑ k : Fin 512, p (ix2 r k) * w (ix3 0 k i) := by
  pointwise [k0_pay18]

/-- The eight groups added up are the whole product. -/
theorem whole_at (D W : Fin 4096 → EReal) {x : Vec Ideal S512x1024 .f32} {g : Vec Ideal S1x1024 .f32} {a b : Vec Ideal S1x512x512 .bf16}
    {p1 p2 p3 p4 p5 p6 p7 : FVec Ideal S512x512 .bf16} {u0 u1 u2 u3 u4 u5 u6 u7 : Vec Ideal S1x512x1024 .bf16} (r : Fin 512) (i : Fin 1024)
    (h0 : ∀ k : Fin 512, k0_pay11 (F := Ideal) (k0_pay7 x g) a b (ix2 r k) = D ⟨0 * 512 + k, by omega⟩) (g0 : ∀ k : Fin 512, u0 (ix3 0 k i) = W ⟨0 * 512 + k, by omega⟩)
    (h1 : ∀ k : Fin 512, p1 (ix2 r k) = D ⟨1 * 512 + k, by omega⟩) (g1 : ∀ k : Fin 512, u1 (ix3 0 k i) = W ⟨1 * 512 + k, by omega⟩)
    (h2 : ∀ k : Fin 512, p2 (ix2 r k) = D ⟨2 * 512 + k, by omega⟩) (g2 : ∀ k : Fin 512, u2 (ix3 0 k i) = W ⟨2 * 512 + k, by omega⟩)
    (h3 : ∀ k : Fin 512, p3 (ix2 r k) = D ⟨3 * 512 + k, by omega⟩) (g3 : ∀ k : Fin 512, u3 (ix3 0 k i) = W ⟨3 * 512 + k, by omega⟩)
    (h4 : ∀ k : Fin 512, p4 (ix2 r k) = D ⟨4 * 512 + k, by omega⟩) (g4 : ∀ k : Fin 512, u4 (ix3 0 k i) = W ⟨4 * 512 + k, by omega⟩)
    (h5 : ∀ k : Fin 512, p5 (ix2 r k) = D ⟨5 * 512 + k, by omega⟩) (g5 : ∀ k : Fin 512, u5 (ix3 0 k i) = W ⟨5 * 512 + k, by omega⟩)
    (h6 : ∀ k : Fin 512, p6 (ix2 r k) = D ⟨6 * 512 + k, by omega⟩) (g6 : ∀ k : Fin 512, u6 (ix3 0 k i) = W ⟨6 * 512 + k, by omega⟩)
    (h7 : ∀ k : Fin 512, p7 (ix2 r k) = D ⟨7 * 512 + k, by omega⟩) (g7 : ∀ k : Fin 512, u7 (ix3 0 k i) = W ⟨7 * 512 + k, by omega⟩) :
    k0_pay18 (F := Ideal) p7 (k0_pay18 p6 (k0_pay18 p5 (k0_pay18 p4 (k0_pay18 p3 (k0_pay18 p2 (k0_pay18 p1 (k0_pay10 (k0_pay9 x g a b u0)) u1) u2) u3) u4) u5) u6) u7 (ix2 r i)
      = ∑ k : Fin 4096, D k * W k := by
  have e : ∀ {n : ℕ} (hn : n < 8) (p : FVec Ideal S512x512 .bf16) (u : Vec Ideal S1x512x1024 .bf16)
      (hp : ∀ k : Fin 512, p (ix2 r k) = D ⟨n * 512 + k, by omega⟩) (hu : ∀ k : Fin 512, u (ix3 0 k i) = W ⟨n * 512 + k, by omega⟩),
      ∑ x : Fin 512, p (ix2 r x) * u (ix3 0 x i) = ∑ x : Fin 512, D ⟨n * 512 + x, by omega⟩ * W ⟨n * 512 + x, by omega⟩ :=
    fun hn p u hp hu => Finset.sum_congr rfl fun x _ => congrArg₂ (· * ·) (hp x) (hu x)
  rw [next_at, next_at, next_at, next_at, next_at, next_at, next_at, first_at, e (by omega) _ u0 h0 g0, e (by omega) p1 u1 h1 g1, e (by omega) p2 u2 h2 g2,
    e (by omega) p3 u3 h3 g3, e (by omega) p4 u4 h4 g4, e (by omega) p5 u5 h5 g5, e (by omega) p6 u6 h6 g6, e (by omega) p7 u7 h7 g7]
  refine Eq.symm ((Fin.sum_univ_tiles 8 512 rfl _).trans ?_)
  rw [Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  all_goals exact Finset.sum_congr rfl fun x _ => congrArg₂ (· * ·) (congrArg D (Fin.ext rfl)) (congrArg W (Fin.ext rfl))

/-- The reference's output less the target, at an index. -/
theorem DIFF_at (c : Dev nD) (R : Fin 8192) (i : Fin 1024) : DIFF m c (ix2 R i)
    = X m c (ix2 R i) + ∑ k : Fin 4096, ACT m c (ix2 R k) * WD m c (ix2 k i) - TG m c (ix2 R i) := by
  pointwise [DIFF, val_main_v17, val_main_v16, val_main_v15]

/-- The loss is half the mean square; its gradient is the difference over the number of columns. -/
theorem half_two (d : EReal) : Ideal.div (Ideal.ofBits .f32 0x3F000000#32 * Ideal.ofBits .f32 0x3F800000#32) (Ideal.ofBits .f32 0x44800000#32)
    * (Ideal.ofBits .f32 0x40000000#32 * d) = d * Ideal.ofBits .f32 0x3A800000#32 := by
  have e1 : Ideal.ofBits FTy.f32 0x3F000000#32 = ((1 / 2 : ℝ) : EReal) := by simp [Ideal.ofBits, Ideal.ieee, -EReal.coe_mul]; norm_num
  have e2 : Ideal.ofBits FTy.f32 0x3F800000#32 = ((1 : ℝ) : EReal) := by simp [Ideal.ofBits, Ideal.ieee, -EReal.coe_mul]; norm_num
  have e3 : Ideal.ofBits FTy.f32 0x44800000#32 = ((1024 : ℝ) : EReal) := by simp [Ideal.ofBits, Ideal.ieee, -EReal.coe_mul]; norm_num
  have e4 : Ideal.ofBits FTy.f32 0x40000000#32 = ((2 : ℝ) : EReal) := by simp [Ideal.ofBits, Ideal.ieee, -EReal.coe_mul]; norm_num
  have e5 : Ideal.ofBits FTy.f32 0x3A800000#32 = ((1 / 1024 : ℝ) : EReal) := by simp [Ideal.ofBits, Ideal.ieee, -EReal.coe_mul]; norm_num
  rw [e1, e2, e3, e4, e5, Ideal.div_coe (by norm_num), ← EReal.coe_mul, ← EReal.coe_mul, ← mul_assoc, ← EReal.coe_mul, mul_comm d]
  norm_num

theorem DY_at (c : Dev nD) (R : Fin 8192) (i : Fin 1024) : DY m c (ix2 R i) = DIFF m c (ix2 R i) * Ideal.ofBits .f32 0x3A800000#32 := by
  rw [← half_two]
  pointwise [DY, DIFF, val_main_v31, val_main_v30, val_main_v29, val_main_v28, val_main_v27, val_main_v26, val_main_v20, val_main_v19, val_main_cst_2,
    val_main_cst_7, val_main_cst_8, val_main_cst_9]

theorem SQ_at (c : Dev nD) (j : S1x1024.Idx) : SQ m c j = ∑ R : Fin 8192, DIFF m c (ix2 R (j 1)) * DIFF m c (ix2 R (j 1)) := by
  pointwise [SQ, DIFF, val_main_v38, val_main_v37, val_main_v36, val_main_v35, val_main_v17, val_main_cst_10]

end Cert.LossIdeal.Block

end
-- ==== Proof.LossGrad.lean ====
/- The last feed-forward layer with the loss head: what the kernel leaves in its five results. -/
module

public import proofs.«01_k».proof.Proof.Gen.LossIdeal.Value
public import proofs.«01_k».proof.Proof.Gen.LossRefIdeal.Read
public import Idealize.ShloMosaic.Lib.Pipeline.ValueKit
public import Idealize.ShloMosaic.Lib.Claim
public import proofs.«01_k».proof.Proof.LossBlock

@[expose] public section

set_option maxRecDepth 16384

noncomputable section

namespace Cert.LossIdeal.Grad

open Cert.LossIdeal Cert.LossIdeal.Gen Idealize.ShloMosaic Idealize.ShloMosaic.TcCoe Idealize.SL.Sem
open Idealize.ShloMosaic.Pipeline (Dat)
open Cert.LossIdeal.Block
open Cert.LossRefIdeal.Read

variable (m : (ℓ : Loc nD τ sig) → Buf (Elt Ideal) ℓ)

/-- Group `j` of the inner values, as the body computes it. -/
abbrev A (c : Dev nD) (t : Fin cfg0.N) (j : ℕ)
    (h : ∀ a : Fin S8x512x1024.rank, (![j, 0, 0] : Fin S8x512x1024.rank → ℕ) a + (![1, 512, 512] : Fin S8x512x1024.rank → ℕ) a ≤ S8x512x1024.size a)
    (h' : ∀ a : Fin S8x512x1024.rank, (![j, 0, 512] : Fin S8x512x1024.rank → ℕ) a + (![1, 512, 512] : Fin S8x512x1024.rank → ℕ) a ≤ S8x512x1024.size a) : FVec Ideal S512x512 .bf16 :=
  k0_pay11 (k0_pay7 (iblk m c 0 t) (iblk m c 1 t)) (LU m c t j 0 h) (LU m c t j 512 h')

/-- What the scratch buffer holds after the eight groups. -/
abbrev acc (c : Dev nD) (t : Fin cfg0.N) : FVec Ideal S512x1024 .f32 :=
  k0_pay18 (A m c t 7 inb_S8x512x1024_S1x512x512_7_0_0 inb_S8x512x1024_S1x512x512_7_0_512)
    (k0_pay18 (A m c t 6 inb_S8x512x1024_S1x512x512_6_0_0 inb_S8x512x1024_S1x512x512_6_0_512)
    (k0_pay18 (A m c t 5 inb_S8x512x1024_S1x512x512_5_0_0 inb_S8x512x1024_S1x512x512_5_0_512)
    (k0_pay18 (A m c t 4 inb_S8x512x1024_S1x512x512_4_0_0 inb_S8x512x1024_S1x512x512_4_0_512)
    (k0_pay18 (A m c t 3 inb_S8x512x1024_S1x512x512_3_0_0 inb_S8x512x1024_S1x512x512_3_0_512)
    (k0_pay18 (A m c t 2 inb_S8x512x1024_S1x512x512_2_0_0 inb_S8x512x1024_S1x512x512_2_0_512)
    (k0_pay18 (A m c t 1 inb_S8x512x1024_S1x512x512_1_0_0 inb_S8x512x1024_S1x512x512_1_0_512)
    (k0_pay10 (k0_pay9 (iblk m c 0 t) (iblk m c 1 t) (LU m c t 0 0 inb_S8x512x1024_S1x512x512_0_0_0) (LU m c t 0 512 inb_S8x512x1024_S1x512x512_0_0_512) (LD m c t 0 inb_S8x512x1024_S1x512x1024_0_0_0))) (LD m c t 1 inb_S8x512x1024_S1x512x1024_1_0_0)) (LD m c t 2 inb_S8x512x1024_S1x512x1024_2_0_0)) (LD m c t 3 inb_S8x512x1024_S1x512x1024_3_0_0)) (LD m c t 4 inb_S8x512x1024_S1x512x1024_4_0_0)) (LD m c t 5 inb_S8x512x1024_S1x512x1024_5_0_0)) (LD m c t 6 inb_S8x512x1024_S1x512x1024_6_0_0)) (LD m c t 7 inb_S8x512x1024_S1x512x1024_7_0_0)

theorem acc_at (c : Dev nD) (t : Fin cfg0.N) (r : Fin 512) (i : Fin 1024) : acc m c t (ix2 r i)
    = ∑ k : Fin 4096, ACT m c (ix2 (row t r) k) * WD m c (ix2 k i) :=
  whole_at (fun k => ACT m c (ix2 (row t r) k)) (fun k => WD m c (ix2 k i)) r i
    (act_at m c t 0 (by decide) _ _ r) (fun k => ld_at m c t 0 (by decide) _ k i)
    (act_at m c t 1 (by decide) _ _ r) (fun k => ld_at m c t 1 (by decide) _ k i)
    (act_at m c t 2 (by decide) _ _ r) (fun k => ld_at m c t 2 (by decide) _ k i)
    (act_at m c t 3 (by decide) _ _ r) (fun k => ld_at m c t 3 (by decide) _ k i)
    (act_at m c t 4 (by decide) _ _ r) (fun k => ld_at m c t 4 (by decide) _ k i)
    (act_at m c t 5 (by decide) _ _ r) (fun k => ld_at m c t 5 (by decide) _ k i)
    (act_at m c t 6 (by decide) _ _ r) (fun k => ld_at m c t 6 (by decide) _ k i)
    (act_at m c t 7 (by decide) _ _ r) (fun k => ld_at m c t 7 (by decide) _ k i)

/-- The difference, point `t`'s rows. -/
theorem diff_at (c : Dev nD) (t : Fin cfg0.N) (r : Fin 512) (i : Fin 1024) :
    k0_pay2 (F := Ideal) (iblk m c 0 t) (acc m c t) (iblk m c 4 t) (ix2 r i) = DIFF m c (ix2 (row t r) i) := by
  have e := acc_at m c t r i
  generalize acc m c t = Z at e ⊢
  pointwise [k0_pay2]
  rw [DIFF_at, x_at, tg_at, e]

theorem dy_at (c : Dev nD) (t : Fin cfg0.N) (r : Fin 512) (i : Fin 1024) :
    k0_pay3 (F := Ideal) (iblk m c 0 t) (acc m c t) (iblk m c 4 t) (ix2 r i) = DY m c (ix2 (row t r) i) := by
  have e := diff_at m c t r i
  generalize acc m c t = Z at e ⊢
  rw [DY_at, ← e]
  pointwise [k0_pay3]

theorem o5_eq (c : Dev nD) (t : Fin cfg0.N) (r : Fin 512) (i : Fin 1024) : (outsAt0 m c t.val t.isLt).1 (ix2 r i) = H m c (ix2 (row t r) i) := by
  by_cases hA : t.val % 16 = 0
  · rw [outsAt0_A m c t hA]; frame_out
    exact h_at m c t r i
  · rw [outsAt0_B m c t hA]; frame_out
    exact h_at m c t r i

/-- Every piece stored to the inner values is theirs. -/
theorem piece_at (c : Dev nD) (t : Fin cfg0.N) (j : ℕ) (hj : j < 8) (h h') (x : S512x512.Idx) (y : S512x4096.Idx) (h0 : (y 0 : ℕ) = x 0) (h1 : (y 1 : ℕ) = j * 512 + x 1) :
    A m c t j h h' x = ACT m c (ix2 (row t (y 0)) (y 1)) := by
  idx_vars x
  refine (act_at m c t j hj h h' x0 x1).trans (congrArg (ACT m c) (congrArg₂ ix2 (congrArg (row t) (Fin.ext h0.symm)) (Fin.ext h1.symm)))

theorem o6_eq (c : Dev nD) (t : Fin cfg0.N) (y : S512x4096.Idx) : (outsAt0 m c t.val t.isLt).2.1 y = ACT m c (ix2 (row t (y 0)) (y 1)) := by
  by_cases hA : t.val % 16 = 0
  · rw [outsAt0_A m c t hA]; frame_out
    simp only [add1, add2, add4, add5, add6, add7, group0, group2, group3, group4, group5, group6, group7]
    canon_tiles x h
    · exact piece_at m c t 7 (by decide) _ _ x y h0 (by omega)
    · exact piece_at m c t 6 (by decide) _ _ x y h0 (by omega)
    · exact piece_at m c t 5 (by decide) _ _ x y h0 (by omega)
    · exact piece_at m c t 4 (by decide) _ _ x y h0 (by omega)
    · exact piece_at m c t 3 (by decide) _ _ x y h0 (by omega)
    · exact piece_at m c t 2 (by decide) _ _ x y h0 (by omega)
    · exact piece_at m c t 1 (by decide) _ _ x y h0 (by omega)
    · exact piece_at m c t 0 (by decide) _ _ x y h0 (by omega)
  · rw [outsAt0_B m c t hA]; frame_out
    simp only [add1, add2, add4, add5, add6, add7, group0, group2, group3, group4, group5, group6, group7]
    canon_tiles x h
    · exact piece_at m c t 7 (by decide) _ _ x y h0 (by omega)
    · exact piece_at m c t 6 (by decide) _ _ x y h0 (by omega)
    · exact piece_at m c t 5 (by decide) _ _ x y h0 (by omega)
    · exact piece_at m c t 4 (by decide) _ _ x y h0 (by omega)
    · exact piece_at m c t 3 (by decide) _ _ x y h0 (by omega)
    · exact piece_at m c t 2 (by decide) _ _ x y h0 (by omega)
    · exact piece_at m c t 1 (by decide) _ _ x y h0 (by omega)
    · exact piece_at m c t 0 (by decide) _ _ x y h0 (by omega)

theorem o7_eq (c : Dev nD) (t : Fin cfg0.N) (r : Fin 512) (i : Fin 1024) : (outsAt0 m c t.val t.isLt).2.2.1 (ix2 r i) = DY m c (ix2 (row t r) i) := by
  by_cases hA : t.val % 16 = 0
  · rw [outsAt0_A m c t hA]; frame_out
    simp only [add1, add2, add4, add5, add6, add7, group0, group2, group3, group4, group5, group6, group7]
    exact dy_at m c t r i
  · rw [outsAt0_B m c t hA]; frame_out
    simp only [add1, add2, add4, add5, add6, add7, group0, group2, group3, group4, group5, group6, group7]
    exact dy_at m c t r i

theorem o8_eq (c : Dev nD) (t : Fin cfg0.N) (r : Fin 512) (i : Fin 1024) : (outsAt0 m c t.val t.isLt).2.2.2.1 (ix2 r i) = DY m c (ix2 (row t r) i) := by
  by_cases hA : t.val % 16 = 0
  · rw [outsAt0_A m c t hA]; frame_out
    simp only [add1, add2, add4, add5, add6, add7, group0, group2, group3, group4, group5, group6, group7]
    exact dy_at m c t r i
  · rw [outsAt0_B m c t hA]; frame_out
    simp only [add1, add2, add4, add5, add6, add7, group0, group2, group3, group4, group5, group6, group7]
    exact dy_at m c t r i

/-- The column sums over the rows of one point. -/
def sqPart (c : Dev nD) (t : Fin cfg0.N) (j : S1x1024.Idx) : EReal :=
  ∑ r : Fin 512, DIFF m c (ix2 (row t r) (j 1)) * DIFF m c (ix2 (row t r) (j 1))

theorem zero5 (j : S1x1024.Idx) : k0_pay5 (F := Ideal) j = 0 := by pointwise [k0_pay5]

/-- What a point adds to the column sums. -/
theorem pay6_at (c : Dev nD) (t : Fin cfg0.N) (prev : Vec Ideal S1x1024 .f32) (j : S1x1024.Idx) :
    k0_pay6 (F := Ideal) (iblk m c 0 t) (acc m c t) (iblk m c 4 t) prev j = prev j + sqPart m c t j := by
  have e := fun r => diff_at m c t r (j 1)
  generalize acc m c t = Z at e ⊢
  unfold sqPart
  simp only [← e]
  idx_vars j
  pointwise [k0_pay6]

theorem o9_A (c : Dev nD) (t : Fin cfg0.N) (h0 : t.val % 16 = 0) (j : S1x1024.Idx) :
    (outsAt0 m c t.val t.isLt).2.2.2.2 j = 0 + sqPart m c t j := by
  rw [outsAt0_A m c t h0]; frame_out
  simp only [add1, add2, add4, add5, add6, add7, group0, group2, group3, group4, group5, group6, group7]
  refine (pay6_at m c t _ j).trans ?_
  rw [zero5]

theorem o9_B (c : Dev nD) (t : Fin cfg0.N) (h0 : ¬t.val % 16 = 0) (j : S1x1024.Idx) :
    (outsAt0 m c t.val t.isLt).2.2.2.2 j = (outsAt0 m c (t.val - 1) (by omega)).2.2.2.2 j + sqPart m c t j := by
  rw [outsAt0_B m c t h0]; frame_out
  simp only [add1, add2, add4, add5, add6, add7, group0, group2, group3, group4, group5, group6, group7]
  exact pay6_at m c t _ j

theorem final5 (c : Dev nD) : (dats m 0 c).arrAt 5 (cfgs 0).N = truncf .bf16 (H m c) bitsLt_bf16_f32 := by
  refine (dats m 0 c).arrAt_eq_of_covers 5 _ (by decide +kernel) fun t _ y => ?_
  blk_simp
  idx_vars y
  rw [after0_5]
  refine (o5_eq m c t y0 y1).trans ?_
  refine Eq.trans ?_ (show H m c _ = truncf .bf16 (H m c) bitsLt_bf16_f32 _ from rfl)
  generalize H m c = Z
  blk_ext [idx t, row]

theorem final6 (c : Dev nD) : (dats m 0 c).arrAt 6 (cfgs 0).N = truncf .bf16 (ACT m c) bitsLt_bf16_f32 := by
  refine (dats m 0 c).arrAt_eq_of_covers 6 _ (by decide +kernel) fun t _ y => ?_
  blk_simp
  rw [after0_6, o6_eq]
  refine Eq.trans ?_ (show ACT m c _ = truncf .bf16 (ACT m c) bitsLt_bf16_f32 _ from rfl)
  generalize ACT m c = Z
  blk_ext [idx t, row]

theorem final7 (c : Dev nD) : (dats m 0 c).arrAt 7 (cfgs 0).N = DY m c := by
  refine (dats m 0 c).arrAt_eq_of_covers 7 _ (by decide +kernel) fun t _ y => ?_
  blk_simp
  idx_vars y
  rw [after0_7]
  refine (o7_eq m c t y0 y1).trans ?_
  generalize DY m c = Z
  blk_ext [idx t, row]

theorem final8 (c : Dev nD) : (dats m 0 c).arrAt 8 (cfgs 0).N = truncf .bf16 (DY m c) bitsLt_bf16_f32 := by
  refine (dats m 0 c).arrAt_eq_of_covers 8 _ (by decide +kernel) fun t _ y => ?_
  blk_simp
  idx_vars y
  rw [after0_8]
  refine (o8_eq m c t y0 y1).trans ?_
  refine Eq.trans ?_ (show DY m c _ = truncf .bf16 (DY m c) bitsLt_bf16_f32 _ from rfl)
  generalize DY m c = Z
  blk_ext [idx t, row]

theorem final9 (c : Dev nD) : (dats m 0 c).arrAt 9 (cfgs 0).N = SQ m c := by
  refine (dats m 0 c).arrAt_eq_of_after_last 9 t0_15 (by decide +kernel) _ fun j => ?_
  blk_simp
  rw [after0_9, Pipeline.eq_sum_fin_of_reset_step_apply_last (fun n h => (outsAt0 m c n h).2.2.2.2) 16 (fun _ => 0) (fun p j => sqPart m c p j)
    (o9_A m c) (o9_B m c) (le_of_eq N_0) t0_15 rfl j, zero_add, SQ_at]
  idx_vars j
  refine Fin.sum_mul_add_congr fun t r hl => ?_
  rfl

end Cert.LossIdeal.Grad

end
-- ==== Proof.Loss.lean ====
/- The claims about the last feed-forward layer with the loss head: the runs of the kernel and of its reference,
   joined by the equalities of `LossGrad`. -/
module

public import proofs.«01_k».proof.Defs
public import proofs.«01_k».proof.Proof.Gen.Loss.Frame
public import proofs.«01_k».proof.Proof.Gen.LossIdeal.Frame
public import proofs.«01_k».proof.Proof.Gen.LossRefIdeal.Run
public import proofs.«01_k».proof.Proof.LossGrad

@[expose] public section

set_option maxRecDepth 16384

noncomputable section

namespace Cert.Loss.Claims

open Idealize.ShloMosaic Idealize.ShloMosaic.TcCoe Idealize.SL.Sem

set_option maxHeartbeats 2000000 in
open Cert.LossRefIdeal.Read Cert.LossIdeal.Grad in
/-- Kernel and reference compute the same five arrays. -/
theorem algebraic : Cert.algebraic_LossIdeal_LossRefIdeal := by
  pair_intro
  · run_from Cert.LossIdeal.Gen.run_main m g
  · refine (θ_run Cert.LossRefIdeal.defs _ _).mono (fun r h c => ?_) (Cert.LossRefIdeal.Value.run m' g')
    have a0 := (hagree c).1
    have a1 := (hagree c).2.1
    have a2 := (hagree c).2.2.1
    have a3 := (hagree c).2.2.2.1
    have a4 := (hagree c).2.2.2.2
    refine ⟨(h c).1.trans ?_, (h c).2.1.trans ?_, (h c).2.2.1.trans ?_, (h c).2.2.2.1.trans ?_, (h c).2.2.2.2.1.trans ?_, (h c).2.2.2.2.2⟩
    · refine (val_main_v32_eq _ _).trans ?_
      rw [a0, a1]; exact (final5 m c).symm
    · refine (val_main_v33_eq _ _ _).trans ?_
      rw [a0, a1, a2]; exact (final6 m c).symm
    · refine (val_main_v31_eq _ _ _ _ _).trans ?_
      rw [a0, a1, a2, a3, a4]; exact (final7 m c).symm
    · refine (val_main_v34_eq _ _ _ _ _).trans ?_
      rw [a0, a1, a2, a3, a4]; exact (final8 m c).symm
    · refine (val_main_v38_eq _ _ _ _ _).trans ?_
      rw [a0, a1, a2, a3, a4]; exact (final9 m c).symm

/-- The reference terminates, keeps its arguments and leaves every counter at zero. -/
theorem reference_frame : Cert.quiescent_LossRefIdeal := fun m g _ =>
  (θ_run Cert.LossRefIdeal.defs _ _).mono (fun r h => ⟨fun c => (h c).2.2.2.2.2, sem_eq_zero_of_no_sems (by decide) r.2⟩)
    (Cert.LossRefIdeal.Value.run m g)

end Cert.Loss.Claims

end
-- ==== Proof.ConvOutGrad.lean ====
/- The gradient of the convolution's output weight: the blocks the kernel is given and what it leaves in its result. -/
module

public import proofs.«01_k».proof.Proof.Gen.ConvOutIdeal.Value
public import proofs.«01_k».proof.Proof.Gen.ConvOutRefIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.ConvOutIdeal.Grad

open Cert.ConvOutIdeal Cert.ConvOutIdeal.Gen Idealize.ShloMosaic Idealize.ShloMosaic.TcCoe Idealize.SL.Sem
open Idealize.ShloMosaic.Pipeline (Dat)
open Cert.ConvOutRefIdeal.Read

variable (m : (ℓ : Loc nD τ sig) → Buf (Elt Ideal) ℓ)

/-- The convolution's output, the layer norm's gain and bias, and the cotangent of the block's output. -/
abbrev C (c : Dev nD) : FVec Ideal S8192x1024 .f32 := m ((c : Thread nD τ).loc main_arg0)
abbrev LG (c : Dev nD) : FVec Ideal S1x1024 .f32 := m ((c : Thread nD τ).loc main_arg1)
abbrev LB (c : Dev nD) : FVec Ideal S1x1024 .f32 := m ((c : Thread nD τ).loc main_arg2)
abbrev DY (c : Dev nD) : FVec Ideal S8192x1024 .f32 := m ((c : Thread nD τ).loc main_arg5)

/-- The convolution's output after the layer norm and the SiLU, as the reference computes it. -/
abbrev ACT (c : Dev nD) : FVec Ideal S8192x1024 .f32 := val_main_v20 (F := Ideal) (C m c) (LG m c) (LB m c)

/-- The reference's gradient of the weight, `ACTᵀ · DY`. -/
abbrev DW (c : Dev nD) : FVec Ideal S1024x1024 .f32 := val_main_v28 (F := Ideal) (C m c) (LG m c) (LB m c) (DY m c)

/-- Every window's block index at every grid point. -/
theorem idx : ∀ t : Fin cfg0.N, win0_0.index t = ![t.val % 2, 0] ∧ win0_1.index t = ![t.val % 2, t.val / 2] ∧ win0_2.index t = ![0, t.val / 2] :=
  (by decide +kernel : ∀ t : Fin grid0.N, _)

/-- The row of the arrays that row `r` of point `t`'s blocks is, and the column of the cotangent that column `k` is. -/
def row (t : Fin cfg0.N) (r : Fin 4096) : Fin 8192 := ⟨t.val % 2 * 4096 + r.val, by omega⟩
def col (t : Fin cfg0.N) (k : Fin 512) : Fin 1024 := ⟨t.val / 2 * 512 + k.val, by have := lt_of_lt_of_eq t.isLt N_0; omega⟩

/-- What the kernel is given as the product's first factor is the reference's. -/
theorem entry_act (c : Dev nD) : V m c main_v21 = truncf .bf16 (ACT m c) bitsLt_bf16_f32 := by
  entry_read
  rfl

theorem entry_dy (c : Dev nD) : V m c main_v22 = truncf .bf16 (DY m c) bitsLt_bf16_f32 := by
  entry_read
  rfl

theorem act_at (c : Dev nD) (t : Fin cfg0.N) (r : Fin 4096) (k : Fin 1024) : iblk m c 0 t (ix2 r k) = ACT m c (ix2 (row t r) k) := by
  blk_simp [iblk, idx t]
  rw [entry_act]
  show ACT m c _ = _
  generalize ACT m c = Z
  blk_ext [idx t, row]

theorem dy_at (c : Dev nD) (t : Fin cfg0.N) (r : Fin 4096) (k : Fin 512) : iblk m c 1 t (ix2 r k) = DY m c (ix2 (row t r) (col t k)) := by
  blk_simp [iblk, idx t]
  rw [entry_dy]
  show DY m c _ = _
  generalize DY m c = Z
  blk_ext [idx t, row, col]

/-- The reference's gradient is a sum over all rows. -/
theorem DW_at (c : Dev nD) (k : Fin 1024) (i : Fin 1024) : DW m c (ix2 k i) = ∑ R : Fin 8192, ACT m c (ix2 R k) * DY m c (ix2 R i) := by
  pointwise [DW, val_main_v28, val_main_v27, val_main_v24]
  exact Finset.sum_congr rfl fun R _ => mul_comm _ _

/-- What a point adds to its block of the gradient. -/
def part (c : Dev nD) (t : Fin cfg0.N) (y : S1024x512.Idx) : EReal :=
  ∑ r : Fin 4096, ACT m c (ix2 (row t r) (y 0)) * DY m c (ix2 (row t r) (col t (y 1)))

theorem pay2_at (c : Dev nD) (t : Fin cfg0.N) (z : Vec Ideal S1024x512 .f32) (y : S1024x512.Idx) :
    k0_pay2 (F := Ideal) z (iblk m c 0 t) (iblk m c 1 t) y = z y + part m c t y := by
  idx_vars y
  pointwise [k0_pay2]
  simp only [act_at, dy_at]
  rfl

theorem zero1 (y : S1024x512.Idx) : k0_pay1 (F := Ideal) y = 0 := by pointwise [k0_pay1]

/-- The accumulator after the first point of a block. -/
theorem acc_A (c : Dev nD) (t : Fin cfg0.N) (h0 : t.val % 2 = 0) (y : S1024x512.Idx) : (outsAt0 m c t.val t.isLt).2 y = part m c t y := by
  rw [outsAt0_A m c t h0 (by omega)]; frame_out
  rw [pay2_at, zero1, zero_add]

/-- What the second point of a block writes back. -/
theorem out_B (c : Dev nD) (t : Fin cfg0.N) (h1 : t.val % 2 = 1) (y : S1024x512.Idx) :
    (outsAt0 m c t.val t.isLt).1 y = (outsAt0 m c (t.val - 1) (by omega)).2 y + part m c t y := by
  rw [outsAt0_B m c t (by omega) h1]; frame_out
  refine (pay2_at m c t _ y).trans ?_
  rw [read_unread_whole]

/-- The two points of a block together leave the reference's block. -/
theorem out_eq (c : Dev nD) (t : Fin cfg0.N) (h1 : t.val % 2 = 1) (y : S1024x512.Idx) :
    (outsAt0 m c t.val t.isLt).1 y = DW m c (ix2 (y 0) (col t (y 1))) := by
  have hN := lt_of_lt_of_eq t.isLt N_0
  rw [out_B m c t h1, acc_A m c ⟨t.val - 1, by omega⟩ (by show (t.val - 1) % 2 = 0; omega)]
  idx_vars y
  refine Eq.trans ?_ (DW_at m c _ _).symm
  refine Eq.symm ((Fin.sum_univ_tiles 2 4096 rfl _).trans ?_)
  rw [Fin.sum_univ_two]
  unfold part
  generalize ACT m c = Z
  generalize DY m c = W
  refine congrArg₂ (· + ·) ?_ ?_
  all_goals refine Finset.sum_congr rfl fun x _ => congrArg₂ (· * ·) (congrArg Z ?_) (congrArg W ?_) <;> blk_ext [row, col]

/-- The result after the run is the reference's gradient. -/
theorem final2 (c : Dev nD) : (dats m 0 c).arrAt 2 (cfgs 0).N = truncf .bf16 (DW m c) bitsLt_bf16_f32 := by
  refine (dats m 0 c).arrAt_eq_of_covers 2 _ (by decide +kernel) fun t hf y => ?_
  blk_simp
  rw [after0_2, out_eq m c t ((flush0_2 t).mp hf)]
  refine Eq.trans ?_ (show DW m c _ = truncf .bf16 (DW m c) bitsLt_bf16_f32 _ from rfl)
  generalize DW m c = Z
  blk_ext [idx t, col]

end Cert.ConvOutIdeal.Grad

end
-- ==== Proof.ConvOut.lean ====
/- The claims about the gradient of the convolution's output weight: the runs of the kernel and of its reference,
   joined by the equality of `ConvOutGrad`. -/
module

public import proofs.«01_k».proof.Defs
public import proofs.«01_k».proof.Proof.Gen.ConvOut.Frame
public import proofs.«01_k».proof.Proof.Gen.ConvOutIdeal.Frame
public import proofs.«01_k».proof.Proof.Gen.ConvOutRefIdeal.Run
public import proofs.«01_k».proof.Proof.ConvOutGrad

@[expose] public section

set_option maxRecDepth 16384

noncomputable section

namespace Cert.ConvOut.Claims

open Idealize.ShloMosaic Idealize.ShloMosaic.TcCoe Idealize.SL.Sem

set_option maxHeartbeats 2000000 in
open Cert.ConvOutRefIdeal.Read Cert.ConvOutIdeal.Grad in
/-- Kernel and reference compute the same array. -/
theorem algebraic : Cert.algebraic_ConvOutIdeal_ConvOutRefIdeal := by
  pair_intro
  · run_from Cert.ConvOutIdeal.Gen.run_main m g
    · exact Cert.ConvOutIdeal.Gen.V_main_arg0 m c
    · exact Cert.ConvOutIdeal.Gen.V_main_arg1 m c
    · exact Cert.ConvOutIdeal.Gen.V_main_arg2 m c
    · exact Cert.ConvOutIdeal.Gen.V_main_arg3 m c
    · exact Cert.ConvOutIdeal.Gen.V_main_arg4 m c
    · exact Cert.ConvOutIdeal.Gen.V_main_arg5 m c
  · refine (θ_run Cert.ConvOutRefIdeal.defs _ _).mono (fun r h c => ?_) (Cert.ConvOutRefIdeal.Value.run m' g')
    have a0 := (hagree c).1
    have a1 := (hagree c).2.1
    have a2 := (hagree c).2.2.1
    have a3 := (hagree c).2.2.2.1
    have a4 := (hagree c).2.2.2.2.1
    have a5 := (hagree c).2.2.2.2.2
    refine ⟨(h c).1.trans ?_, (h c).2⟩
    refine (val_main_v30_eq _ _).trans ?_
    rw [a0, a1, a2, a5]; exact (final2 m c).symm

/-- The reference terminates, keeps its arguments and leaves every counter at zero. -/
theorem reference_frame : Cert.quiescent_ConvOutRefIdeal := fun m g _ =>
  (θ_run Cert.ConvOutRefIdeal.defs _ _).mono (fun r h => ⟨fun c => (h c).2, sem_eq_zero_of_no_sems (by decide) r.2⟩)
    (Cert.ConvOutRefIdeal.Value.run m g)

end Cert.ConvOut.Claims

end
-- ==== Proof.AttnOutGrad.lean ====
/- The gradient of the attention's output weight: the blocks the kernel is given and what it leaves in its result. -/
module

public import proofs.«01_k».proof.Proof.Gen.AttnOutIdeal.Value
public import proofs.«01_k».proof.Proof.Gen.AttnOutRefIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.AttnOutIdeal.Grad

open Cert.AttnOutIdeal Cert.AttnOutIdeal.Gen Idealize.ShloMosaic Idealize.ShloMosaic.TcCoe Idealize.SL.Sem
open Idealize.ShloMosaic.Pipeline (Dat)
open Cert.AttnOutRefIdeal.Read

variable (m : (ℓ : Loc nD τ sig) → Buf (Elt Ideal) ℓ)

/-- The attention's output and the cotangent of the block's output. -/
abbrev O (c : Dev nD) : FVec Ideal S8192x1024 .f32 := m ((c : Thread nD τ).loc main_arg0)
abbrev DY (c : Dev nD) : FVec Ideal S8192x1024 .f32 := m ((c : Thread nD τ).loc main_arg3)

/-- The attention's output. -/
abbrev ACT (c : Dev nD) : FVec Ideal S8192x1024 .f32 := O m c

/-- The reference's gradient of the weight, `ACTᵀ · DY`. -/
abbrev DW (c : Dev nD) : FVec Ideal S1024x1024 .f32 := val_main_v7 (F := Ideal) (O m c) (DY m c)

/-- Every window's block index at every grid point. -/
theorem idx : ∀ t : Fin cfg0.N, win0_0.index t = ![t.val % 2, 0] ∧ win0_1.index t = ![t.val % 2, t.val / 2] ∧ win0_2.index t = ![0, t.val / 2] :=
  (by decide +kernel : ∀ t : Fin grid0.N, _)

/-- The row of the arrays that row `r` of point `t`'s blocks is, and the column of the cotangent that column `k` is. -/
def row (t : Fin cfg0.N) (r : Fin 4096) : Fin 8192 := ⟨t.val % 2 * 4096 + r.val, by omega⟩
def col (t : Fin cfg0.N) (k : Fin 512) : Fin 1024 := ⟨t.val / 2 * 512 + k.val, by have := lt_of_lt_of_eq t.isLt N_0; omega⟩

/-- What the kernel is given as the product's first factor is the reference's. -/
theorem entry_act (c : Dev nD) : V m c main_v0 = truncf .bf16 (ACT m c) bitsLt_bf16_f32 := by
  entry_read
  rfl

theorem entry_dy (c : Dev nD) : V m c main_v1 = truncf .bf16 (DY m c) bitsLt_bf16_f32 := by
  entry_read
  rfl

theorem act_at (c : Dev nD) (t : Fin cfg0.N) (r : Fin 4096) (k : Fin 1024) : iblk m c 0 t (ix2 r k) = ACT m c (ix2 (row t r) k) := by
  blk_simp [iblk, idx t]
  rw [entry_act]
  show ACT m c _ = _
  generalize ACT m c = Z
  blk_ext [idx t, row]

theorem dy_at (c : Dev nD) (t : Fin cfg0.N) (r : Fin 4096) (k : Fin 512) : iblk m c 1 t (ix2 r k) = DY m c (ix2 (row t r) (col t k)) := by
  blk_simp [iblk, idx t]
  rw [entry_dy]
  show DY m c _ = _
  generalize DY m c = Z
  blk_ext [idx t, row, col]

/-- The reference's gradient is a sum over all rows. -/
theorem DW_at (c : Dev nD) (k : Fin 1024) (i : Fin 1024) : DW m c (ix2 k i) = ∑ R : Fin 8192, ACT m c (ix2 R k) * DY m c (ix2 R i) := by
  pointwise [DW, val_main_v7, val_main_v6, val_main_v3]
  exact Finset.sum_congr rfl fun R _ => mul_comm _ _

/-- What a point adds to its block of the gradient. -/
def part (c : Dev nD) (t : Fin cfg0.N) (y : S1024x512.Idx) : EReal :=
  ∑ r : Fin 4096, ACT m c (ix2 (row t r) (y 0)) * DY m c (ix2 (row t r) (col t (y 1)))

theorem pay2_at (c : Dev nD) (t : Fin cfg0.N) (z : Vec Ideal S1024x512 .f32) (y : S1024x512.Idx) :
    k0_pay2 (F := Ideal) z (iblk m c 0 t) (iblk m c 1 t) y = z y + part m c t y := by
  idx_vars y
  pointwise [k0_pay2]
  simp only [act_at, dy_at]
  rfl

theorem zero1 (y : S1024x512.Idx) : k0_pay1 (F := Ideal) y = 0 := by pointwise [k0_pay1]

/-- The accumulator after the first point of a block. -/
theorem acc_A (c : Dev nD) (t : Fin cfg0.N) (h0 : t.val % 2 = 0) (y : S1024x512.Idx) : (outsAt0 m c t.val t.isLt).2 y = part m c t y := by
  rw [outsAt0_A m c t h0 (by omega)]; frame_out
  rw [pay2_at, zero1, zero_add]

/-- What the second point of a block writes back. -/
theorem out_B (c : Dev nD) (t : Fin cfg0.N) (h1 : t.val % 2 = 1) (y : S1024x512.Idx) :
    (outsAt0 m c t.val t.isLt).1 y = (outsAt0 m c (t.val - 1) (by omega)).2 y + part m c t y := by
  rw [outsAt0_B m c t (by omega) h1]; frame_out
  refine (pay2_at m c t _ y).trans ?_
  rw [read_unread_whole]

/-- The two points of a block together leave the reference's block. -/
theorem out_eq (c : Dev nD) (t : Fin cfg0.N) (h1 : t.val % 2 = 1) (y : S1024x512.Idx) :
    (outsAt0 m c t.val t.isLt).1 y = DW m c (ix2 (y 0) (col t (y 1))) := by
  have hN := lt_of_lt_of_eq t.isLt N_0
  rw [out_B m c t h1, acc_A m c ⟨t.val - 1, by omega⟩ (by show (t.val - 1) % 2 = 0; omega)]
  idx_vars y
  refine Eq.trans ?_ (DW_at m c _ _).symm
  refine Eq.symm ((Fin.sum_univ_tiles 2 4096 rfl _).trans ?_)
  rw [Fin.sum_univ_two]
  unfold part
  generalize ACT m c = Z
  generalize DY m c = W
  refine congrArg₂ (· + ·) ?_ ?_
  all_goals refine Finset.sum_congr rfl fun x _ => congrArg₂ (· * ·) (congrArg Z ?_) (congrArg W ?_) <;> blk_ext [row, col]

/-- The result after the run is the reference's gradient. -/
theorem final2 (c : Dev nD) : (dats m 0 c).arrAt 2 (cfgs 0).N = truncf .bf16 (DW m c) bitsLt_bf16_f32 := by
  refine (dats m 0 c).arrAt_eq_of_covers 2 _ (by decide +kernel) fun t hf y => ?_
  blk_simp
  rw [after0_2, out_eq m c t ((flush0_2 t).mp hf)]
  refine Eq.trans ?_ (show DW m c _ = truncf .bf16 (DW m c) bitsLt_bf16_f32 _ from rfl)
  generalize DW m c = Z
  blk_ext [idx t, col]

end Cert.AttnOutIdeal.Grad

end
-- ==== Proof.AttnOut.lean ====
/- The claims about the gradient of the attention's output weight: the runs of the kernel and of its reference,
   joined by the equality of `AttnOutGrad`. -/
module

public import proofs.«01_k».proof.Defs
public import proofs.«01_k».proof.Proof.Gen.AttnOut.Frame
public import proofs.«01_k».proof.Proof.Gen.AttnOutIdeal.Frame
public import proofs.«01_k».proof.Proof.Gen.AttnOutRefIdeal.Run
public import proofs.«01_k».proof.Proof.AttnOutGrad

@[expose] public section

set_option maxRecDepth 16384

noncomputable section

namespace Cert.AttnOut.Claims

open Idealize.ShloMosaic Idealize.ShloMosaic.TcCoe Idealize.SL.Sem

set_option maxHeartbeats 2000000 in
open Cert.AttnOutRefIdeal.Read Cert.AttnOutIdeal.Grad in
/-- Kernel and reference compute the same array. -/
theorem algebraic : Cert.algebraic_AttnOutIdeal_AttnOutRefIdeal := by
  pair_intro
  · run_from Cert.AttnOutIdeal.Gen.run_main m g
  · refine (θ_run Cert.AttnOutRefIdeal.defs _ _).mono (fun r h c => ?_) (Cert.AttnOutRefIdeal.Value.run m' g')
    have a0 := (hagree c).1
    have a1 := (hagree c).2.1
    have a2 := (hagree c).2.2.1
    have a3 := (hagree c).2.2.2
    refine ⟨(h c).1.trans ?_, (h c).2⟩
    refine (val_main_v9_eq _ _).trans ?_
    rw [a0, a3]; exact (final2 m c).symm

/-- The reference terminates, keeps its arguments and leaves every counter at zero. -/
theorem reference_frame : Cert.quiescent_AttnOutRefIdeal := fun m g _ =>
  (θ_run Cert.AttnOutRefIdeal.defs _ _).mono (fun r h => ⟨fun c => (h c).2, sem_eq_zero_of_no_sems (by decide) r.2⟩)
    (Cert.AttnOutRefIdeal.Value.run m g)

end Cert.AttnOut.Claims

end
-- ==== Proof.QkvWeightGrad.lean ====
/- The gradient of the weight that makes the attention's queries, keys and values: the blocks the kernel is given and what it leaves in its result. -/
module

public import proofs.«01_k».proof.Proof.Gen.QkvWeightIdeal.Value
public import proofs.«01_k».proof.Proof.Gen.QkvWeightRefIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.QkvWeightIdeal.Grad

open Cert.QkvWeightIdeal Cert.QkvWeightIdeal.Gen Idealize.ShloMosaic Idealize.ShloMosaic.TcCoe Idealize.SL.Sem
open Idealize.ShloMosaic.Pipeline (Dat)
open Cert.QkvWeightRefIdeal.Read

variable (m : (ℓ : Loc nD τ sig) → Buf (Elt Ideal) ℓ)

/-- The block's input, the norm's gain, and the cotangent of the projection's output. -/
abbrev X (c : Dev nD) : FVec Ideal S8192x1024 .f32 := m ((c : Thread nD τ).loc main_arg0)
abbrev G (c : Dev nD) : FVec Ideal S1x1024 .f32 := m ((c : Thread nD τ).loc main_arg1)
abbrev DY (c : Dev nD) : FVec Ideal S8192x1280 .f32 := m ((c : Thread nD τ).loc main_arg4)

/-- The input after the root-mean-square norm, as the reference computes it. -/
abbrev ACT (c : Dev nD) : FVec Ideal S8192x1024 .f32 := val_main_v14 (F := Ideal) (X m c) (G m c)

/-- The reference's gradient of the weight, `ACTᵀ · DY`. -/
abbrev DW (c : Dev nD) : FVec Ideal S1024x1280 .f32 := val_main_v22 (F := Ideal) (X m c) (G m c) (DY m c)

/-- Every window's block index at every grid point. -/
theorem idx : ∀ t : Fin cfg0.N, win0_0.index t = ![t.val % 2, 0] ∧ win0_1.index t = ![t.val % 2, t.val / 2] ∧ win0_2.index t = ![0, t.val / 2] :=
  (by decide +kernel : ∀ t : Fin grid0.N, _)

/-- The row of the arrays that row `r` of point `t`'s blocks is, and the column of the cotangent that column `k` is. -/
def row (t : Fin cfg0.N) (r : Fin 4096) : Fin 8192 := ⟨t.val % 2 * 4096 + r.val, by omega⟩
def col (t : Fin cfg0.N) (k : Fin 640) : Fin 1280 := ⟨t.val / 2 * 640 + k.val, by have := lt_of_lt_of_eq t.isLt N_0; omega⟩

/-- What the kernel is given as the product's first factor is the reference's. -/
theorem entry_act (c : Dev nD) : V m c main_v12 = truncf .bf16 (ACT m c) bitsLt_bf16_f32 := by
  entry_read
  rfl

theorem entry_dy (c : Dev nD) : V m c main_v13 = truncf .bf16 (DY m c) bitsLt_bf16_f32 := by
  entry_read
  rfl

theorem act_at (c : Dev nD) (t : Fin cfg0.N) (r : Fin 4096) (k : Fin 1024) : iblk m c 0 t (ix2 r k) = ACT m c (ix2 (row t r) k) := by
  blk_simp [iblk, idx t]
  rw [entry_act]
  show ACT m c _ = _
  generalize ACT m c = Z
  blk_ext [idx t, row]

theorem dy_at (c : Dev nD) (t : Fin cfg0.N) (r : Fin 4096) (k : Fin 640) : iblk m c 1 t (ix2 r k) = DY m c (ix2 (row t r) (col t k)) := by
  blk_simp [iblk, idx t]
  rw [entry_dy]
  show DY m c _ = _
  generalize DY m c = Z
  blk_ext [idx t, row, col]

/-- The reference's gradient is a sum over all rows. -/
theorem DW_at (c : Dev nD) (k : Fin 1024) (i : Fin 1280) : DW m c (ix2 k i) = ∑ R : Fin 8192, ACT m c (ix2 R k) * DY m c (ix2 R i) := by
  pointwise [DW, val_main_v22, val_main_v21, val_main_v18]
  exact Finset.sum_congr rfl fun R _ => mul_comm _ _

/-- What a point adds to its block of the gradient. -/
def part (c : Dev nD) (t : Fin cfg0.N) (y : S1024x640.Idx) : EReal :=
  ∑ r : Fin 4096, ACT m c (ix2 (row t r) (y 0)) * DY m c (ix2 (row t r) (col t (y 1)))

theorem pay2_at (c : Dev nD) (t : Fin cfg0.N) (z : Vec Ideal S1024x640 .f32) (y : S1024x640.Idx) :
    k0_pay2 (F := Ideal) z (iblk m c 0 t) (iblk m c 1 t) y = z y + part m c t y := by
  idx_vars y
  pointwise [k0_pay2]
  simp only [act_at, dy_at]
  rfl

theorem zero1 (y : S1024x640.Idx) : k0_pay1 (F := Ideal) y = 0 := by pointwise [k0_pay1]

/-- The accumulator after the first point of a block. -/
theorem acc_A (c : Dev nD) (t : Fin cfg0.N) (h0 : t.val % 2 = 0) (y : S1024x640.Idx) : (outsAt0 m c t.val t.isLt).2 y = part m c t y := by
  rw [outsAt0_A m c t h0 (by omega)]; frame_out
  rw [pay2_at, zero1, zero_add]

/-- What the second point of a block writes back. -/
theorem out_B (c : Dev nD) (t : Fin cfg0.N) (h1 : t.val % 2 = 1) (y : S1024x640.Idx) :
    (outsAt0 m c t.val t.isLt).1 y = (outsAt0 m c (t.val - 1) (by omega)).2 y + part m c t y := by
  rw [outsAt0_B m c t (by omega) h1]; frame_out
  refine (pay2_at m c t _ y).trans ?_
  rw [read_unread_whole]

/-- The two points of a block together leave the reference's block. -/
theorem out_eq (c : Dev nD) (t : Fin cfg0.N) (h1 : t.val % 2 = 1) (y : S1024x640.Idx) :
    (outsAt0 m c t.val t.isLt).1 y = DW m c (ix2 (y 0) (col t (y 1))) := by
  have hN := lt_of_lt_of_eq t.isLt N_0
  rw [out_B m c t h1, acc_A m c ⟨t.val - 1, by omega⟩ (by show (t.val - 1) % 2 = 0; omega)]
  idx_vars y
  refine Eq.trans ?_ (DW_at m c _ _).symm
  refine Eq.symm ((Fin.sum_univ_tiles 2 4096 rfl _).trans ?_)
  rw [Fin.sum_univ_two]
  unfold part
  generalize ACT m c = Z
  generalize DY m c = W
  refine congrArg₂ (· + ·) ?_ ?_
  all_goals refine Finset.sum_congr rfl fun x _ => congrArg₂ (· * ·) (congrArg Z ?_) (congrArg W ?_) <;> blk_ext [row, col]

/-- The result after the run is the reference's gradient. -/
theorem final2 (c : Dev nD) : (dats m 0 c).arrAt 2 (cfgs 0).N = truncf .bf16 (DW m c) bitsLt_bf16_f32 := by
  refine (dats m 0 c).arrAt_eq_of_covers 2 _ (by decide +kernel) fun t hf y => ?_
  blk_simp
  rw [after0_2, out_eq m c t ((flush0_2 t).mp hf)]
  refine Eq.trans ?_ (show DW m c _ = truncf .bf16 (DW m c) bitsLt_bf16_f32 _ from rfl)
  generalize DW m c = Z
  blk_ext [idx t, col]

end Cert.QkvWeightIdeal.Grad

end
-- ==== Proof.QkvWeight.lean ====
/- The claims about the gradient of the weight that makes the attention's queries, keys and values: the runs of the kernel and of its reference,
   joined by the equality of `QkvWeightGrad`. -/
module

public import proofs.«01_k».proof.Defs
public import proofs.«01_k».proof.Proof.Gen.QkvWeight.Frame
public import proofs.«01_k».proof.Proof.Gen.QkvWeightIdeal.Frame
public import proofs.«01_k».proof.Proof.Gen.QkvWeightRefIdeal.Run
public import proofs.«01_k».proof.Proof.QkvWeightGrad

@[expose] public section

set_option maxRecDepth 16384

noncomputable section

namespace Cert.QkvWeight.Claims

open Idealize.ShloMosaic Idealize.ShloMosaic.TcCoe Idealize.SL.Sem

set_option maxHeartbeats 2000000 in
open Cert.QkvWeightRefIdeal.Read Cert.QkvWeightIdeal.Grad in
/-- Kernel and reference compute the same array. -/
theorem algebraic : Cert.algebraic_QkvWeightIdeal_QkvWeightRefIdeal := by
  pair_intro
  · run_from Cert.QkvWeightIdeal.Gen.run_main m g
  · refine (θ_run Cert.QkvWeightRefIdeal.defs _ _).mono (fun r h c => ?_) (Cert.QkvWeightRefIdeal.Value.run m' g')
    have a0 := (hagree c).1
    have a1 := (hagree c).2.1
    have a2 := (hagree c).2.2.1
    have a3 := (hagree c).2.2.2.1
    have a4 := (hagree c).2.2.2.2
    refine ⟨(h c).1.trans ?_, (h c).2⟩
    refine (val_main_v43_eq _ _ _).trans ?_
    rw [a0, a1, a4]; exact (final2 m c).symm

/-- The reference terminates, keeps its arguments and leaves every counter at zero. -/
theorem reference_frame : Cert.quiescent_QkvWeightRefIdeal := fun m g _ =>
  (θ_run Cert.QkvWeightRefIdeal.defs _ _).mono (fun r h => ⟨fun c => (h c).2, sem_eq_zero_of_no_sems (by decide) r.2⟩)
    (Cert.QkvWeightRefIdeal.Value.run m g)

end Cert.QkvWeight.Claims

end
-- ==== Proof.AdamUpGrad.lean ====
/- The first feed-forward weights' gradient, added up over the devices, and AdamW: what the kernel leaves in its four results. -/
module

public import proofs.«01_k».proof.Proof.Gen.AdamUpIdeal.Value
public import proofs.«01_k».proof.Proof.Gen.AdamUpRefIdeal.Read
public import Idealize.ShloMosaic.Lib.Pipeline.ValueKit
public import Idealize.ShloMosaic.Lib.Claim

@[expose] public section

set_option maxRecDepth 16384

noncomputable section

namespace Cert.AdamUpIdeal.Grad

open Cert.AdamUpIdeal Cert.AdamUpIdeal.Gen Idealize.ShloMosaic Idealize.ShloMosaic.TcCoe Idealize.SL.Sem
open Idealize.ShloMosaic.Pipeline (Dat)
open Cert.AdamUpRefIdeal.Read

variable (m : (ℓ : Loc nD τ sig) → Buf (Elt Ideal) ℓ)

/-- The eight devices' pieces of the two layers' gradients, the weights and the two moments. -/
abbrev P0 (c : Dev nD) : FVec Ideal S8x512x1024 .bf16 := m ((c : Thread nD τ).loc main_arg0)
abbrev P1 (c : Dev nD) : FVec Ideal S8x512x1024 .bf16 := m ((c : Thread nD τ).loc main_arg1)
abbrev W (c : Dev nD) : FVec Ideal S2x1024x512 .f32 := m ((c : Thread nD τ).loc main_arg2)
abbrev M1 (c : Dev nD) : FVec Ideal S2x1024x512 .f32 := m ((c : Thread nD τ).loc main_arg3)
abbrev M2 (c : Dev nD) : FVec Ideal S2x1024x512 .f32 := m ((c : Thread nD τ).loc main_arg4)

/-- The gradient, the step and the two new moments, as the reference computes them. -/
abbrev GR (c : Dev nD) : FVec Ideal S2x1024x512 .f32 := val_main_v12 (F := Ideal) (P0 m c) (P1 m c)
abbrev DE (c : Dev nD) : FVec Ideal S2x1024x512 .f32 := val_main_v36 (F := Ideal) (P0 m c) (P1 m c) (W m c) (M1 m c) (M2 m c)
abbrev NM (c : Dev nD) : FVec Ideal S2x1024x512 .f32 := val_main_v17 (F := Ideal) (P0 m c) (P1 m c) (M1 m c)
abbrev NV (c : Dev nD) : FVec Ideal S2x1024x512 .f32 := val_main_v23 (F := Ideal) (P0 m c) (P1 m c) (M2 m c)

/-- Every window's block index at every grid point. -/
theorem idx : ∀ t : Fin cfg0.N, (t.val < 4 → win0_0.index t = ![0, t.val % 2, t.val / 2 % 2]) ∧ (4 ≤ t.val → win0_1.index t = ![0, t.val % 2, t.val / 2 % 2])
    ∧ win0_2.index t = ![t.val / 4, t.val % 4, 0] ∧ win0_3.index t = ![t.val / 4, t.val % 4, 0] ∧ win0_4.index t = ![t.val / 4, t.val % 4, 0]
    ∧ win0_5.index t = ![t.val / 4, t.val % 4, 0] ∧ win0_6.index t = ![t.val / 4, t.val % 4, 0] ∧ win0_7.index t = ![t.val / 4, t.val % 4, 0]
    ∧ win0_8.index t = ![t.val / 4, t.val % 4, 0] :=
  (by decide +kernel : ∀ t : Fin grid0.N, _)

/-- The layer of point `t`, and the row of the weight that row `r` of its block is. -/
def layer (t : Fin cfg0.N) : Fin 2 := ⟨t.val / 4, by have := lt_of_lt_of_eq t.isLt N_0; omega⟩
def row (t : Fin cfg0.N) (r : Fin 256) : Fin 1024 := ⟨t.val % 4 * 256 + r.val, by omega⟩

theorem w_at (c : Dev nD) (t : Fin cfg0.N) (r : Fin 256) (k : Fin 512) : iblk m c 2 t (ix3 0 r k) = W m c (ix3 (layer t) (row t r) k) := by
  blk_ext [iblk, V, idx t, layer, row]

theorem m_at (c : Dev nD) (t : Fin cfg0.N) (r : Fin 256) (k : Fin 512) : iblk m c 3 t (ix3 0 r k) = M1 m c (ix3 (layer t) (row t r) k) := by
  blk_ext [iblk, V, idx t, layer, row]

theorem v_at (c : Dev nD) (t : Fin cfg0.N) (r : Fin 256) (k : Fin 512) : iblk m c 4 t (ix3 0 r k) = M2 m c (ix3 (layer t) (row t r) k) := by
  blk_ext [iblk, V, idx t, layer, row]

theorem p0_at (c : Dev nD) (t : Fin cfg0.N) (h0 : t.val < 4) (s : Fin 8) (r : Fin 256) (k : Fin 512) :
    iblk m c 0 t (ix3 s r k) = P0 m c (ix3 s ⟨t.val % 2 * 256 + r, by omega⟩ ⟨t.val / 2 % 2 * 512 + k, by omega⟩) := by
  blk_ext [iblk, V, (idx t).1 h0]

theorem p1_at (c : Dev nD) (t : Fin cfg0.N) (h1 : 4 ≤ t.val) (s : Fin 8) (r : Fin 256) (k : Fin 512) :
    iblk m c 1 t (ix3 s r k) = P1 m c (ix3 s ⟨t.val % 2 * 256 + r, by omega⟩ ⟨t.val / 2 % 2 * 512 + k, by omega⟩) := by
  blk_ext [iblk, V, (idx t).2.1 h1]

/-! ## The reference's four arrays at an index -/

theorem GR_at (c : Dev nD) (l : Fin 2) (a : Fin 1024) (b : Fin 512) : GR m c (ix3 l a b)
    = if l.val < 1 then ∑ s : Fin 8, P0 m c (ix3 s ⟨a % 512, by omega⟩ ⟨a / 512 * 512 + b, by omega⟩)
      else ∑ s : Fin 8, P1 m c (ix3 s ⟨a % 512, by omega⟩ ⟨a / 512 * 512 + b, by omega⟩) := by
  pointwise [GR, val_main_v12, val_main_v11, val_main_v10, val_main_v9, val_main_v8, val_main_v7, val_main_v6, val_main_v5, val_main_v4, val_main_v3,
    val_main_v2, val_main_v1, val_main_v0, val_main_cst, val_main_cst_0]
  rfl

/-! ## The sum of the eight pieces -/

/-- Piece `s` of a block. -/
abbrev piece (x : Vec Ideal S8x256x512 .bf16) (s : ℕ)
    (h : ∀ a : Fin S8x256x512.rank, (![s, 0, 0] : Fin S8x256x512.rank → ℕ) a + (![1, 256, 512] : Fin S8x256x512.rank → ℕ) a ≤ S8x256x512.size a) : Vec Ideal S1x256x512 .bf16 :=
  View.ld (Val := Elt Ideal) (S := S8x256x512) (e' := .bf16) x (Rect.unit (s := S8x256x512) ![s, 0, 0] ![1, 256, 512] h)

theorem piece_at (x : Vec Ideal S8x256x512 .bf16) (s : ℕ) (hs : s < 8) (h) (r : Fin 256) (k : Fin 512) :
    piece x s h (ix3 (0 : Fin 1) r k) = x (ix3 ⟨s, hs⟩ r k) := by
  unfold piece
  pointwise

/-- The eight pieces added one after the other. -/
abbrev sum8 (x : Vec Ideal S8x256x512 .bf16) : FVec Ideal S256x512 .f32 :=
  k0_pay5 (piece x 0 inb_S8x256x512_S1x256x512_0_0_0) (piece x 1 inb_S8x256x512_S1x256x512_1_0_0) (piece x 2 inb_S8x256x512_S1x256x512_2_0_0)
    (piece x 3 inb_S8x256x512_S1x256x512_3_0_0) (piece x 4 inb_S8x256x512_S1x256x512_4_0_0) (piece x 5 inb_S8x256x512_S1x256x512_5_0_0)
    (piece x 6 inb_S8x256x512_S1x256x512_6_0_0) (piece x 7 inb_S8x256x512_S1x256x512_7_0_0)

theorem sum8_at (x : Vec Ideal S8x256x512 .bf16) (r : Fin 256) (k : Fin 512) : sum8 x (ix2 r k) = ∑ s : Fin 8, x (ix3 s r k) := by
  rw [Fin.sum_univ_eight]
  refine Eq.trans (b := piece x 0 inb_S8x256x512_S1x256x512_0_0_0 (ix3 0 r k) + piece x 1 inb_S8x256x512_S1x256x512_1_0_0 (ix3 0 r k)
    + piece x 2 inb_S8x256x512_S1x256x512_2_0_0 (ix3 0 r k) + piece x 3 inb_S8x256x512_S1x256x512_3_0_0 (ix3 0 r k)
    + piece x 4 inb_S8x256x512_S1x256x512_4_0_0 (ix3 0 r k) + piece x 5 inb_S8x256x512_S1x256x512_5_0_0 (ix3 0 r k)
    + piece x 6 inb_S8x256x512_S1x256x512_6_0_0 (ix3 0 r k) + piece x 7 inb_S8x256x512_S1x256x512_7_0_0 (ix3 0 r k)) ?_ ?_
  · unfold sum8
    generalize piece x 0 inb_S8x256x512_S1x256x512_0_0_0 = a0
    generalize piece x 1 inb_S8x256x512_S1x256x512_1_0_0 = a1
    generalize piece x 2 inb_S8x256x512_S1x256x512_2_0_0 = a2
    generalize piece x 3 inb_S8x256x512_S1x256x512_3_0_0 = a3
    generalize piece x 4 inb_S8x256x512_S1x256x512_4_0_0 = a4
    generalize piece x 5 inb_S8x256x512_S1x256x512_5_0_0 = a5
    generalize piece x 6 inb_S8x256x512_S1x256x512_6_0_0 = a6
    generalize piece x 7 inb_S8x256x512_S1x256x512_7_0_0 = a7
    pointwise [k0_pay5]
  · rw [piece_at x 0 (by decide), piece_at x 1 (by decide), piece_at x 2 (by decide), piece_at x 3 (by decide), piece_at x 4 (by decide),
      piece_at x 5 (by decide), piece_at x 6 (by decide), piece_at x 7 (by decide)]
    rfl

/-- At a point of the first layer the sum is the reference's gradient of that layer's weight. -/
theorem first (c : Dev nD) (t : Fin cfg0.N) (h0 : t.val < 4) (r : Fin 256) (k : Fin 512) : sum8 (iblk m c 0 t) (ix2 r k) = GR m c (ix3 (layer t) (row t r) k) := by
  rw [sum8_at, GR_at, if_pos (by show t.val / 4 < 1; omega)]
  refine Finset.sum_congr rfl fun s _ => (p0_at m c t h0 s r k).trans ?_
  generalize P0 m c = Z
  refine congrArg Z (congrArg₂ (ix3 s) (Fin.ext ?_) (Fin.ext ?_))
  · show t.val % 2 * 256 + r.val = (t.val % 4 * 256 + r.val) % 512
    omega
  · show t.val / 2 % 2 * 512 + k.val = (t.val % 4 * 256 + r.val) / 512 * 512 + k.val
    omega

/-- At a point of the second layer it is the second's. -/
theorem second (c : Dev nD) (t : Fin cfg0.N) (h1 : 4 ≤ t.val) (r : Fin 256) (k : Fin 512) : sum8 (iblk m c 1 t) (ix2 r k) = GR m c (ix3 (layer t) (row t r) k) := by
  rw [sum8_at, GR_at, if_neg (by show ¬t.val / 4 < 1; omega)]
  refine Finset.sum_congr rfl fun s _ => (p1_at m c t h1 s r k).trans ?_
  generalize P1 m c = Z
  refine congrArg Z (congrArg₂ (ix3 s) (Fin.ext ?_) (Fin.ext ?_))
  · show t.val % 2 * 256 + r.val = (t.val % 4 * 256 + r.val) % 512
    omega
  · show t.val / 2 % 2 * 512 + k.val = (t.val % 4 * 256 + r.val) / 512 * 512 + k.val
    omega

/-! ## The four results of a point, from a block `Z` that holds the gradient -/

section Point

variable (c : Dev nD) (t : Fin cfg0.N) (Z : FVec Ideal S256x512 .f32) (e : ∀ r k, Z (ix2 r k) = GR m c (ix3 (layer t) (row t r) k)) (r : Fin 256) (k : Fin 512)

include e

theorem gr_at : k0_pay6 (F := Ideal) Z (ix3 0 r k) = GR m c (ix3 (layer t) (row t r) k) := by
  rw [← e]
  pointwise [k0_pay6]

theorem nm_at : k0_pay1 (F := Ideal) (k0_pay7 Z (iblk m c 3 t)) (ix3 0 r k) = NM m c (ix3 (layer t) (row t r) k) := by
  pointwise [k0_pay1, k0_pay7, NM, val_main_v17, val_main_v16, val_main_v15, val_main_v14, val_main_v13, val_main_cst_1, val_main_cst_2]
  rw [e, m_at]

theorem nv_at : k0_pay2 (F := Ideal) (k0_pay8 Z (iblk m c 4 t)) (ix3 0 r k) = NV m c (ix3 (layer t) (row t r) k) := by
  pointwise [k0_pay2, k0_pay8, NV, val_main_v23, val_main_v22, val_main_v21, val_main_v20, val_main_v19, val_main_v18, val_main_cst_3, val_main_cst_4]
  rw [e, v_at]

theorem de_at : k0_pay9 (F := Ideal) Z (iblk m c 2 t) (iblk m c 3 t) (iblk m c 4 t) (ix3 0 r k) = DE m c (ix3 (layer t) (row t r) k) := by
  pointwise [k0_pay9, k0_pay7, k0_pay8, DE, val_main_v36, val_main_v35, val_main_v34, val_main_v33, val_main_v32, val_main_v31, val_main_v30, val_main_v29, val_main_v28,
    val_main_v27, val_main_v26, val_main_v25, val_main_v24, val_main_v23, val_main_v22, val_main_v21, val_main_v20, val_main_v19, val_main_v18, val_main_v17, val_main_v16,
    val_main_v15, val_main_v14, val_main_v13, val_main_cst_1, val_main_cst_2, val_main_cst_3, val_main_cst_4, val_main_cst_5, val_main_cst_6, val_main_cst_7, val_main_cst_8,
    val_main_cst_9]
  rw [e, w_at, m_at, v_at]

end Point

/-! ## The results -/

theorem o5_eq (c : Dev nD) (t : Fin cfg0.N) (r : Fin 256) (k : Fin 512) : (outsAt0 m c t.val t.isLt).1 (ix3 0 r k) = GR m c (ix3 (layer t) (row t r) k) := by
  by_cases hA : t.val < 4
  · rw [outsAt0_A m c t hA (by omega)]; frame_out
    exact gr_at m c t _ (first m c t hA) r k
  · rw [outsAt0_B m c t hA (by omega)]; frame_out
    exact gr_at m c t _ (second m c t (by omega)) r k

theorem o6_eq (c : Dev nD) (t : Fin cfg0.N) (r : Fin 256) (k : Fin 512) : (outsAt0 m c t.val t.isLt).2.1 (ix3 0 r k) = DE m c (ix3 (layer t) (row t r) k) := by
  by_cases hA : t.val < 4
  · rw [outsAt0_A m c t hA (by omega)]; frame_out
    exact de_at m c t _ (first m c t hA) r k
  · rw [outsAt0_B m c t hA (by omega)]; frame_out
    exact de_at m c t _ (second m c t (by omega)) r k

theorem o7_eq (c : Dev nD) (t : Fin cfg0.N) (r : Fin 256) (k : Fin 512) : (outsAt0 m c t.val t.isLt).2.2.1 (ix3 0 r k) = NM m c (ix3 (layer t) (row t r) k) := by
  by_cases hA : t.val < 4
  · rw [outsAt0_A m c t hA (by omega)]; frame_out
    exact nm_at m c t _ (first m c t hA) r k
  · rw [outsAt0_B m c t hA (by omega)]; frame_out
    exact nm_at m c t _ (second m c t (by omega)) r k

theorem o8_eq (c : Dev nD) (t : Fin cfg0.N) (r : Fin 256) (k : Fin 512) : (outsAt0 m c t.val t.isLt).2.2.2 (ix3 0 r k) = NV m c (ix3 (layer t) (row t r) k) := by
  by_cases hA : t.val < 4
  · rw [outsAt0_A m c t hA (by omega)]; frame_out
    exact nv_at m c t _ (first m c t hA) r k
  · rw [outsAt0_B m c t hA (by omega)]; frame_out
    exact nv_at m c t _ (second m c t (by omega)) r k

theorem final5 (c : Dev nD) : (dats m 0 c).arrAt 5 (cfgs 0).N = GR m c := by
  refine (dats m 0 c).arrAt_eq_of_covers 5 _ (by decide +kernel) fun t _ y => ?_
  blk_simp
  idx_vars y
  obtain rfl : y0 = 0 := Subsingleton.elim _ _
  rw [after0_5]
  refine (o5_eq m c t y1 y2).trans ?_
  generalize GR m c = Z
  blk_ext [idx t, row, layer]

theorem final6 (c : Dev nD) : (dats m 0 c).arrAt 6 (cfgs 0).N = DE m c := by
  refine (dats m 0 c).arrAt_eq_of_covers 6 _ (by decide +kernel) fun t _ y => ?_
  blk_simp
  idx_vars y
  obtain rfl : y0 = 0 := Subsingleton.elim _ _
  rw [after0_6]
  refine (o6_eq m c t y1 y2).trans ?_
  generalize DE m c = Z
  blk_ext [idx t, row, layer]

theorem final7 (c : Dev nD) : (dats m 0 c).arrAt 7 (cfgs 0).N = NM m c := by
  refine (dats m 0 c).arrAt_eq_of_covers 7 _ (by decide +kernel) fun t _ y => ?_
  blk_simp
  idx_vars y
  obtain rfl : y0 = 0 := Subsingleton.elim _ _
  rw [after0_7]
  refine (o7_eq m c t y1 y2).trans ?_
  generalize NM m c = Z
  blk_ext [idx t, row, layer]

theorem final8 (c : Dev nD) : (dats m 0 c).arrAt 8 (cfgs 0).N = NV m c := by
  refine (dats m 0 c).arrAt_eq_of_covers 8 _ (by decide +kernel) fun t _ y => ?_
  blk_simp
  idx_vars y
  obtain rfl : y0 = 0 := Subsingleton.elim _ _
  rw [after0_8]
  refine (o8_eq m c t y1 y2).trans ?_
  generalize NV m c = Z
  blk_ext [idx t, row, layer]

end Cert.AdamUpIdeal.Grad

end
-- ==== Proof.AdamUp.lean ====
/- The claims about the first feed-forward weights' optimiser step: the runs of the kernel and of its reference,
   joined by the equalities of `AdamUpGrad`. -/
module

public import proofs.«01_k».proof.Defs
public import proofs.«01_k».proof.Proof.Gen.AdamUp.Frame
public import proofs.«01_k».proof.Proof.Gen.AdamUpIdeal.Frame
public import proofs.«01_k».proof.Proof.Gen.AdamUpRefIdeal.Run
public import proofs.«01_k».proof.Proof.AdamUpGrad

@[expose] public section

set_option maxRecDepth 16384

noncomputable section

namespace Cert.AdamUp.Claims

open Idealize.ShloMosaic Idealize.ShloMosaic.TcCoe Idealize.SL.Sem

set_option maxHeartbeats 2000000 in
open Cert.AdamUpRefIdeal.Read Cert.AdamUpIdeal.Grad in
/-- Kernel and reference compute the same four arrays. -/
theorem algebraic : Cert.algebraic_AdamUpIdeal_AdamUpRefIdeal := by
  pair_intro
  · run_from Cert.AdamUpIdeal.Gen.run_main m g
  · refine (θ_run Cert.AdamUpRefIdeal.defs _ _).mono (fun r h c => ?_) (Cert.AdamUpRefIdeal.Value.run m' g')
    have a0 := (hagree c).1
    have a1 := (hagree c).2.1
    have a2 := (hagree c).2.2.1
    have a3 := (hagree c).2.2.2.1
    have a4 := (hagree c).2.2.2.2
    refine ⟨(h c).1.trans ?_, (h c).2.1.trans ?_, (h c).2.2.1.trans ?_, (h c).2.2.2.1.trans ?_, (h c).2.2.2.2⟩
    · refine (val_main_v12_eq _ _).trans ?_
      rw [a0, a1]; exact (final5 m c).symm
    · refine (val_main_v36_eq _ _ _ _ _).trans ?_
      rw [a0, a1, a2, a3, a4]; exact (final6 m c).symm
    · refine (val_main_v17_eq _ _ _).trans ?_
      rw [a0, a1, a3]; exact (final7 m c).symm
    · refine (val_main_v23_eq _ _ _).trans ?_
      rw [a0, a1, a4]; exact (final8 m c).symm

/-- The reference terminates, keeps its arguments and leaves every counter at zero. -/
theorem reference_frame : Cert.quiescent_AdamUpRefIdeal := fun m g _ =>
  (θ_run Cert.AdamUpRefIdeal.defs _ _).mono (fun r h => ⟨fun c => (h c).2.2.2.2, sem_eq_zero_of_no_sems (by decide) r.2⟩)
    (Cert.AdamUpRefIdeal.Value.run m g)

end Cert.AdamUp.Claims

end
-- ==== Proof.AdamDownGrad.lean ====
/- The second feed-forward weights' gradient, added up over the devices, and AdamW: what the kernel leaves in its four results. -/
module

public import proofs.«01_k».proof.Proof.Gen.AdamDownIdeal.Value
public import proofs.«01_k».proof.Proof.Gen.AdamDownRefIdeal.Read
public import Idealize.ShloMosaic.Lib.Pipeline.ValueKit
public import Idealize.ShloMosaic.Lib.Claim

@[expose] public section

set_option maxRecDepth 16384

noncomputable section

namespace Cert.AdamDownIdeal.Grad

open Cert.AdamDownIdeal Cert.AdamDownIdeal.Gen Idealize.ShloMosaic Idealize.ShloMosaic.TcCoe Idealize.SL.Sem
open Idealize.ShloMosaic.Pipeline (Dat)
open Cert.AdamDownRefIdeal.Read

variable (m : (ℓ : Loc nD τ sig) → Buf (Elt Ideal) ℓ)

/-- The eight devices' pieces of the two layers' gradients, the weights and the two moments. -/
abbrev P0 (c : Dev nD) : FVec Ideal S8x512x1024 .bf16 := m ((c : Thread nD τ).loc main_arg0)
abbrev P1 (c : Dev nD) : FVec Ideal S8x512x1024 .bf16 := m ((c : Thread nD τ).loc main_arg1)
abbrev W (c : Dev nD) : FVec Ideal S2x512x1024 .f32 := m ((c : Thread nD τ).loc main_arg2)
abbrev M1 (c : Dev nD) : FVec Ideal S2x512x1024 .f32 := m ((c : Thread nD τ).loc main_arg3)
abbrev M2 (c : Dev nD) : FVec Ideal S2x512x1024 .f32 := m ((c : Thread nD τ).loc main_arg4)

/-- The gradient, the step and the two new moments, as the reference computes them. -/
abbrev GR (c : Dev nD) : FVec Ideal S2x512x1024 .f32 := val_main_v6 (F := Ideal) (P0 m c) (P1 m c)
abbrev DE (c : Dev nD) : FVec Ideal S2x512x1024 .f32 := val_main_v30 (F := Ideal) (P0 m c) (P1 m c) (W m c) (M1 m c) (M2 m c)
abbrev NM (c : Dev nD) : FVec Ideal S2x512x1024 .f32 := val_main_v11 (F := Ideal) (P0 m c) (P1 m c) (M1 m c)
abbrev NV (c : Dev nD) : FVec Ideal S2x512x1024 .f32 := val_main_v17 (F := Ideal) (P0 m c) (P1 m c) (M2 m c)

/-- Every window's block index at every grid point. -/
theorem idx : ∀ t : Fin cfg0.N, (t.val < 2 → win0_0.index t = ![0, t.val % 2, 0]) ∧ (2 ≤ t.val → win0_1.index t = ![0, t.val % 2, 0])
    ∧ win0_2.index t = ![t.val / 2, t.val % 2, 0] ∧ win0_3.index t = ![t.val / 2, t.val % 2, 0] ∧ win0_4.index t = ![t.val / 2, t.val % 2, 0]
    ∧ win0_5.index t = ![t.val / 2, t.val % 2, 0] ∧ win0_6.index t = ![t.val / 2, t.val % 2, 0] ∧ win0_7.index t = ![t.val / 2, t.val % 2, 0]
    ∧ win0_8.index t = ![t.val / 2, t.val % 2, 0] :=
  (by decide +kernel : ∀ t : Fin grid0.N, _)

/-- The layer of point `t`, and the row of the weight that row `r` of its block is. -/
def layer (t : Fin cfg0.N) : Fin 2 := ⟨t.val / 2, by have := lt_of_lt_of_eq t.isLt N_0; omega⟩
def row (t : Fin cfg0.N) (r : Fin 256) : Fin 512 := ⟨t.val % 2 * 256 + r.val, by omega⟩

theorem w_at (c : Dev nD) (t : Fin cfg0.N) (r : Fin 256) (k : Fin 1024) : iblk m c 2 t (ix3 0 r k) = W m c (ix3 (layer t) (row t r) k) := by
  blk_ext [iblk, V, idx t, layer, row]

theorem m_at (c : Dev nD) (t : Fin cfg0.N) (r : Fin 256) (k : Fin 1024) : iblk m c 3 t (ix3 0 r k) = M1 m c (ix3 (layer t) (row t r) k) := by
  blk_ext [iblk, V, idx t, layer, row]

theorem v_at (c : Dev nD) (t : Fin cfg0.N) (r : Fin 256) (k : Fin 1024) : iblk m c 4 t (ix3 0 r k) = M2 m c (ix3 (layer t) (row t r) k) := by
  blk_ext [iblk, V, idx t, layer, row]

theorem p0_at (c : Dev nD) (t : Fin cfg0.N) (h0 : t.val < 2) (s : Fin 8) (r : Fin 256) (k : Fin 1024) :
    iblk m c 0 t (ix3 s r k) = P0 m c (ix3 s (row t r) k) := by
  blk_ext [iblk, V, (idx t).1 h0, row]

theorem p1_at (c : Dev nD) (t : Fin cfg0.N) (h1 : 2 ≤ t.val) (s : Fin 8) (r : Fin 256) (k : Fin 1024) :
    iblk m c 1 t (ix3 s r k) = P1 m c (ix3 s (row t r) k) := by
  blk_ext [iblk, V, (idx t).2.1 h1, row]

/-! ## The reference's four arrays at an index -/

theorem GR_at (c : Dev nD) (l : Fin 2) (a : Fin 512) (b : Fin 1024) : GR m c (ix3 l a b)
    = if l.val < 1 then ∑ s : Fin 8, P0 m c (ix3 s a b) else ∑ s : Fin 8, P1 m c (ix3 s a b) := by
  pointwise [GR, val_main_v6, val_main_v5, val_main_v4, val_main_v3, val_main_v2, val_main_v1, val_main_v0, val_main_cst, val_main_cst_0]
  rfl

/-! ## The sum of the eight pieces -/

/-- Piece `s` of a block. -/
abbrev piece (x : Vec Ideal S8x256x1024 .bf16) (s : ℕ)
    (h : ∀ a : Fin S8x256x1024.rank, (![s, 0, 0] : Fin S8x256x1024.rank → ℕ) a + (![1, 256, 1024] : Fin S8x256x1024.rank → ℕ) a ≤ S8x256x1024.size a) : Vec Ideal S1x256x1024 .bf16 :=
  View.ld (Val := Elt Ideal) (S := S8x256x1024) (e' := .bf16) x (Rect.unit (s := S8x256x1024) ![s, 0, 0] ![1, 256, 1024] h)

theorem piece_at (x : Vec Ideal S8x256x1024 .bf16) (s : ℕ) (hs : s < 8) (h) (r : Fin 256) (k : Fin 1024) :
    piece x s h (ix3 (0 : Fin 1) r k) = x (ix3 ⟨s, hs⟩ r k) := by
  unfold piece
  pointwise

/-- The eight pieces added one after the other. -/
abbrev sum8 (x : Vec Ideal S8x256x1024 .bf16) : FVec Ideal S256x1024 .f32 :=
  k0_pay5 (piece x 0 inb_S8x256x1024_S1x256x1024_0_0_0) (piece x 1 inb_S8x256x1024_S1x256x1024_1_0_0) (piece x 2 inb_S8x256x1024_S1x256x1024_2_0_0)
    (piece x 3 inb_S8x256x1024_S1x256x1024_3_0_0) (piece x 4 inb_S8x256x1024_S1x256x1024_4_0_0) (piece x 5 inb_S8x256x1024_S1x256x1024_5_0_0)
    (piece x 6 inb_S8x256x1024_S1x256x1024_6_0_0) (piece x 7 inb_S8x256x1024_S1x256x1024_7_0_0)

theorem sum8_at (x : Vec Ideal S8x256x1024 .bf16) (r : Fin 256) (k : Fin 1024) : sum8 x (ix2 r k) = ∑ s : Fin 8, x (ix3 s r k) := by
  rw [Fin.sum_univ_eight]
  refine Eq.trans (b := piece x 0 inb_S8x256x1024_S1x256x1024_0_0_0 (ix3 0 r k) + piece x 1 inb_S8x256x1024_S1x256x1024_1_0_0 (ix3 0 r k)
    + piece x 2 inb_S8x256x1024_S1x256x1024_2_0_0 (ix3 0 r k) + piece x 3 inb_S8x256x1024_S1x256x1024_3_0_0 (ix3 0 r k)
    + piece x 4 inb_S8x256x1024_S1x256x1024_4_0_0 (ix3 0 r k) + piece x 5 inb_S8x256x1024_S1x256x1024_5_0_0 (ix3 0 r k)
    + piece x 6 inb_S8x256x1024_S1x256x1024_6_0_0 (ix3 0 r k) + piece x 7 inb_S8x256x1024_S1x256x1024_7_0_0 (ix3 0 r k)) ?_ ?_
  · unfold sum8
    generalize piece x 0 inb_S8x256x1024_S1x256x1024_0_0_0 = a0
    generalize piece x 1 inb_S8x256x1024_S1x256x1024_1_0_0 = a1
    generalize piece x 2 inb_S8x256x1024_S1x256x1024_2_0_0 = a2
    generalize piece x 3 inb_S8x256x1024_S1x256x1024_3_0_0 = a3
    generalize piece x 4 inb_S8x256x1024_S1x256x1024_4_0_0 = a4
    generalize piece x 5 inb_S8x256x1024_S1x256x1024_5_0_0 = a5
    generalize piece x 6 inb_S8x256x1024_S1x256x1024_6_0_0 = a6
    generalize piece x 7 inb_S8x256x1024_S1x256x1024_7_0_0 = a7
    pointwise [k0_pay5]
  · rw [piece_at x 0 (by decide), piece_at x 1 (by decide), piece_at x 2 (by decide), piece_at x 3 (by decide), piece_at x 4 (by decide),
      piece_at x 5 (by decide), piece_at x 6 (by decide), piece_at x 7 (by decide)]
    rfl

/-- At a point of the first layer the sum is the reference's gradient of that layer's weight. -/
theorem first (c : Dev nD) (t : Fin cfg0.N) (h0 : t.val < 2) (r : Fin 256) (k : Fin 1024) : sum8 (iblk m c 0 t) (ix2 r k) = GR m c (ix3 (layer t) (row t r) k) := by
  rw [sum8_at, GR_at, if_pos (by show t.val / 2 < 1; omega)]
  exact Finset.sum_congr rfl fun s _ => p0_at m c t h0 s r k

/-- At a point of the second layer it is the second's. -/
theorem second (c : Dev nD) (t : Fin cfg0.N) (h1 : 2 ≤ t.val) (r : Fin 256) (k : Fin 1024) : sum8 (iblk m c 1 t) (ix2 r k) = GR m c (ix3 (layer t) (row t r) k) := by
  rw [sum8_at, GR_at, if_neg (by show ¬t.val / 2 < 1; omega)]
  exact Finset.sum_congr rfl fun s _ => p1_at m c t h1 s r k

/-! ## The four results of a point, from a block `Z` that holds the gradient -/

section Point

variable (c : Dev nD) (t : Fin cfg0.N) (Z : FVec Ideal S256x1024 .f32) (e : ∀ r k, Z (ix2 r k) = GR m c (ix3 (layer t) (row t r) k)) (r : Fin 256) (k : Fin 1024)

include e

theorem gr_at : k0_pay6 (F := Ideal) Z (ix3 0 r k) = GR m c (ix3 (layer t) (row t r) k) := by
  rw [← e]
  pointwise [k0_pay6]

theorem nm_at : k0_pay1 (F := Ideal) (k0_pay7 Z (iblk m c 3 t)) (ix3 0 r k) = NM m c (ix3 (layer t) (row t r) k) := by
  pointwise [k0_pay1, k0_pay7, NM, val_main_v11, val_main_v10, val_main_v9, val_main_v8, val_main_v7, val_main_cst_1, val_main_cst_2]
  rw [e, m_at]

theorem nv_at : k0_pay2 (F := Ideal) (k0_pay8 Z (iblk m c 4 t)) (ix3 0 r k) = NV m c (ix3 (layer t) (row t r) k) := by
  pointwise [k0_pay2, k0_pay8, NV, val_main_v17, val_main_v16, val_main_v15, val_main_v14, val_main_v13, val_main_v12, val_main_cst_3, val_main_cst_4]
  rw [e, v_at]

theorem de_at : k0_pay9 (F := Ideal) Z (iblk m c 2 t) (iblk m c 3 t) (iblk m c 4 t) (ix3 0 r k) = DE m c (ix3 (layer t) (row t r) k) := by
  pointwise [k0_pay9, k0_pay7, k0_pay8, DE, val_main_v30, val_main_v29, val_main_v28,
    val_main_v27, val_main_v26, val_main_v25, val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7,
    val_main_cst_1, val_main_cst_2, val_main_cst_3, val_main_cst_4, val_main_cst_5, val_main_cst_6, val_main_cst_7, val_main_cst_8, val_main_cst_9]
  rw [e, w_at, m_at, v_at]

end Point

/-! ## The results -/

theorem o5_eq (c : Dev nD) (t : Fin cfg0.N) (r : Fin 256) (k : Fin 1024) : (outsAt0 m c t.val t.isLt).1 (ix3 0 r k) = GR m c (ix3 (layer t) (row t r) k) := by
  by_cases hA : t.val < 2
  · rw [outsAt0_A m c t hA (by omega)]; frame_out
    exact gr_at m c t _ (first m c t hA) r k
  · rw [outsAt0_B m c t hA (by omega)]; frame_out
    exact gr_at m c t _ (second m c t (by omega)) r k

theorem o6_eq (c : Dev nD) (t : Fin cfg0.N) (r : Fin 256) (k : Fin 1024) : (outsAt0 m c t.val t.isLt).2.1 (ix3 0 r k) = DE m c (ix3 (layer t) (row t r) k) := by
  by_cases hA : t.val < 2
  · rw [outsAt0_A m c t hA (by omega)]; frame_out
    exact de_at m c t _ (first m c t hA) r k
  · rw [outsAt0_B m c t hA (by omega)]; frame_out
    exact de_at m c t _ (second m c t (by omega)) r k

theorem o7_eq (c : Dev nD) (t : Fin cfg0.N) (r : Fin 256) (k : Fin 1024) : (outsAt0 m c t.val t.isLt).2.2.1 (ix3 0 r k) = NM m c (ix3 (layer t) (row t r) k) := by
  by_cases hA : t.val < 2
  · rw [outsAt0_A m c t hA (by omega)]; frame_out
    exact nm_at m c t _ (first m c t hA) r k
  · rw [outsAt0_B m c t hA (by omega)]; frame_out
    exact nm_at m c t _ (second m c t (by omega)) r k

theorem o8_eq (c : Dev nD) (t : Fin cfg0.N) (r : Fin 256) (k : Fin 1024) : (outsAt0 m c t.val t.isLt).2.2.2 (ix3 0 r k) = NV m c (ix3 (layer t) (row t r) k) := by
  by_cases hA : t.val < 2
  · rw [outsAt0_A m c t hA (by omega)]; frame_out
    exact nv_at m c t _ (first m c t hA) r k
  · rw [outsAt0_B m c t hA (by omega)]; frame_out
    exact nv_at m c t _ (second m c t (by omega)) r k

theorem final5 (c : Dev nD) : (dats m 0 c).arrAt 5 (cfgs 0).N = GR m c := by
  refine (dats m 0 c).arrAt_eq_of_covers 5 _ (by decide +kernel) fun t _ y => ?_
  blk_simp
  idx_vars y
  obtain rfl : y0 = 0 := Subsingleton.elim _ _
  rw [after0_5]
  refine (o5_eq m c t y1 y2).trans ?_
  generalize GR m c = Z
  blk_ext [idx t, row, layer]

theorem final6 (c : Dev nD) : (dats m 0 c).arrAt 6 (cfgs 0).N = DE m c := by
  refine (dats m 0 c).arrAt_eq_of_covers 6 _ (by decide +kernel) fun t _ y => ?_
  blk_simp
  idx_vars y
  obtain rfl : y0 = 0 := Subsingleton.elim _ _
  rw [after0_6]
  refine (o6_eq m c t y1 y2).trans ?_
  generalize DE m c = Z
  blk_ext [idx t, row, layer]

theorem final7 (c : Dev nD) : (dats m 0 c).arrAt 7 (cfgs 0).N = NM m c := by
  refine (dats m 0 c).arrAt_eq_of_covers 7 _ (by decide +kernel) fun t _ y => ?_
  blk_simp
  idx_vars y
  obtain rfl : y0 = 0 := Subsingleton.elim _ _
  rw [after0_7]
  refine (o7_eq m c t y1 y2).trans ?_
  generalize NM m c = Z
  blk_ext [idx t, row, layer]

theorem final8 (c : Dev nD) : (dats m 0 c).arrAt 8 (cfgs 0).N = NV m c := by
  refine (dats m 0 c).arrAt_eq_of_covers 8 _ (by decide +kernel) fun t _ y => ?_
  blk_simp
  idx_vars y
  obtain rfl : y0 = 0 := Subsingleton.elim _ _
  rw [after0_8]
  refine (o8_eq m c t y1 y2).trans ?_
  generalize NV m c = Z
  blk_ext [idx t, row, layer]

end Cert.AdamDownIdeal.Grad

end
-- ==== Proof.AdamDown.lean ====
/- The claims about the second feed-forward weights' optimiser step: the runs of the kernel and of its reference,
   joined by the equalities of `AdamDownGrad`. -/
module

public import proofs.«01_k».proof.Defs
public import proofs.«01_k».proof.Proof.Gen.AdamDown.Frame
public import proofs.«01_k».proof.Proof.Gen.AdamDownIdeal.Frame
public import proofs.«01_k».proof.Proof.Gen.AdamDownRefIdeal.Run
public import proofs.«01_k».proof.Proof.AdamDownGrad

@[expose] public section

set_option maxRecDepth 16384

noncomputable section

namespace Cert.AdamDown.Claims

open Idealize.ShloMosaic Idealize.ShloMosaic.TcCoe Idealize.SL.Sem

set_option maxHeartbeats 2000000 in
open Cert.AdamDownRefIdeal.Read Cert.AdamDownIdeal.Grad in
/-- Kernel and reference compute the same four arrays. -/
theorem algebraic : Cert.algebraic_AdamDownIdeal_AdamDownRefIdeal := by
  pair_intro
  · run_from Cert.AdamDownIdeal.Gen.run_main m g
  · refine (θ_run Cert.AdamDownRefIdeal.defs _ _).mono (fun r h c => ?_) (Cert.AdamDownRefIdeal.Value.run m' g')
    have a0 := (hagree c).1
    have a1 := (hagree c).2.1
    have a2 := (hagree c).2.2.1
    have a3 := (hagree c).2.2.2.1
    have a4 := (hagree c).2.2.2.2
    refine ⟨(h c).1.trans ?_, (h c).2.1.trans ?_, (h c).2.2.1.trans ?_, (h c).2.2.2.1.trans ?_, (h c).2.2.2.2⟩
    · refine (val_main_v6_eq _ _).trans ?_
      rw [a0, a1]; exact (final5 m c).symm
    · refine (val_main_v30_eq _ _ _ _ _).trans ?_
      rw [a0, a1, a2, a3, a4]; exact (final6 m c).symm
    · refine (val_main_v11_eq _ _ _).trans ?_
      rw [a0, a1, a3]; exact (final7 m c).symm
    · refine (val_main_v17_eq _ _ _).trans ?_
      rw [a0, a1, a4]; exact (final8 m c).symm

/-- The reference terminates, keeps its arguments and leaves every counter at zero. -/
theorem reference_frame : Cert.quiescent_AdamDownRefIdeal := fun m g _ =>
  (θ_run Cert.AdamDownRefIdeal.defs _ _).mono (fun r h => ⟨fun c => (h c).2.2.2.2, sem_eq_zero_of_no_sems (by decide) r.2⟩)
    (Cert.AdamDownRefIdeal.Value.run m g)

end Cert.AdamDown.Claims

end
-- ==== Proof.AdamOutGrad.lean ====
/- An output projection's gradient, added up over the devices, and AdamW: what the kernel leaves in its four results. -/
module

public import proofs.«01_k».proof.Proof.Gen.AdamOutIdeal.Value
public import proofs.«01_k».proof.Proof.Gen.AdamOutRefIdeal.Read
public import Idealize.ShloMosaic.Lib.Pipeline.ValueKit
public import Idealize.ShloMosaic.Lib.Claim

@[expose] public section

set_option maxRecDepth 16384

noncomputable section

namespace Cert.AdamOutIdeal.Grad

open Cert.AdamOutIdeal Cert.AdamOutIdeal.Gen Idealize.ShloMosaic Idealize.ShloMosaic.TcCoe Idealize.SL.Sem
open Idealize.ShloMosaic.Pipeline (Dat)
open Cert.AdamOutRefIdeal.Read

variable (m : (ℓ : Loc nD τ sig) → Buf (Elt Ideal) ℓ)

/-- The eight devices' pieces of the gradient, the weight and the two moments. -/
abbrev P (c : Dev nD) : FVec Ideal S8x128x1024 .bf16 := m ((c : Thread nD τ).loc main_arg0)
abbrev W (c : Dev nD) : FVec Ideal S1x128x1024 .f32 := m ((c : Thread nD τ).loc main_arg1)
abbrev M1 (c : Dev nD) : FVec Ideal S1x128x1024 .f32 := m ((c : Thread nD τ).loc main_arg2)
abbrev M2 (c : Dev nD) : FVec Ideal S1x128x1024 .f32 := m ((c : Thread nD τ).loc main_arg3)

/-- The gradient, the step and the two new moments, as the reference computes them. -/
abbrev GR (c : Dev nD) : FVec Ideal S1x128x1024 .f32 := val_main_v2 (F := Ideal) (P m c)
abbrev DE (c : Dev nD) : FVec Ideal S1x128x1024 .f32 := val_main_v26 (F := Ideal) (P m c) (W m c) (M1 m c) (M2 m c)
abbrev NM (c : Dev nD) : FVec Ideal S1x128x1024 .f32 := val_main_v7 (F := Ideal) (P m c) (M1 m c)
abbrev NV (c : Dev nD) : FVec Ideal S1x128x1024 .f32 := val_main_v13 (F := Ideal) (P m c) (M2 m c)

/-- Every window's block is its whole array, at the one grid point. -/
theorem idx : ∀ t : Fin cfg0.N, win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0, 0] :=
  (by decide +kernel : ∀ t : Fin grid0.N, _)

theorem p_at (c : Dev nD) (t : Fin cfg0.N) (s : Fin 8) (r : Fin 128) (k : Fin 1024) : iblk m c 0 t (ix3 s r k) = P m c (ix3 s r k) := by
  blk_ext [iblk, V, idx t]

theorem w_at (c : Dev nD) (t : Fin cfg0.N) (r : Fin 128) (k : Fin 1024) : iblk m c 1 t (ix3 0 r k) = W m c (ix3 0 r k) := by
  blk_ext [iblk, V, idx t]

theorem m_at (c : Dev nD) (t : Fin cfg0.N) (r : Fin 128) (k : Fin 1024) : iblk m c 2 t (ix3 0 r k) = M1 m c (ix3 0 r k) := by
  blk_ext [iblk, V, idx t]

theorem v_at (c : Dev nD) (t : Fin cfg0.N) (r : Fin 128) (k : Fin 1024) : iblk m c 3 t (ix3 0 r k) = M2 m c (ix3 0 r k) := by
  blk_ext [iblk, V, idx t]

/-! ## The reference's gradient at an index -/

theorem GR_at (c : Dev nD) (r : Fin 128) (k : Fin 1024) : GR m c (ix3 0 r k) = ∑ s : Fin 8, P m c (ix3 s r k) := by
  pointwise [GR, val_main_v2, val_main_v1, val_main_v0, val_main_cst]

/-! ## The sum of the eight pieces -/

/-- Piece `s` of a block. -/
abbrev piece (x : Vec Ideal S8x128x1024 .bf16) (s : ℕ)
    (h : ∀ a : Fin S8x128x1024.rank, (![s, 0, 0] : Fin S8x128x1024.rank → ℕ) a + (![1, 128, 1024] : Fin S8x128x1024.rank → ℕ) a ≤ S8x128x1024.size a) : Vec Ideal S1x128x1024 .bf16 :=
  View.ld (Val := Elt Ideal) (S := S8x128x1024) (e' := .bf16) x (Rect.unit (s := S8x128x1024) ![s, 0, 0] ![1, 128, 1024] h)

theorem piece_at (x : Vec Ideal S8x128x1024 .bf16) (s : ℕ) (hs : s < 8) (h) (r : Fin 128) (k : Fin 1024) :
    piece x s h (ix3 (0 : Fin 1) r k) = x (ix3 ⟨s, hs⟩ r k) := by
  unfold piece
  pointwise

/-- The eight pieces added one after the other. -/
abbrev sum8 (x : Vec Ideal S8x128x1024 .bf16) : FVec Ideal S128x1024 .f32 :=
  k0_pay3 (piece x 0 inb_S8x128x1024_S1x128x1024_0_0_0) (piece x 1 inb_S8x128x1024_S1x128x1024_1_0_0) (piece x 2 inb_S8x128x1024_S1x128x1024_2_0_0)
    (piece x 3 inb_S8x128x1024_S1x128x1024_3_0_0) (piece x 4 inb_S8x128x1024_S1x128x1024_4_0_0) (piece x 5 inb_S8x128x1024_S1x128x1024_5_0_0)
    (piece x 6 inb_S8x128x1024_S1x128x1024_6_0_0) (piece x 7 inb_S8x128x1024_S1x128x1024_7_0_0)

theorem sum8_at (x : Vec Ideal S8x128x1024 .bf16) (r : Fin 128) (k : Fin 1024) : sum8 x (ix2 r k) = ∑ s : Fin 8, x (ix3 s r k) := by
  rw [Fin.sum_univ_eight]
  refine Eq.trans (b := piece x 0 inb_S8x128x1024_S1x128x1024_0_0_0 (ix3 0 r k) + piece x 1 inb_S8x128x1024_S1x128x1024_1_0_0 (ix3 0 r k)
    + piece x 2 inb_S8x128x1024_S1x128x1024_2_0_0 (ix3 0 r k) + piece x 3 inb_S8x128x1024_S1x128x1024_3_0_0 (ix3 0 r k)
    + piece x 4 inb_S8x128x1024_S1x128x1024_4_0_0 (ix3 0 r k) + piece x 5 inb_S8x128x1024_S1x128x1024_5_0_0 (ix3 0 r k)
    + piece x 6 inb_S8x128x1024_S1x128x1024_6_0_0 (ix3 0 r k) + piece x 7 inb_S8x128x1024_S1x128x1024_7_0_0 (ix3 0 r k)) ?_ ?_
  · unfold sum8
    generalize piece x 0 inb_S8x128x1024_S1x128x1024_0_0_0 = a0
    generalize piece x 1 inb_S8x128x1024_S1x128x1024_1_0_0 = a1
    generalize piece x 2 inb_S8x128x1024_S1x128x1024_2_0_0 = a2
    generalize piece x 3 inb_S8x128x1024_S1x128x1024_3_0_0 = a3
    generalize piece x 4 inb_S8x128x1024_S1x128x1024_4_0_0 = a4
    generalize piece x 5 inb_S8x128x1024_S1x128x1024_5_0_0 = a5
    generalize piece x 6 inb_S8x128x1024_S1x128x1024_6_0_0 = a6
    generalize piece x 7 inb_S8x128x1024_S1x128x1024_7_0_0 = a7
    pointwise [k0_pay3]
  · rw [piece_at x 0 (by decide), piece_at x 1 (by decide), piece_at x 2 (by decide), piece_at x 3 (by decide), piece_at x 4 (by decide),
      piece_at x 5 (by decide), piece_at x 6 (by decide), piece_at x 7 (by decide)]
    rfl

/-- The sum is the reference's gradient. -/
theorem sum_eq (c : Dev nD) (t : Fin cfg0.N) (r : Fin 128) (k : Fin 1024) : sum8 (iblk m c 0 t) (ix2 r k) = GR m c (ix3 0 r k) := by
  rw [sum8_at, GR_at]
  exact Finset.sum_congr rfl fun s _ => p_at m c t s r k

/-! ## The four results of a point, from a block `Z` that holds the gradient -/

section Point

variable (c : Dev nD) (t : Fin cfg0.N) (Z : FVec Ideal S128x1024 .f32) (e : ∀ r k, Z (ix2 r k) = GR m c (ix3 0 r k)) (r : Fin 128) (k : Fin 1024)

include e

theorem gr_at : k0_pay4 (F := Ideal) Z (ix3 0 r k) = GR m c (ix3 0 r k) := by
  rw [← e]
  pointwise [k0_pay4]

theorem nm_at : k0_pay1 (F := Ideal) (k0_pay5 Z (iblk m c 2 t)) (ix3 0 r k) = NM m c (ix3 0 r k) := by
  pointwise [k0_pay1, k0_pay5, NM, val_main_v7, val_main_v6, val_main_v5, val_main_v4, val_main_v3, val_main_cst_0, val_main_cst_1]
  rw [e, m_at]

theorem nv_at : k0_pay2 (F := Ideal) (k0_pay6 Z (iblk m c 3 t)) (ix3 0 r k) = NV m c (ix3 0 r k) := by
  pointwise [k0_pay2, k0_pay6, NV, val_main_v13, val_main_v12, val_main_v11, val_main_v10, val_main_v9, val_main_v8, val_main_cst_2, val_main_cst_3]
  rw [e, v_at]

theorem de_at : k0_pay7 (F := Ideal) Z (iblk m c 1 t) (iblk m c 2 t) (iblk m c 3 t) (ix3 0 r k) = DE m c (ix3 0 r k) := by
  pointwise [k0_pay7, k0_pay5, k0_pay6, DE, val_main_v26, val_main_v25, val_main_v24, val_main_v23, val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v5, val_main_v4, val_main_v3,
    val_main_cst_0, val_main_cst_1, val_main_cst_2, val_main_cst_3, val_main_cst_4, val_main_cst_5, val_main_cst_6, val_main_cst_7, val_main_cst_8]
  rw [e, w_at, m_at, v_at]

end Point

/-! ## The results -/

theorem o4_eq (c : Dev nD) (t : Fin cfg0.N) (r : Fin 128) (k : Fin 1024) : (outsAt0 m c t).1 (ix3 0 r k) = GR m c (ix3 0 r k) := by
  rw [outsAt0]; frame_out
  exact gr_at m c _ (sum_eq m c t) r k

theorem o5_eq (c : Dev nD) (t : Fin cfg0.N) (r : Fin 128) (k : Fin 1024) : (outsAt0 m c t).2.1 (ix3 0 r k) = DE m c (ix3 0 r k) := by
  rw [outsAt0]; frame_out
  exact de_at m c t _ (sum_eq m c t) r k

theorem o6_eq (c : Dev nD) (t : Fin cfg0.N) (r : Fin 128) (k : Fin 1024) : (outsAt0 m c t).2.2.1 (ix3 0 r k) = NM m c (ix3 0 r k) := by
  rw [outsAt0]; frame_out
  exact nm_at m c t _ (sum_eq m c t) r k

theorem o7_eq (c : Dev nD) (t : Fin cfg0.N) (r : Fin 128) (k : Fin 1024) : (outsAt0 m c t).2.2.2 (ix3 0 r k) = NV m c (ix3 0 r k) := by
  rw [outsAt0]; frame_out
  exact nv_at m c t _ (sum_eq m c t) r k

theorem final4 (c : Dev nD) : (dats m 0 c).arrAt 4 (cfgs 0).N = GR m c := by
  refine (dats m 0 c).arrAt_eq_of_covers 4 _ (by decide +kernel) fun t _ y => ?_
  blk_simp
  idx_vars y
  obtain rfl : y0 = 0 := Subsingleton.elim _ _
  rw [after0_4]
  refine (o4_eq m c t y1 y2).trans ?_
  generalize GR m c = Z
  blk_ext [idx t]

theorem final5 (c : Dev nD) : (dats m 0 c).arrAt 5 (cfgs 0).N = DE m c := by
  refine (dats m 0 c).arrAt_eq_of_covers 5 _ (by decide +kernel) fun t _ y => ?_
  blk_simp
  idx_vars y
  obtain rfl : y0 = 0 := Subsingleton.elim _ _
  rw [after0_5]
  refine (o5_eq m c t y1 y2).trans ?_
  generalize DE m c = Z
  blk_ext [idx t]

theorem final6 (c : Dev nD) : (dats m 0 c).arrAt 6 (cfgs 0).N = NM m c := by
  refine (dats m 0 c).arrAt_eq_of_covers 6 _ (by decide +kernel) fun t _ y => ?_
  blk_simp
  idx_vars y
  obtain rfl : y0 = 0 := Subsingleton.elim _ _
  rw [after0_6]
  refine (o6_eq m c t y1 y2).trans ?_
  generalize NM m c = Z
  blk_ext [idx t]

theorem final7 (c : Dev nD) : (dats m 0 c).arrAt 7 (cfgs 0).N = NV m c := by
  refine (dats m 0 c).arrAt_eq_of_covers 7 _ (by decide +kernel) fun t _ y => ?_
  blk_simp
  idx_vars y
  obtain rfl : y0 = 0 := Subsingleton.elim _ _
  rw [after0_7]
  refine (o7_eq m c t y1 y2).trans ?_
  generalize NV m c = Z
  blk_ext [idx t]

end Cert.AdamOutIdeal.Grad

end
-- ==== Proof.AdamOut.lean ====
/- The claims about the optimiser step of an output projection: the runs of the kernel and of its reference, joined by
   the equalities of `AdamOutGrad`. -/
module

public import proofs.«01_k».proof.Defs
public import proofs.«01_k».proof.Proof.Gen.AdamOut.Frame
public import proofs.«01_k».proof.Proof.Gen.AdamOutIdeal.Frame
public import proofs.«01_k».proof.Proof.Gen.AdamOutRefIdeal.Run
public import proofs.«01_k».proof.Proof.AdamOutGrad

@[expose] public section

set_option maxRecDepth 16384

noncomputable section

namespace Cert.AdamOut.Claims

open Idealize.ShloMosaic Idealize.ShloMosaic.TcCoe Idealize.SL.Sem

set_option maxHeartbeats 2000000 in
open Cert.AdamOutRefIdeal.Read Cert.AdamOutIdeal.Grad in
/-- Kernel and reference compute the same four arrays. -/
theorem algebraic : Cert.algebraic_AdamOutIdeal_AdamOutRefIdeal := by
  pair_intro
  · run_from Cert.AdamOutIdeal.Gen.run_main m g
  · refine (θ_run Cert.AdamOutRefIdeal.defs _ _).mono (fun r h c => ?_) (Cert.AdamOutRefIdeal.Value.run m' g')
    have a0 := (hagree c).1
    have a1 := (hagree c).2.1
    have a2 := (hagree c).2.2.1
    have a3 := (hagree c).2.2.2
    refine ⟨(h c).1.trans ?_, (h c).2.1.trans ?_, (h c).2.2.1.trans ?_, (h c).2.2.2.1.trans ?_, (h c).2.2.2.2⟩
    · refine (val_main_v2_eq _).trans ?_
      rw [a0]; exact (final4 m c).symm
    · refine (val_main_v26_eq _ _ _ _).trans ?_
      rw [a0, a1, a2, a3]; exact (final5 m c).symm
    · refine (val_main_v7_eq _ _).trans ?_
      rw [a0, a2]; exact (final6 m c).symm
    · refine (val_main_v13_eq _ _).trans ?_
      rw [a0, a3]; exact (final7 m c).symm

/-- The reference terminates, keeps its arguments and leaves every counter at zero. -/
theorem reference_frame : Cert.quiescent_AdamOutRefIdeal := fun m g _ =>
  (θ_run Cert.AdamOutRefIdeal.defs _ _).mono (fun r h => ⟨fun c => (h c).2.2.2.2, sem_eq_zero_of_no_sems (by decide) r.2⟩)
    (Cert.AdamOutRefIdeal.Value.run m g)

end Cert.AdamOut.Claims

end
-- ==== Proof.AdamQkvGrad.lean ====
/- The attention's input projection's gradient, added up over the devices, and AdamW: what the kernel leaves in its four results. -/
module

public import proofs.«01_k».proof.Proof.Gen.AdamQkvIdeal.Value
public import proofs.«01_k».proof.Proof.Gen.AdamQkvRefIdeal.Read
public import Idealize.ShloMosaic.Lib.Pipeline.ValueKit
public import Idealize.ShloMosaic.Lib.Claim

@[expose] public section

set_option maxRecDepth 16384

noncomputable section

namespace Cert.AdamQkvIdeal.Grad

open Cert.AdamQkvIdeal Cert.AdamQkvIdeal.Gen Idealize.ShloMosaic Idealize.ShloMosaic.TcCoe Idealize.SL.Sem
open Idealize.ShloMosaic.Pipeline (Dat)
open Cert.AdamQkvRefIdeal.Read

variable (m : (ℓ : Loc nD τ sig) → Buf (Elt Ideal) ℓ)

/-- The eight devices' pieces of the gradient, the weight and the two moments. -/
abbrev P (c : Dev nD) : FVec Ideal S8x160x1024 .bf16 := m ((c : Thread nD τ).loc main_arg0)
abbrev W (c : Dev nD) : FVec Ideal S1x160x1024 .f32 := m ((c : Thread nD τ).loc main_arg1)
abbrev M1 (c : Dev nD) : FVec Ideal S1x160x1024 .f32 := m ((c : Thread nD τ).loc main_arg2)
abbrev M2 (c : Dev nD) : FVec Ideal S1x160x1024 .f32 := m ((c : Thread nD τ).loc main_arg3)

/-- The gradient, the step and the two new moments, as the reference computes them. -/
abbrev GR (c : Dev nD) : FVec Ideal S1x160x1024 .f32 := val_main_v2 (F := Ideal) (P m c)
abbrev DE (c : Dev nD) : FVec Ideal S1x160x1024 .f32 := val_main_v26 (F := Ideal) (P m c) (W m c) (M1 m c) (M2 m c)
abbrev NM (c : Dev nD) : FVec Ideal S1x160x1024 .f32 := val_main_v7 (F := Ideal) (P m c) (M1 m c)
abbrev NV (c : Dev nD) : FVec Ideal S1x160x1024 .f32 := val_main_v13 (F := Ideal) (P m c) (M2 m c)

/-- Every window's block is its whole array, at the one grid point. -/
theorem idx : ∀ t : Fin cfg0.N, win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0, 0] :=
  (by decide +kernel : ∀ t : Fin grid0.N, _)

theorem p_at (c : Dev nD) (t : Fin cfg0.N) (s : Fin 8) (r : Fin 160) (k : Fin 1024) : iblk m c 0 t (ix3 s r k) = P m c (ix3 s r k) := by
  blk_ext [iblk, V, idx t]

theorem w_at (c : Dev nD) (t : Fin cfg0.N) (r : Fin 160) (k : Fin 1024) : iblk m c 1 t (ix3 0 r k) = W m c (ix3 0 r k) := by
  blk_ext [iblk, V, idx t]

theorem m_at (c : Dev nD) (t : Fin cfg0.N) (r : Fin 160) (k : Fin 1024) : iblk m c 2 t (ix3 0 r k) = M1 m c (ix3 0 r k) := by
  blk_ext [iblk, V, idx t]

theorem v_at (c : Dev nD) (t : Fin cfg0.N) (r : Fin 160) (k : Fin 1024) : iblk m c 3 t (ix3 0 r k) = M2 m c (ix3 0 r k) := by
  blk_ext [iblk, V, idx t]

/-! ## The reference's gradient at an index -/

theorem GR_at (c : Dev nD) (r : Fin 160) (k : Fin 1024) : GR m c (ix3 0 r k) = ∑ s : Fin 8, P m c (ix3 s r k) := by
  pointwise [GR, val_main_v2, val_main_v1, val_main_v0, val_main_cst]

/-! ## The sum of the eight pieces -/

/-- Piece `s` of a block. -/
abbrev piece (x : Vec Ideal S8x160x1024 .bf16) (s : ℕ)
    (h : ∀ a : Fin S8x160x1024.rank, (![s, 0, 0] : Fin S8x160x1024.rank → ℕ) a + (![1, 160, 1024] : Fin S8x160x1024.rank → ℕ) a ≤ S8x160x1024.size a) : Vec Ideal S1x160x1024 .bf16 :=
  View.ld (Val := Elt Ideal) (S := S8x160x1024) (e' := .bf16) x (Rect.unit (s := S8x160x1024) ![s, 0, 0] ![1, 160, 1024] h)

theorem piece_at (x : Vec Ideal S8x160x1024 .bf16) (s : ℕ) (hs : s < 8) (h) (r : Fin 160) (k : Fin 1024) :
    piece x s h (ix3 (0 : Fin 1) r k) = x (ix3 ⟨s, hs⟩ r k) := by
  unfold piece
  pointwise

/-- The eight pieces added one after the other. -/
abbrev sum8 (x : Vec Ideal S8x160x1024 .bf16) : FVec Ideal S160x1024 .f32 :=
  k0_pay3 (piece x 0 inb_S8x160x1024_S1x160x1024_0_0_0) (piece x 1 inb_S8x160x1024_S1x160x1024_1_0_0) (piece x 2 inb_S8x160x1024_S1x160x1024_2_0_0)
    (piece x 3 inb_S8x160x1024_S1x160x1024_3_0_0) (piece x 4 inb_S8x160x1024_S1x160x1024_4_0_0) (piece x 5 inb_S8x160x1024_S1x160x1024_5_0_0)
    (piece x 6 inb_S8x160x1024_S1x160x1024_6_0_0) (piece x 7 inb_S8x160x1024_S1x160x1024_7_0_0)

theorem sum8_at (x : Vec Ideal S8x160x1024 .bf16) (r : Fin 160) (k : Fin 1024) : sum8 x (ix2 r k) = ∑ s : Fin 8, x (ix3 s r k) := by
  rw [Fin.sum_univ_eight]
  refine Eq.trans (b := piece x 0 inb_S8x160x1024_S1x160x1024_0_0_0 (ix3 0 r k) + piece x 1 inb_S8x160x1024_S1x160x1024_1_0_0 (ix3 0 r k)
    + piece x 2 inb_S8x160x1024_S1x160x1024_2_0_0 (ix3 0 r k) + piece x 3 inb_S8x160x1024_S1x160x1024_3_0_0 (ix3 0 r k)
    + piece x 4 inb_S8x160x1024_S1x160x1024_4_0_0 (ix3 0 r k) + piece x 5 inb_S8x160x1024_S1x160x1024_5_0_0 (ix3 0 r k)
    + piece x 6 inb_S8x160x1024_S1x160x1024_6_0_0 (ix3 0 r k) + piece x 7 inb_S8x160x1024_S1x160x1024_7_0_0 (ix3 0 r k)) ?_ ?_
  · unfold sum8
    generalize piece x 0 inb_S8x160x1024_S1x160x1024_0_0_0 = a0
    generalize piece x 1 inb_S8x160x1024_S1x160x1024_1_0_0 = a1
    generalize piece x 2 inb_S8x160x1024_S1x160x1024_2_0_0 = a2
    generalize piece x 3 inb_S8x160x1024_S1x160x1024_3_0_0 = a3
    generalize piece x 4 inb_S8x160x1024_S1x160x1024_4_0_0 = a4
    generalize piece x 5 inb_S8x160x1024_S1x160x1024_5_0_0 = a5
    generalize piece x 6 inb_S8x160x1024_S1x160x1024_6_0_0 = a6
    generalize piece x 7 inb_S8x160x1024_S1x160x1024_7_0_0 = a7
    pointwise [k0_pay3]
  · rw [piece_at x 0 (by decide), piece_at x 1 (by decide), piece_at x 2 (by decide), piece_at x 3 (by decide), piece_at x 4 (by decide),
      piece_at x 5 (by decide), piece_at x 6 (by decide), piece_at x 7 (by decide)]
    rfl

/-- The sum is the reference's gradient. -/
theorem sum_eq (c : Dev nD) (t : Fin cfg0.N) (r : Fin 160) (k : Fin 1024) : sum8 (iblk m c 0 t) (ix2 r k) = GR m c (ix3 0 r k) := by
  rw [sum8_at, GR_at]
  exact Finset.sum_congr rfl fun s _ => p_at m c t s r k

/-! ## The four results of a point, from a block `Z` that holds the gradient -/

section Point

variable (c : Dev nD) (t : Fin cfg0.N) (Z : FVec Ideal S160x1024 .f32) (e : ∀ r k, Z (ix2 r k) = GR m c (ix3 0 r k)) (r : Fin 160) (k : Fin 1024)

include e

theorem gr_at : k0_pay4 (F := Ideal) Z (ix3 0 r k) = GR m c (ix3 0 r k) := by
  rw [← e]
  pointwise [k0_pay4]

theorem nm_at : k0_pay1 (F := Ideal) (k0_pay5 Z (iblk m c 2 t)) (ix3 0 r k) = NM m c (ix3 0 r k) := by
  pointwise [k0_pay1, k0_pay5, NM, val_main_v7, val_main_v6, val_main_v5, val_main_v4, val_main_v3, val_main_cst_0, val_main_cst_1]
  rw [e, m_at]

theorem nv_at : k0_pay2 (F := Ideal) (k0_pay6 Z (iblk m c 3 t)) (ix3 0 r k) = NV m c (ix3 0 r k) := by
  pointwise [k0_pay2, k0_pay6, NV, val_main_v13, val_main_v12, val_main_v11, val_main_v10, val_main_v9, val_main_v8, val_main_cst_2, val_main_cst_3]
  rw [e, v_at]

theorem de_at : k0_pay7 (F := Ideal) Z (iblk m c 1 t) (iblk m c 2 t) (iblk m c 3 t) (ix3 0 r k) = DE m c (ix3 0 r k) := by
  pointwise [k0_pay7, k0_pay5, k0_pay6, DE, val_main_v26, val_main_v25, val_main_v24, val_main_v23, val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v5, val_main_v4, val_main_v3,
    val_main_cst_0, val_main_cst_1, val_main_cst_2, val_main_cst_3, val_main_cst_4, val_main_cst_5, val_main_cst_6, val_main_cst_7, val_main_cst_8]
  rw [e, w_at, m_at, v_at]

end Point

/-! ## The results -/

theorem o4_eq (c : Dev nD) (t : Fin cfg0.N) (r : Fin 160) (k : Fin 1024) : (outsAt0 m c t).1 (ix3 0 r k) = GR m c (ix3 0 r k) := by
  rw [outsAt0]; frame_out
  exact gr_at m c _ (sum_eq m c t) r k

theorem o5_eq (c : Dev nD) (t : Fin cfg0.N) (r : Fin 160) (k : Fin 1024) : (outsAt0 m c t).2.1 (ix3 0 r k) = DE m c (ix3 0 r k) := by
  rw [outsAt0]; frame_out
  exact de_at m c t _ (sum_eq m c t) r k

theorem o6_eq (c : Dev nD) (t : Fin cfg0.N) (r : Fin 160) (k : Fin 1024) : (outsAt0 m c t).2.2.1 (ix3 0 r k) = NM m c (ix3 0 r k) := by
  rw [outsAt0]; frame_out
  exact nm_at m c t _ (sum_eq m c t) r k

theorem o7_eq (c : Dev nD) (t : Fin cfg0.N) (r : Fin 160) (k : Fin 1024) : (outsAt0 m c t).2.2.2 (ix3 0 r k) = NV m c (ix3 0 r k) := by
  rw [outsAt0]; frame_out
  exact nv_at m c t _ (sum_eq m c t) r k

theorem final4 (c : Dev nD) : (dats m 0 c).arrAt 4 (cfgs 0).N = GR m c := by
  refine (dats m 0 c).arrAt_eq_of_covers 4 _ (by decide +kernel) fun t _ y => ?_
  blk_simp
  idx_vars y
  obtain rfl : y0 = 0 := Subsingleton.elim _ _
  rw [after0_4]
  refine (o4_eq m c t y1 y2).trans ?_
  generalize GR m c = Z
  blk_ext [idx t]

theorem final5 (c : Dev nD) : (dats m 0 c).arrAt 5 (cfgs 0).N = DE m c := by
  refine (dats m 0 c).arrAt_eq_of_covers 5 _ (by decide +kernel) fun t _ y => ?_
  blk_simp
  idx_vars y
  obtain rfl : y0 = 0 := Subsingleton.elim _ _
  rw [after0_5]
  refine (o5_eq m c t y1 y2).trans ?_
  generalize DE m c = Z
  blk_ext [idx t]

theorem final6 (c : Dev nD) : (dats m 0 c).arrAt 6 (cfgs 0).N = NM m c := by
  refine (dats m 0 c).arrAt_eq_of_covers 6 _ (by decide +kernel) fun t _ y => ?_
  blk_simp
  idx_vars y
  obtain rfl : y0 = 0 := Subsingleton.elim _ _
  rw [after0_6]
  refine (o6_eq m c t y1 y2).trans ?_
  generalize NM m c = Z
  blk_ext [idx t]

theorem final7 (c : Dev nD) : (dats m 0 c).arrAt 7 (cfgs 0).N = NV m c := by
  refine (dats m 0 c).arrAt_eq_of_covers 7 _ (by decide +kernel) fun t _ y => ?_
  blk_simp
  idx_vars y
  obtain rfl : y0 = 0 := Subsingleton.elim _ _
  rw [after0_7]
  refine (o7_eq m c t y1 y2).trans ?_
  generalize NV m c = Z
  blk_ext [idx t]

end Cert.AdamQkvIdeal.Grad

end
-- ==== Proof.AdamQkv.lean ====
/- The claims about the optimiser step of the attention's input projection: the runs of the kernel and of its reference, joined by
   the equalities of `AdamQkvGrad`. -/
module

public import proofs.«01_k».proof.Defs
public import proofs.«01_k».proof.Proof.Gen.AdamQkv.Frame
public import proofs.«01_k».proof.Proof.Gen.AdamQkvIdeal.Frame
public import proofs.«01_k».proof.Proof.Gen.AdamQkvRefIdeal.Run
public import proofs.«01_k».proof.Proof.AdamQkvGrad

@[expose] public section

set_option maxRecDepth 16384

noncomputable section

namespace Cert.AdamQkv.Claims

open Idealize.ShloMosaic Idealize.ShloMosaic.TcCoe Idealize.SL.Sem

set_option maxHeartbeats 2000000 in
open Cert.AdamQkvRefIdeal.Read Cert.AdamQkvIdeal.Grad in
/-- Kernel and reference compute the same four arrays. -/
theorem algebraic : Cert.algebraic_AdamQkvIdeal_AdamQkvRefIdeal := by
  pair_intro
  · run_from Cert.AdamQkvIdeal.Gen.run_main m g
  · refine (θ_run Cert.AdamQkvRefIdeal.defs _ _).mono (fun r h c => ?_) (Cert.AdamQkvRefIdeal.Value.run m' g')
    have a0 := (hagree c).1
    have a1 := (hagree c).2.1
    have a2 := (hagree c).2.2.1
    have a3 := (hagree c).2.2.2
    refine ⟨(h c).1.trans ?_, (h c).2.1.trans ?_, (h c).2.2.1.trans ?_, (h c).2.2.2.1.trans ?_, (h c).2.2.2.2⟩
    · refine (val_main_v2_eq _).trans ?_
      rw [a0]; exact (final4 m c).symm
    · refine (val_main_v26_eq _ _ _ _).trans ?_
      rw [a0, a1, a2, a3]; exact (final5 m c).symm
    · refine (val_main_v7_eq _ _).trans ?_
      rw [a0, a2]; exact (final6 m c).symm
    · refine (val_main_v13_eq _ _).trans ?_
      rw [a0, a3]; exact (final7 m c).symm

/-- The reference terminates, keeps its arguments and leaves every counter at zero. -/
theorem reference_frame : Cert.quiescent_AdamQkvRefIdeal := fun m g _ =>
  (θ_run Cert.AdamQkvRefIdeal.defs _ _).mono (fun r h => ⟨fun c => (h c).2.2.2.2, sem_eq_zero_of_no_sems (by decide) r.2⟩)
    (Cert.AdamQkvRefIdeal.Value.run m g)

end Cert.AdamQkv.Claims

end
-- ==== Proof.AdamInGrad.lean ====
/- The convolution block's input projection's gradient, added up over the devices, and AdamW: what the kernel leaves in its four results. -/
module

public import proofs.«01_k».proof.Proof.Gen.AdamInIdeal.Value
public import proofs.«01_k».proof.Proof.Gen.AdamInRefIdeal.Read
public import Idealize.ShloMosaic.Lib.Pipeline.ValueKit
public import Idealize.ShloMosaic.Lib.Claim

@[expose] public section

set_option maxRecDepth 16384

noncomputable section

namespace Cert.AdamInIdeal.Grad

open Cert.AdamInIdeal Cert.AdamInIdeal.Gen Idealize.ShloMosaic Idealize.ShloMosaic.TcCoe Idealize.SL.Sem
open Idealize.ShloMosaic.Pipeline (Dat)
open Cert.AdamInRefIdeal.Read

variable (m : (ℓ : Loc nD τ sig) → Buf (Elt Ideal) ℓ)

/-- The eight devices' pieces of the gradient, the weight and the two moments. -/
abbrev P (c : Dev nD) : FVec Ideal S8x256x1024 .bf16 := m ((c : Thread nD τ).loc main_arg0)
abbrev W (c : Dev nD) : FVec Ideal S1x1024x256 .f32 := m ((c : Thread nD τ).loc main_arg1)
abbrev M1 (c : Dev nD) : FVec Ideal S1x1024x256 .f32 := m ((c : Thread nD τ).loc main_arg2)
abbrev M2 (c : Dev nD) : FVec Ideal S1x1024x256 .f32 := m ((c : Thread nD τ).loc main_arg3)

/-- The gradient, the step and the two new moments, as the reference computes them. -/
abbrev GR (c : Dev nD) : FVec Ideal S1x1024x256 .f32 := val_main_v4 (F := Ideal) (P m c)
abbrev DE (c : Dev nD) : FVec Ideal S1x1024x256 .f32 := val_main_v28 (F := Ideal) (P m c) (W m c) (M1 m c) (M2 m c)
abbrev NM (c : Dev nD) : FVec Ideal S1x1024x256 .f32 := val_main_v9 (F := Ideal) (P m c) (M1 m c)
abbrev NV (c : Dev nD) : FVec Ideal S1x1024x256 .f32 := val_main_v15 (F := Ideal) (P m c) (M2 m c)

/-- Every window's block index at every grid point: a group of the pieces' columns, and of the weight's rows. -/
theorem idx : ∀ t : Fin cfg0.N, win0_0.index t = ![0, 0, t.val] ∧ win0_1.index t = ![0, t.val, 0] ∧ win0_2.index t = ![0, t.val, 0]
    ∧ win0_3.index t = ![0, t.val, 0] ∧ win0_4.index t = ![0, t.val, 0] ∧ win0_5.index t = ![0, t.val, 0] ∧ win0_6.index t = ![0, t.val, 0]
    ∧ win0_7.index t = ![0, t.val, 0] :=
  (by decide +kernel : ∀ t : Fin grid0.N, _)

/-- The row of the weight that row `r` of the block of point `t` is, and the column of the pieces that its column `k` is. -/
def row (t : Fin cfg0.N) (r : Fin 256) : Fin 1024 := ⟨t.val * 256 + r.val, by have := lt_of_lt_of_eq t.isLt N_0; omega⟩

theorem p_at (c : Dev nD) (t : Fin cfg0.N) (s : Fin 8) (r : Fin 256) (k : Fin 256) : iblk m c 0 t (ix3 s r k) = P m c (ix3 s r (row t k)) := by
  blk_ext [iblk, V, idx t, row]

theorem w_at (c : Dev nD) (t : Fin cfg0.N) (r : Fin 256) (k : Fin 256) : iblk m c 1 t (ix3 0 r k) = W m c (ix3 0 (row t r) k) := by
  blk_ext [iblk, V, idx t, row]

theorem m_at (c : Dev nD) (t : Fin cfg0.N) (r : Fin 256) (k : Fin 256) : iblk m c 2 t (ix3 0 r k) = M1 m c (ix3 0 (row t r) k) := by
  blk_ext [iblk, V, idx t, row]

theorem v_at (c : Dev nD) (t : Fin cfg0.N) (r : Fin 256) (k : Fin 256) : iblk m c 3 t (ix3 0 r k) = M2 m c (ix3 0 (row t r) k) := by
  blk_ext [iblk, V, idx t, row]

/-! ## The reference's gradient at an index -/

theorem GR_at (c : Dev nD) (a : Fin 1024) (b : Fin 256) : GR m c (ix3 0 a b)
    = ∑ s : Fin 8, P m c (ix3 s ⟨a % 256, by omega⟩ ⟨a / 256 * 256 + b, by omega⟩) := by
  pointwise [GR, val_main_v4, val_main_v3, val_main_v2, val_main_v1, val_main_v0, val_main_cst]

/-! ## The sum of the eight pieces -/

/-- Piece `s` of a block. -/
abbrev piece (x : Vec Ideal S8x256x256 .bf16) (s : ℕ)
    (h : ∀ a : Fin S8x256x256.rank, (![s, 0, 0] : Fin S8x256x256.rank → ℕ) a + (![1, 256, 256] : Fin S8x256x256.rank → ℕ) a ≤ S8x256x256.size a) : Vec Ideal S1x256x256 .bf16 :=
  View.ld (Val := Elt Ideal) (S := S8x256x256) (e' := .bf16) x (Rect.unit (s := S8x256x256) ![s, 0, 0] ![1, 256, 256] h)

theorem piece_at (x : Vec Ideal S8x256x256 .bf16) (s : ℕ) (hs : s < 8) (h) (r : Fin 256) (k : Fin 256) :
    piece x s h (ix3 (0 : Fin 1) r k) = x (ix3 ⟨s, hs⟩ r k) := by
  unfold piece
  pointwise

/-- The eight pieces added one after the other. -/
abbrev sum8 (x : Vec Ideal S8x256x256 .bf16) : FVec Ideal S256x256 .f32 :=
  k0_pay3 (piece x 0 inb_S8x256x256_S1x256x256_0_0_0) (piece x 1 inb_S8x256x256_S1x256x256_1_0_0) (piece x 2 inb_S8x256x256_S1x256x256_2_0_0)
    (piece x 3 inb_S8x256x256_S1x256x256_3_0_0) (piece x 4 inb_S8x256x256_S1x256x256_4_0_0) (piece x 5 inb_S8x256x256_S1x256x256_5_0_0)
    (piece x 6 inb_S8x256x256_S1x256x256_6_0_0) (piece x 7 inb_S8x256x256_S1x256x256_7_0_0)

theorem sum8_at (x : Vec Ideal S8x256x256 .bf16) (r : Fin 256) (k : Fin 256) : sum8 x (ix2 r k) = ∑ s : Fin 8, x (ix3 s r k) := by
  rw [Fin.sum_univ_eight]
  refine Eq.trans (b := piece x 0 inb_S8x256x256_S1x256x256_0_0_0 (ix3 0 r k) + piece x 1 inb_S8x256x256_S1x256x256_1_0_0 (ix3 0 r k)
    + piece x 2 inb_S8x256x256_S1x256x256_2_0_0 (ix3 0 r k) + piece x 3 inb_S8x256x256_S1x256x256_3_0_0 (ix3 0 r k)
    + piece x 4 inb_S8x256x256_S1x256x256_4_0_0 (ix3 0 r k) + piece x 5 inb_S8x256x256_S1x256x256_5_0_0 (ix3 0 r k)
    + piece x 6 inb_S8x256x256_S1x256x256_6_0_0 (ix3 0 r k) + piece x 7 inb_S8x256x256_S1x256x256_7_0_0 (ix3 0 r k)) ?_ ?_
  · unfold sum8
    generalize piece x 0 inb_S8x256x256_S1x256x256_0_0_0 = a0
    generalize piece x 1 inb_S8x256x256_S1x256x256_1_0_0 = a1
    generalize piece x 2 inb_S8x256x256_S1x256x256_2_0_0 = a2
    generalize piece x 3 inb_S8x256x256_S1x256x256_3_0_0 = a3
    generalize piece x 4 inb_S8x256x256_S1x256x256_4_0_0 = a4
    generalize piece x 5 inb_S8x256x256_S1x256x256_5_0_0 = a5
    generalize piece x 6 inb_S8x256x256_S1x256x256_6_0_0 = a6
    generalize piece x 7 inb_S8x256x256_S1x256x256_7_0_0 = a7
    pointwise [k0_pay3]
  · rw [piece_at x 0 (by decide), piece_at x 1 (by decide), piece_at x 2 (by decide), piece_at x 3 (by decide), piece_at x 4 (by decide),
      piece_at x 5 (by decide), piece_at x 6 (by decide), piece_at x 7 (by decide)]
    rfl

/-- The sum is the reference's gradient. -/
theorem sum_eq (c : Dev nD) (t : Fin cfg0.N) (r : Fin 256) (k : Fin 256) : sum8 (iblk m c 0 t) (ix2 r k) = GR m c (ix3 0 (row t r) k) := by
  rw [sum8_at, GR_at]
  refine Finset.sum_congr rfl fun s _ => (p_at m c t s r k).trans (congrArg (P m c) (congrArg₂ (ix3 s) (Fin.ext ?_) (Fin.ext ?_)))
  · show r.val = (t.val * 256 + r.val) % 256
    omega
  · show t.val * 256 + k.val = (t.val * 256 + r.val) / 256 * 256 + k.val
    omega

/-! ## The four results of a point, from a block `Z` that holds the gradient -/

section Point

variable (c : Dev nD) (t : Fin cfg0.N) (Z : FVec Ideal S256x256 .f32) (e : ∀ r k, Z (ix2 r k) = GR m c (ix3 0 (row t r) k)) (r : Fin 256) (k : Fin 256)

include e

theorem gr_at : k0_pay4 (F := Ideal) Z (ix3 0 r k) = GR m c (ix3 0 (row t r) k) := by
  rw [← e]
  pointwise [k0_pay4]

theorem nm_at : k0_pay1 (F := Ideal) (k0_pay5 Z (iblk m c 2 t)) (ix3 0 r k) = NM m c (ix3 0 (row t r) k) := by
  pointwise [k0_pay1, k0_pay5, NM, val_main_v9, val_main_v8, val_main_v7, val_main_v6, val_main_v5, val_main_cst_0, val_main_cst_1]
  rw [e, m_at]

theorem nv_at : k0_pay2 (F := Ideal) (k0_pay6 Z (iblk m c 3 t)) (ix3 0 r k) = NV m c (ix3 0 (row t r) k) := by
  pointwise [k0_pay2, k0_pay6, NV, val_main_v15, val_main_v14, val_main_v13, val_main_v12, val_main_v11, val_main_v10, val_main_cst_2, val_main_cst_3]
  rw [e, v_at]

theorem de_at : k0_pay7 (F := Ideal) Z (iblk m c 1 t) (iblk m c 2 t) (iblk m c 3 t) (ix3 0 r k) = DE m c (ix3 0 (row t r) k) := by
  pointwise [k0_pay7, k0_pay5, k0_pay6, DE, val_main_v28, val_main_v27, val_main_v26, val_main_v25, val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6, val_main_v5,
    val_main_cst_0, val_main_cst_1, val_main_cst_2, val_main_cst_3, val_main_cst_4, val_main_cst_5, val_main_cst_6, val_main_cst_7, val_main_cst_8]
  rw [e, w_at, m_at, v_at]

end Point

/-! ## The results -/

theorem o4_eq (c : Dev nD) (t : Fin cfg0.N) (r : Fin 256) (k : Fin 256) : (outsAt0 m c t).1 (ix3 0 r k) = GR m c (ix3 0 (row t r) k) := by
  rw [outsAt0]; frame_out
  exact gr_at m c t _ (sum_eq m c t) r k

theorem o5_eq (c : Dev nD) (t : Fin cfg0.N) (r : Fin 256) (k : Fin 256) : (outsAt0 m c t).2.1 (ix3 0 r k) = DE m c (ix3 0 (row t r) k) := by
  rw [outsAt0]; frame_out
  exact de_at m c t _ (sum_eq m c t) r k

theorem o6_eq (c : Dev nD) (t : Fin cfg0.N) (r : Fin 256) (k : Fin 256) : (outsAt0 m c t).2.2.1 (ix3 0 r k) = NM m c (ix3 0 (row t r) k) := by
  rw [outsAt0]; frame_out
  exact nm_at m c t _ (sum_eq m c t) r k

theorem o7_eq (c : Dev nD) (t : Fin cfg0.N) (r : Fin 256) (k : Fin 256) : (outsAt0 m c t).2.2.2 (ix3 0 r k) = NV m c (ix3 0 (row t r) k) := by
  rw [outsAt0]; frame_out
  exact nv_at m c t _ (sum_eq m c t) r k

theorem final4 (c : Dev nD) : (dats m 0 c).arrAt 4 (cfgs 0).N = GR m c := by
  refine (dats m 0 c).arrAt_eq_of_covers 4 _ (by decide +kernel) fun t _ y => ?_
  blk_simp
  idx_vars y
  obtain rfl : y0 = 0 := Subsingleton.elim _ _
  rw [after0_4]
  refine (o4_eq m c t y1 y2).trans ?_
  generalize GR m c = Z
  blk_ext [idx t, row]

theorem final5 (c : Dev nD) : (dats m 0 c).arrAt 5 (cfgs 0).N = DE m c := by
  refine (dats m 0 c).arrAt_eq_of_covers 5 _ (by decide +kernel) fun t _ y => ?_
  blk_simp
  idx_vars y
  obtain rfl : y0 = 0 := Subsingleton.elim _ _
  rw [after0_5]
  refine (o5_eq m c t y1 y2).trans ?_
  generalize DE m c = Z
  blk_ext [idx t, row]

theorem final6 (c : Dev nD) : (dats m 0 c).arrAt 6 (cfgs 0).N = NM m c := by
  refine (dats m 0 c).arrAt_eq_of_covers 6 _ (by decide +kernel) fun t _ y => ?_
  blk_simp
  idx_vars y
  obtain rfl : y0 = 0 := Subsingleton.elim _ _
  rw [after0_6]
  refine (o6_eq m c t y1 y2).trans ?_
  generalize NM m c = Z
  blk_ext [idx t, row]

theorem final7 (c : Dev nD) : (dats m 0 c).arrAt 7 (cfgs 0).N = NV m c := by
  refine (dats m 0 c).arrAt_eq_of_covers 7 _ (by decide +kernel) fun t _ y => ?_
  blk_simp
  idx_vars y
  obtain rfl : y0 = 0 := Subsingleton.elim _ _
  rw [after0_7]
  refine (o7_eq m c t y1 y2).trans ?_
  generalize NV m c = Z
  blk_ext [idx t, row]

end Cert.AdamInIdeal.Grad

end
-- ==== Proof.AdamIn.lean ====
/- The claims about the optimiser step of the convolution block's input projection: the runs of the kernel and of its reference, joined by
   the equalities of `AdamInGrad`. -/
module

public import proofs.«01_k».proof.Defs
public import proofs.«01_k».proof.Proof.Gen.AdamIn.Frame
public import proofs.«01_k».proof.Proof.Gen.AdamInIdeal.Frame
public import proofs.«01_k».proof.Proof.Gen.AdamInRefIdeal.Run
public import proofs.«01_k».proof.Proof.AdamInGrad

@[expose] public section

set_option maxRecDepth 16384

noncomputable section

namespace Cert.AdamIn.Claims

open Idealize.ShloMosaic Idealize.ShloMosaic.TcCoe Idealize.SL.Sem

set_option maxHeartbeats 2000000 in
open Cert.AdamInRefIdeal.Read Cert.AdamInIdeal.Grad in
/-- Kernel and reference compute the same four arrays. -/
theorem algebraic : Cert.algebraic_AdamInIdeal_AdamInRefIdeal := by
  pair_intro
  · run_from Cert.AdamInIdeal.Gen.run_main m g
  · refine (θ_run Cert.AdamInRefIdeal.defs _ _).mono (fun r h c => ?_) (Cert.AdamInRefIdeal.Value.run m' g')
    have a0 := (hagree c).1
    have a1 := (hagree c).2.1
    have a2 := (hagree c).2.2.1
    have a3 := (hagree c).2.2.2
    refine ⟨(h c).1.trans ?_, (h c).2.1.trans ?_, (h c).2.2.1.trans ?_, (h c).2.2.2.1.trans ?_, (h c).2.2.2.2⟩
    · refine (val_main_v4_eq _).trans ?_
      rw [a0]; exact (final4 m c).symm
    · refine (val_main_v28_eq _ _ _ _).trans ?_
      rw [a0, a1, a2, a3]; exact (final5 m c).symm
    · refine (val_main_v9_eq _ _).trans ?_
      rw [a0, a2]; exact (final6 m c).symm
    · refine (val_main_v15_eq _ _).trans ?_
      rw [a0, a3]; exact (final7 m c).symm

/-- The reference terminates, keeps its arguments and leaves every counter at zero. -/
theorem reference_frame : Cert.quiescent_AdamInRefIdeal := fun m g _ =>
  (θ_run Cert.AdamInRefIdeal.defs _ _).mono (fun r h => ⟨fun c => (h c).2.2.2.2, sem_eq_zero_of_no_sems (by decide) r.2⟩)
    (Cert.AdamInRefIdeal.Value.run m g)

end Cert.AdamIn.Claims

end
-- ==== Proof.LayerNorm.lean ====
/- The gradient of the layer norm and of the SiLU after it, over finite numbers.

   A row `c` is centred, `x = c - mean c`, and scaled by `r = 1 / √(mean (x²) + ε)`; `p` is the cotangent of the scaled row
   times the gain.  The kernel computes `r · (p - mean p - x·r · mean (p · x·r))`.  Differentiating step by step gives the
   gradient of the scaling, which `Rms.back_eq` brings to one form, less its own mean.  The two agree because the centred
   row sums to zero, which is true of finite numbers only. -/
module

public import Idealize.ShloMosaic.PureOps.Ideal.Laws
public import Idealize.ShloMosaic.Lib.IdealHost
public import proofs.«01_k».proof.Proof.Rms

@[expose] public section

noncomputable section

namespace Cert.LayerNorm

open Idealize.ShloMosaic

/-- A sum of finite numbers is the finite number that is their sum. -/
theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- An extended real whose magnitude is below the infinity is a finite number. -/
theorem real_of_abs_lt {x : EReal} (h : max x (-x) < ⊤) : ∃ r : ℝ, x = (r : EReal) := by
  induction x with
  | bot => simp at h
  | top => simp at h
  | coe r => exact ⟨r, rfl⟩

/-- The derivative of SiLU: the kernel's `σ · (1 + y · (1 - σ))` times the cotangent is the sum of the product rule's two terms. -/
theorem silu_back (d y : ℝ) : (d : EReal) * (Ideal.logistic (y : EReal) * (1 + (y : EReal) * (1 - Ideal.logistic (y : EReal))))
    = (d : EReal) * Ideal.logistic (y : EReal) + (y : EReal) * (d : EReal) * (Ideal.logistic (y : EReal) * (1 - Ideal.logistic (y : EReal))) := by
  rw [Ideal.logistic_coe]
  generalize (1 + Real.exp (-y))⁻¹ = s
  rw [← EReal.coe_one]
  simp only [← EReal.coe_mul, ← EReal.coe_sub, ← EReal.coe_add]
  congr 1
  ring

section Row

variable (c : Fin 1024 → EReal)

/-- The centred row. -/
def cent (k : Fin 1024) : EReal := c k - Ideal.div (∑ k, c k) (Ideal.ofBits .f32 0x44800000#32)

/-- The centred row scaled by its own inverse root mean square. -/
def hat (k : Fin 1024) : EReal := cent c k * Rms.scale (cent c)

/-- The kernel's gradient of the layer norm at position `k` of the row. -/
def back (p : Fin 1024 → EReal) (k : Fin 1024) : EReal :=
  Rms.scale (cent c) * (p k - Ideal.div (∑ k, p k) (Ideal.ofBits .f32 0x44800000#32)
    - hat c k * Ideal.div (∑ k, p k * hat c k) (Ideal.ofBits .f32 0x44800000#32))

/-- The gradient taken step by step: the gradient of the scaling, less its own mean. -/
def stepped (p : Fin 1024 → EReal) (k : Fin 1024) : EReal :=
  (p k * Rms.scale (cent c) + cent c k * Rms.pull (cent c) p + Rms.pull (cent c) p * cent c k)
    + Ideal.div (∑ j, -(p j * Rms.scale (cent c) + cent c j * Rms.pull (cent c) p + Rms.pull (cent c) p * cent c j)) (Ideal.ofBits .f32 0x44800000#32)

/-- The centred row of finite numbers is finite and sums to zero. -/
theorem cent_real (hc : ∀ k, ∃ r : ℝ, c k = (r : EReal)) : ∃ x : Fin 1024 → ℝ, (∀ k, cent c k = (x k : EReal)) ∧ ∑ k, x k = 0 := by
  choose a ha using hc
  refine ⟨fun k => a k - (∑ k, a k) * (1 / 1024), fun k => ?_, ?_⟩
  · unfold cent
    rw [Rms.width, Ideal.div_coe (by norm_num), Finset.sum_congr rfl fun k _ => ha k, coe_sum, ha, ← EReal.coe_mul, ← EReal.coe_sub]
  · rw [Finset.sum_sub_distrib, Finset.sum_const, Finset.card_univ, Fintype.card_fin, nsmul_eq_mul]
    push_cast
    ring

theorem scale_real (x : Fin 1024 → EReal) : ∃ r : ℝ, Rms.scale x = (r : EReal) := by
  obtain ⟨r, _, h, _⟩ := Rms.rsqrt_pos (Rms.meanSq x) (Rms.meanSq_pos x)
  exact ⟨r, h⟩

/-- The scaled row of finite numbers is finite. -/
theorem hat_real (hc : ∀ k, ∃ r : ℝ, c k = (r : EReal)) (k : Fin 1024) : ∃ r : ℝ, hat c k = (r : EReal) := by
  obtain ⟨x, hx, _⟩ := cent_real c hc
  obtain ⟨r, hr⟩ := scale_real (cent c)
  exact ⟨x k * r, by rw [hat, hx, hr, EReal.coe_mul]⟩

/-- THE GRADIENT OF THE LAYER NORM on finite numbers: the kernel's one-pass form is the derivative taken step by step. -/
theorem back_eq (hc : ∀ k, ∃ r : ℝ, c k = (r : EReal)) (p : Fin 1024 → EReal) (hp : ∀ k, ∃ r : ℝ, p k = (r : EReal)) (k : Fin 1024) :
    back c p k = stepped c p k := by
  obtain ⟨x, hx, h0⟩ := cent_real c hc
  obtain ⟨r, hr⟩ := scale_real (cent c)
  choose q hq using hp
  unfold stepped
  simp only [← Rms.back_eq (cent c) p]
  unfold back Rms.back hat
  simp only [hr, hx, hq, Rms.width, Ideal.div_coe (show (1024 : ℝ) ≠ 0 by norm_num), ← EReal.coe_mul, ← EReal.coe_sub, ← EReal.coe_neg, coe_sum, ← EReal.coe_add]
  congr 1
  generalize (∑ j, q j * (x j * r)) * (1 / 1024) = Q
  have e : ∑ j, -(r * (q j - x j * r * Q)) = -(r * ∑ j, q j) + (r * r * Q) * ∑ j, x j := by
    rw [Finset.mul_sum, Finset.mul_sum, ← Finset.sum_neg_distrib, ← Finset.sum_add_distrib]
    exact Finset.sum_congr rfl fun j _ => by ring
  rw [e, h0]
  ring

end Row

end Cert.LayerNorm

end
-- ==== Proof.ConvMidFinite.lean ====
/- What the precondition of the layer norm's gradient says: every element of the arrays it names is a finite number. -/
module

public import proofs.«01_k».proof.Pre_finite
public import Idealize.ShloMosaic.Lib.Pipeline.ValueKit
public import proofs.«01_k».proof.Proof.LayerNorm

@[expose] public section

set_option maxRecDepth 16384

noncomputable section

namespace Cert.ConvMid.Finite

open Cert.Pre_finite Idealize.ShloMosaic

variable [Facts]

/-- The bound the magnitudes are compared with is the infinity. -/
theorem bound : Ideal.ofBits .f32 0x7F800000#32 = (⊤ : EReal) := by
  simp [Ideal.ofBits, Ideal.ieee]

/-- An element whose magnitude the comparison finds below the infinity is a finite number. -/
theorem of_word (x : EReal) (e : BitVec.ofBool (decide (FloatOps.absf (F := Ideal) (φ := .f32) x < Ideal.ofBits .f32 0x7F800000#32)) = 1#1) :
    ∃ r : ℝ, x = (r : EReal) := by
  rw [bound] at e
  refine LayerNorm.real_of_abs_lt ?_
  by_contra hn
  have : ¬ FloatOps.absf (F := Ideal) (φ := .f32) x < (⊤ : EReal) := hn
  rw [decide_eq_false this] at e
  exact absurd e (by decide)

/-- Every element of the concatenated arrays is a finite number. -/
theorem all_real (c : FVec Ideal S8192x1024 .f32) (g b : FVec Ideal S1x1024 .f32) (w : FVec Ideal S1024x1024 .f32) (bo : FVec Ideal S1x1024 .f32)
    (dx : FVec Ideal S8192x1024 .f32) (h : fn (F := Ideal) c g b w bo dx = fun _ => 1#1) :
    (∀ R k, ∃ r : ℝ, c (ix2 R k) = (r : EReal)) ∧ (∀ R k, ∃ r : ℝ, dx (ix2 R k) = (r : EReal)) ∧ (∀ k, ∃ r : ℝ, g (ix2 0 k) = (r : EReal))
      ∧ (∀ k, ∃ r : ℝ, b (ix2 0 k) = (r : EReal)) ∧ (∀ i k, ∃ r : ℝ, w (ix2 i k) = (r : EReal)) := by
  refine ⟨fun R k => ?_, fun R k => ?_, fun k => ?_, fun k => ?_, fun i k => ?_⟩
  · have e := congrFun h (ix2 ⟨R.val, by omega⟩ k)
    pointwise [fn] at e
    exact of_word _ e
  · have e := congrFun h (ix2 ⟨8192 + R.val, by omega⟩ k)
    pointwise [fn] at e
    exact of_word _ e
  · have e := congrFun h (ix2 ⟨16384, by omega⟩ k)
    pointwise [fn] at e
    exact of_word _ e
  · have e := congrFun h (ix2 ⟨16385, by omega⟩ k)
    pointwise [fn] at e
    exact of_word _ e
  · have e := congrFun h (ix2 ⟨16386 + i.val, by omega⟩ k)
    pointwise [fn] at e
    have s : ∀ n, 16386 + n - 8192 - 8192 - 1 - 1 = n := fun n => by omega
    rw [dif_neg (by omega), dif_neg (by omega), dif_neg (by omega), dif_neg (by omega)] at e
    simp only [s] at e
    exact of_word _ e

end Cert.ConvMid.Finite

end
-- ==== Proof.ConvMidBlock.lean ====
/- The gradient of the convolution's layer norm and SiLU: the blocks the kernel is given, and the values of its body at an index. -/
module

public import proofs.«01_k».proof.Proof.Gen.ConvMidIdeal.Value
public import proofs.«01_k».proof.Proof.Gen.ConvMidRefIdeal.Read
public import Idealize.ShloMosaic.Lib.Pipeline.ValueKit
public import Idealize.ShloMosaic.Lib.Claim
public import proofs.«01_k».proof.Proof.LayerNorm

@[expose] public section

set_option maxRecDepth 16384

noncomputable section

namespace Cert.ConvMidIdeal.Block

open Cert.ConvMidIdeal Cert.ConvMidIdeal.Gen Idealize.ShloMosaic Idealize.ShloMosaic.TcCoe Idealize.SL.Sem
open Idealize.ShloMosaic.Pipeline (Dat)
open Cert.ConvMidRefIdeal.Read

variable (m : (ℓ : Loc nD τ sig) → Buf (Elt Ideal) ℓ)

/-- The convolution's output, the layer norm's gain and offset, the output weight and the cotangent of the projected output. -/
abbrev C (c : Dev nD) : FVec Ideal S8192x1024 .f32 := m ((c : Thread nD τ).loc main_arg0)
abbrev LG (c : Dev nD) : FVec Ideal S1x1024 .f32 := m ((c : Thread nD τ).loc main_arg1)
abbrev LB (c : Dev nD) : FVec Ideal S1x1024 .f32 := m ((c : Thread nD τ).loc main_arg2)
abbrev WO (c : Dev nD) : FVec Ideal S1024x1024 .f32 := m ((c : Thread nD τ).loc main_arg3)
abbrev DX (c : Dev nD) : FVec Ideal S8192x1024 .f32 := m ((c : Thread nD τ).loc main_arg5)

/-- What the precondition says of the arrays: every element is a finite number. -/
def Real (c : Dev nD) : Prop := (∀ R k, ∃ r : ℝ, C m c (ix2 R k) = (r : EReal)) ∧ (∀ R k, ∃ r : ℝ, DX m c (ix2 R k) = (r : EReal))
  ∧ (∀ k, ∃ r : ℝ, LG m c (ix2 0 k) = (r : EReal)) ∧ (∀ k, ∃ r : ℝ, LB m c (ix2 0 k) = (r : EReal)) ∧ (∀ i k, ∃ r : ℝ, WO m c (ix2 i k) = (r : EReal))

/-- The normalised input, the layer norm's output, the cotangent of the SiLU's output and of its input, the last times the gain, and the
    gradient of the convolution's output, as the reference computes them. -/
abbrev HAT (c : Dev nD) : FVec Ideal S8192x1024 .f32 := val_main_v18 (F := Ideal) (C m c)
abbrev YY (c : Dev nD) : FVec Ideal S8192x1024 .f32 := val_main_v22 (F := Ideal) (C m c) (LG m c) (LB m c)
abbrev DS (c : Dev nD) : FVec Ideal S8192x1024 .f32 := val_main_v32 (F := Ideal) (WO m c) (DX m c)
abbrev DY (c : Dev nD) : FVec Ideal S8192x1024 .f32 := val_main_v33 (F := Ideal) (C m c) (LG m c) (LB m c) (WO m c) (DX m c)
abbrev P (c : Dev nD) : FVec Ideal S8192x1024 .f32 := val_main_v40 (F := Ideal) (C m c) (LG m c) (LB m c) (WO m c) (DX m c)
abbrev DC (c : Dev nD) : FVec Ideal S8192x1024 .f32 := val_main_v62 (F := Ideal) (C m c) (LG m c) (LB m c) (WO m c) (DX m c)

/-- A row of the convolution's output. -/
abbrev crow (c : Dev nD) (R : Fin 8192) : Fin 1024 → EReal := fun k => C m c (ix2 R k)

/-- Every window's block index at every grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![0, 0] ∧ win0_8.index t = ![0, 0] ∧ win0_9.index t = ![0, 0] ∧ win0_10.index t = ![0, 0] :=
  (by decide +kernel : ∀ t : Fin grid0.N, _)

/-- The row of the array that row `r` of point `t`'s block is. -/
def row (t : Fin cfg0.N) (r : Fin 512) : Fin 8192 := ⟨t.val * 512 + r.val, by have := lt_of_lt_of_eq t.isLt N_0; omega⟩

/-! The arrays the host prepares, and the blocks, read at an index. -/

theorem entry_dxb (c : Dev nD) : V m c main_v0 = truncf .bf16 (DX m c) bitsLt_bf16_f32 := by
  entry_read
  try rfl

theorem entry_w (c : Dev nD) : V m c main_v1 = truncf .bf16 (WO m c) bitsLt_bf16_f32 := by
  entry_read
  try rfl

theorem dx_at (c : Dev nD) (t : Fin cfg0.N) (r : Fin 512) (k : Fin 1024) : iblk m c 0 t (ix2 r k) = DX m c (ix2 (row t r) k) := by
  blk_ext [iblk, V, idx t, row]

theorem dxb_at (c : Dev nD) (t : Fin cfg0.N) (r : Fin 512) (k : Fin 1024) : iblk m c 1 t (ix2 r k) = DX m c (ix2 (row t r) k) := by
  blk_simp [iblk, idx t]
  rw [entry_dxb]
  show DX m c _ = _
  generalize DX m c = Z
  blk_ext [idx t, row]

theorem c_at (c : Dev nD) (t : Fin cfg0.N) (r : Fin 512) (k : Fin 1024) : iblk m c 2 t (ix2 r k) = C m c (ix2 (row t r) k) := by
  blk_ext [iblk, V, idx t, row]

theorem g_at (c : Dev nD) (t : Fin cfg0.N) (k : Fin 1024) : iblk m c 3 t (ix2 0 k) = LG m c (ix2 0 k) := by
  blk_ext [iblk, V, idx t]

theorem b_at (c : Dev nD) (t : Fin cfg0.N) (k : Fin 1024) : iblk m c 4 t (ix2 0 k) = LB m c (ix2 0 k) := by
  blk_ext [iblk, V, idx t]

theorem w_at (c : Dev nD) (t : Fin cfg0.N) (i k : Fin 1024) : iblk m c 5 t (ix2 i k) = WO m c (ix2 i k) := by
  blk_simp [iblk, idx t]
  rw [entry_w]
  show WO m c _ = _
  generalize WO m c = Z
  blk_ext [idx t]

/-! The reference's arrays, read at an index. -/

theorem HAT_at (c : Dev nD) (R : Fin 8192) (k : Fin 1024) : HAT m c (ix2 R k) = LayerNorm.hat (crow m c R) k := by
  pointwise [HAT, val_main_v18, val_main_v17, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2, val_main_cst_3,
    LayerNorm.hat, LayerNorm.cent, Rms.scale, Rms.meanSq]

theorem YY_at (c : Dev nD) (R : Fin 8192) (k : Fin 1024) : YY m c (ix2 R k) = HAT m c (ix2 R k) * LG m c (ix2 0 k) + LB m c (ix2 0 k) := by
  pointwise [YY, val_main_v22, val_main_v21, val_main_v20, val_main_v19]

theorem DS_at (c : Dev nD) (R : Fin 8192) (k : Fin 1024) : DS m c (ix2 R k) = ∑ i : Fin 1024, DX m c (ix2 R i) * WO m c (ix2 k i) := by
  pointwise [DS, val_main_v32, val_main_v27]

theorem DY_at (c : Dev nD) (R : Fin 8192) (k : Fin 1024) : DY m c (ix2 R k)
    = DS m c (ix2 R k) * Ideal.logistic (YY m c (ix2 R k))
      + YY m c (ix2 R k) * DS m c (ix2 R k) * (Ideal.logistic (YY m c (ix2 R k)) * (1 - Ideal.logistic (YY m c (ix2 R k)))) := by
  pointwise [DY, val_main_v33, val_main_call1_v2, val_main_call1_v1, val_main_call1_v0, val_main_v23_1, val_main_v23_2, val_main_call0_v7, val_main_call0_v6, val_main_call0_v4,
    val_main_call0_v3, val_main_call0_v2, val_main_call0_v1, val_main_call0_v0, val_main_call0_cst, val_main_call0_cst_0, val_main_call0_cst_1]
  rfl

theorem P_at (c : Dev nD) (R : Fin 8192) (k : Fin 1024) : P m c (ix2 R k) = DY m c (ix2 R k) * LG m c (ix2 0 k) := by
  pointwise [P, val_main_v40, val_main_v39]

theorem DC_at (c : Dev nD) (R : Fin 8192) (k : Fin 1024) : DC m c (ix2 R k) = LayerNorm.stepped (crow m c R) (fun k => P m c (ix2 R k)) k := by
  pointwise [DC, val_main_v62, val_main_v61, val_main_v60, val_main_v59, val_main_v58, val_main_v57, val_main_v56, val_main_v55, val_main_v54, val_main_v53, val_main_v52,
    val_main_v51, val_main_v50, val_main_v49, val_main_v48, val_main_v47, val_main_v46, val_main_v45, val_main_v44, val_main_v43, val_main_v42, val_main_v41,
    val_main_v16, val_main_v15, val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2, val_main_cst_3, val_main_cst_4,
    val_main_cst_8, val_main_cst_9, val_main_cst_10, val_main_cst_11, val_main_cst_12, val_main_cst_13,
    LayerNorm.stepped, LayerNorm.cent, Rms.pull, Rms.scale, Rms.meanSq]
  simp only [Fin.sum_univ_one]

/-! The body's values at an index. -/

theorem cent_at (c : Dev nD) (t : Fin cfg0.N) (r : Fin 512) (k : Fin 1024) :
    k0_pay8 (F := Ideal) (iblk m c 2 t) (ix2 r k) = LayerNorm.cent (crow m c (row t r)) k := by
  pointwise [k0_pay8, LayerNorm.cent]
  simp only [c_at]

theorem scale_at (c : Dev nD) (t : Fin cfg0.N) (r : Fin 512) :
    k0_pay9 (F := Ideal) (iblk m c 2 t) (ix2 r 0) = Rms.scale (LayerNorm.cent (crow m c (row t r))) := by
  have e := cent_at m c t r
  unfold k0_pay9
  generalize k0_pay8 (F := Ideal) (iblk m c 2 t) = Z at e ⊢
  unfold Rms.scale Rms.meanSq
  simp only [← e]
  pointwise

theorem hat_at (c : Dev nD) (t : Fin cfg0.N) (r : Fin 512) (k : Fin 1024) :
    k0_pay10 (F := Ideal) (iblk m c 2 t) (ix2 r k) = HAT m c (ix2 (row t r) k) := by
  rw [HAT_at]
  unfold LayerNorm.hat
  have e := cent_at m c t r
  have f := scale_at m c t r
  unfold k0_pay10
  rw [← e, ← f]
  generalize k0_pay8 (F := Ideal) (iblk m c 2 t) = Z at e ⊢
  generalize k0_pay9 (F := Ideal) (iblk m c 2 t) = W at f ⊢
  pointwise

theorem ds_at (c : Dev nD) (t : Fin cfg0.N) (r : Fin 512) (k : Fin 1024) :
    k0_pay7 (F := Ideal) (iblk m c 1 t) (iblk m c 5 t) (ix2 r k) = DS m c (ix2 (row t r) k) := by
  rw [DS_at]
  pointwise [k0_pay7]
  simp only [dxb_at, w_at]

/-- The cotangent of the layer norm's output, as the body computes it. -/
abbrev dyb (c : Dev nD) (t : Fin cfg0.N) : FVec Ideal S512x1024 .f32 :=
  k0_pay12 (k0_pay7 (iblk m c 1 t) (iblk m c 5 t)) (k0_pay10 (iblk m c 2 t)) (k0_pay11 (iblk m c 3 t)) (iblk m c 4 t)

/-- That cotangent times the gain. -/
abbrev pb (c : Dev nD) (t : Fin cfg0.N) : FVec Ideal S512x1024 .f32 :=
  k0_pay17 (k0_pay7 (iblk m c 1 t) (iblk m c 5 t)) (k0_pay10 (iblk m c 2 t)) (k0_pay11 (iblk m c 3 t)) (iblk m c 4 t) (iblk m c 3 t)

/-- The gradient of the convolution's output, as the body computes it. -/
abbrev dcb (c : Dev nD) (t : Fin cfg0.N) : FVec Ideal S512x1024 .f32 :=
  k0_pay1 (k0_pay9 (iblk m c 2 t)) (k0_pay10 (iblk m c 2 t)) (pb m c t)
    (k0_pay18 (k0_pay7 (iblk m c 1 t) (iblk m c 5 t)) (k0_pay10 (iblk m c 2 t)) (k0_pay11 (iblk m c 3 t)) (iblk m c 4 t) (iblk m c 3 t))

theorem dyb_at (c : Dev nD) (t : Fin cfg0.N) (r : Fin 512) (k : Fin 1024) : dyb m c t (ix2 r k)
    = DS m c (ix2 (row t r) k) * (Ideal.logistic (YY m c (ix2 (row t r) k)) * (1 + YY m c (ix2 (row t r) k) * (1 - Ideal.logistic (YY m c (ix2 (row t r) k))))) := by
  rw [YY_at, ← ds_at, ← hat_at, ← g_at m c t, ← b_at m c t]
  unfold dyb
  generalize k0_pay7 (F := Ideal) (iblk m c 1 t) (iblk m c 5 t) = Z
  generalize k0_pay10 (F := Ideal) (iblk m c 2 t) = W
  pointwise [k0_pay12, k0_pay11]

theorem ds_real (c : Dev nD) (h : Real m c) (R : Fin 8192) (k : Fin 1024) : ∃ r : ℝ, DS m c (ix2 R k) = (r : EReal) := by
  choose d hd using h.2.1
  choose w hw using h.2.2.2.2
  rw [DS_at]
  exact ⟨_, (Finset.sum_congr rfl fun i _ => by rw [hd, hw, ← EReal.coe_mul]).trans (LayerNorm.coe_sum _ _)⟩

theorem yy_real (c : Dev nD) (h : Real m c) (R : Fin 8192) (k : Fin 1024) : ∃ r : ℝ, YY m c (ix2 R k) = (r : EReal) := by
  obtain ⟨x, hx⟩ := LayerNorm.hat_real (crow m c R) (h.1 R) k
  obtain ⟨g, hg⟩ := h.2.2.1 k
  obtain ⟨b, hb⟩ := h.2.2.2.1 k
  exact ⟨x * g + b, by rw [YY_at, HAT_at, hx, hg, hb, EReal.coe_add, EReal.coe_mul]⟩

/-- The body's cotangent of the layer norm's output is the reference's. -/
theorem dy_at (c : Dev nD) (h : Real m c) (t : Fin cfg0.N) (r : Fin 512) (k : Fin 1024) : dyb m c t (ix2 r k) = DY m c (ix2 (row t r) k) := by
  rw [dyb_at, DY_at]
  obtain ⟨d, hd⟩ := ds_real m c h (row t r) k
  obtain ⟨y, hy⟩ := yy_real m c h (row t r) k
  rw [hd, hy]
  exact LayerNorm.silu_back d y

theorem p_at (c : Dev nD) (h : Real m c) (t : Fin cfg0.N) (r : Fin 512) (k : Fin 1024) : pb m c t (ix2 r k) = P m c (ix2 (row t r) k) := by
  rw [P_at, ← dy_at m c h, ← g_at m c t]
  unfold pb dyb k0_pay17
  generalize k0_pay12 (F := Ideal) (k0_pay7 (iblk m c 1 t) (iblk m c 5 t)) (k0_pay10 (iblk m c 2 t)) (k0_pay11 (iblk m c 3 t)) (iblk m c 4 t) = Z
  pointwise

theorem p_real (c : Dev nD) (h : Real m c) (R : Fin 8192) (k : Fin 1024) : ∃ r : ℝ, P m c (ix2 R k) = (r : EReal) := by
  obtain ⟨d, hd⟩ := ds_real m c h R k
  obtain ⟨y, hy⟩ := yy_real m c h R k
  obtain ⟨g, hg⟩ := h.2.2.1 k
  rw [P_at, DY_at, hd, hy, hg, Ideal.logistic_coe]
  generalize (1 + Real.exp (-y))⁻¹ = s
  exact ⟨(d * s + y * d * (s * (1 - s))) * g, by rw [← EReal.coe_one]; simp only [← EReal.coe_mul, ← EReal.coe_sub, ← EReal.coe_add]⟩

/-- The body's gradient of the convolution's output is the reference's. -/
theorem dc_at (c : Dev nD) (h : Real m c) (t : Fin cfg0.N) (r : Fin 512) (k : Fin 1024) : dcb m c t (ix2 r k) = DC m c (ix2 (row t r) k) := by
  rw [DC_at, ← LayerNorm.back_eq (crow m c (row t r)) (h.1 _) _ (p_real m c h _)]
  unfold LayerNorm.back
  simp only [← HAT_at]
  have e := p_at m c h t r
  simp only [← e, ← hat_at m c t r, ← scale_at m c t r]
  unfold dcb k0_pay18 pb
  generalize k0_pay17 (F := Ideal) (k0_pay7 (iblk m c 1 t) (iblk m c 5 t)) (k0_pay10 (iblk m c 2 t)) (k0_pay11 (iblk m c 3 t)) (iblk m c 4 t) (iblk m c 3 t) = Z
  generalize k0_pay9 (F := Ideal) (iblk m c 2 t) = W
  generalize k0_pay10 (F := Ideal) (iblk m c 2 t) = Y
  pointwise [k0_pay1]

end Cert.ConvMidIdeal.Block

end
-- ==== Proof.ConvMidGrad.lean ====
/- The gradient of the convolution's layer norm and SiLU: what the kernel leaves in its five results. -/
module

public import proofs.«01_k».proof.Proof.Gen.ConvMidIdeal.Value
public import proofs.«01_k».proof.Proof.Gen.ConvMidRefIdeal.Read
public import Idealize.ShloMosaic.Lib.Pipeline.ValueKit
public import Idealize.ShloMosaic.Lib.Claim
public import proofs.«01_k».proof.Proof.ConvMidBlock

@[expose] public section

set_option maxRecDepth 16384

noncomputable section

namespace Cert.ConvMidIdeal.Grad

open Cert.ConvMidIdeal Cert.ConvMidIdeal.Gen Idealize.ShloMosaic Idealize.ShloMosaic.TcCoe Idealize.SL.Sem
open Idealize.ShloMosaic.Pipeline (Dat)
open Cert.ConvMidIdeal.Block
open Cert.ConvMidRefIdeal.Read

variable (m : (ℓ : Loc nD τ sig) → Buf (Elt Ideal) ℓ)

/-! ## The gradient of the convolution's output, row by row -/

theorem o6_eq (c : Dev nD) (h : Real m c) (t : Fin cfg0.N) (r : Fin 512) (i : Fin 1024) : (outsAt0 m c t.val t.isLt).1 (ix2 r i) = DC m c (ix2 (row t r) i) := by
  by_cases hA : t.val % 16 = 0
  · rw [outsAt0_A m c t hA hA hA hA]; frame_out
    exact dc_at m c h t r i
  · rw [outsAt0_B m c t hA hA hA hA]; frame_out
    exact dc_at m c h t r i

theorem final6 (c : Dev nD) (h : Real m c) : (dats m 0 c).arrAt 6 (cfgs 0).N = truncf .bf16 (DC m c) bitsLt_bf16_f32 := by
  refine (dats m 0 c).arrAt_eq_of_covers 6 _ (by decide +kernel) fun t _ y => ?_
  blk_simp
  idx_vars y
  rw [after0_6]
  refine (o6_eq m c h t y0 y1).trans ?_
  refine Eq.trans ?_ (show DC m c _ = truncf .bf16 (DC m c) bitsLt_bf16_f32 _ from rfl)
  generalize DC m c = Z
  blk_ext [idx t, row]

/-! ## The four column sums

    Each is kept in one block, set to zero at the first grid point and added to at every one. -/

/-- The column sums of an array over the rows of one point. -/
def part (A : FVec Ideal S8192x1024 .f32) (t : Fin cfg0.N) (j : S1x1024.Idx) : EReal := ∑ r : Fin 512, A (ix2 (row t r) (j 1))

theorem zero3 (j : S1x1024.Idx) : k0_pay3 (F := Ideal) j = 0 := by pointwise [k0_pay3]
theorem zero5 (j : S1x1024.Idx) : k0_pay5 (F := Ideal) j = 0 := by pointwise [k0_pay5]
theorem zero13 (j : S1x1024.Idx) : k0_pay13 (F := Ideal) j = 0 := by pointwise [k0_pay13]
theorem zero15 (j : S1x1024.Idx) : k0_pay15 (F := Ideal) j = 0 := by pointwise [k0_pay15]

/-- The cotangent of the layer norm's output times the normalised input. -/
abbrev DYH (c : Dev nD) : FVec Ideal S8192x1024 .f32 := val_main_v36 (F := Ideal) (C m c) (LG m c) (LB m c) (WO m c) (DX m c)

theorem DYH_at (c : Dev nD) (R : Fin 8192) (k : Fin 1024) : DYH m c (ix2 R k) = HAT m c (ix2 R k) * DY m c (ix2 R k) := by
  pointwise [DYH, val_main_v36]

/-- What a point adds to each of the four. -/
theorem add7 (c : Dev nD) (t : Fin cfg0.N) (prev : Vec Ideal S1x1024 .f32) (j : S1x1024.Idx) :
    k0_pay6 (F := Ideal) (iblk m c 0 t) prev j = prev j + part (DX m c) t j := by
  refine Eq.trans ?_ (congrArg (prev j + ·) (Finset.sum_congr rfl fun r _ => dx_at m c t r (j 1)))
  generalize iblk m c 0 t = Z
  idx_vars j
  pointwise [k0_pay6]

theorem add8 (c : Dev nD) (h : Real m c) (t : Fin cfg0.N) (prev : Vec Ideal S1x1024 .f32) (j : S1x1024.Idx) :
    k0_pay14 (F := Ideal) (k0_pay7 (iblk m c 1 t) (iblk m c 5 t)) (k0_pay10 (iblk m c 2 t)) (k0_pay11 (iblk m c 3 t)) (iblk m c 4 t) prev j = prev j + part (DYH m c) t j := by
  refine Eq.trans ?_ (congrArg (prev j + ·) (Finset.sum_congr rfl fun r _ =>
    ((DYH_at m c (row t r) (j 1)).trans (congrArg₂ (· * ·) (hat_at m c t r (j 1)).symm (dy_at m c h t r (j 1)).symm)).symm))
  unfold k0_pay14 dyb
  generalize k0_pay12 (F := Ideal) (k0_pay7 (iblk m c 1 t) (iblk m c 5 t)) (k0_pay10 (iblk m c 2 t)) (k0_pay11 (iblk m c 3 t)) (iblk m c 4 t) = Z
  generalize k0_pay10 (F := Ideal) (iblk m c 2 t) = W
  idx_vars j
  pointwise
  simp only [mul_comm]

theorem add9 (c : Dev nD) (h : Real m c) (t : Fin cfg0.N) (prev : Vec Ideal S1x1024 .f32) (j : S1x1024.Idx) :
    k0_pay16 (F := Ideal) (k0_pay7 (iblk m c 1 t) (iblk m c 5 t)) (k0_pay10 (iblk m c 2 t)) (k0_pay11 (iblk m c 3 t)) (iblk m c 4 t) prev j = prev j + part (DY m c) t j := by
  have e := fun r => dy_at m c h t r (j 1)
  unfold part
  simp only [← e]
  unfold k0_pay16 dyb
  generalize k0_pay12 (F := Ideal) (k0_pay7 (iblk m c 1 t) (iblk m c 5 t)) (k0_pay10 (iblk m c 2 t)) (k0_pay11 (iblk m c 3 t)) (iblk m c 4 t) = Z
  idx_vars j
  pointwise

theorem add10 (c : Dev nD) (h : Real m c) (t : Fin cfg0.N) (prev : Vec Ideal S1x1024 .f32) (j : S1x1024.Idx) :
    k0_pay4 (F := Ideal) (k0_pay9 (iblk m c 2 t)) (k0_pay10 (iblk m c 2 t)) (pb m c t)
      (k0_pay18 (k0_pay7 (iblk m c 1 t) (iblk m c 5 t)) (k0_pay10 (iblk m c 2 t)) (k0_pay11 (iblk m c 3 t)) (iblk m c 4 t) (iblk m c 3 t)) prev j
      = prev j + part (DC m c) t j := by
  have e := fun r => dc_at m c h t r (j 1)
  unfold part
  simp only [← e]
  unfold k0_pay4 dcb
  generalize k0_pay1 (F := Ideal) (k0_pay9 (iblk m c 2 t)) (k0_pay10 (iblk m c 2 t)) (pb m c t)
    (k0_pay18 (k0_pay7 (iblk m c 1 t) (iblk m c 5 t)) (k0_pay10 (iblk m c 2 t)) (k0_pay11 (iblk m c 3 t)) (iblk m c 4 t) (iblk m c 3 t)) = Z
  idx_vars j
  pointwise

theorem o7_A (c : Dev nD) (t : Fin cfg0.N) (h0 : t.val % 16 = 0) (j : S1x1024.Idx) : (outsAt0 m c t.val t.isLt).2.1 j = 0 + part (DX m c) t j := by
  rw [outsAt0_A m c t h0 h0 h0 h0]; frame_out
  refine (add7 m c t _ j).trans ?_
  rw [zero5]

theorem o7_B (c : Dev nD) (t : Fin cfg0.N) (h0 : ¬t.val % 16 = 0) (j : S1x1024.Idx) :
    (outsAt0 m c t.val t.isLt).2.1 j = (outsAt0 m c (t.val - 1) (by omega)).2.1 j + part (DX m c) t j := by
  rw [outsAt0_B m c t h0 h0 h0 h0]; frame_out
  exact add7 m c t _ j

theorem o8_A (c : Dev nD) (h : Real m c) (t : Fin cfg0.N) (h0 : t.val % 16 = 0) (j : S1x1024.Idx) : (outsAt0 m c t.val t.isLt).2.2.1 j = 0 + part (DYH m c) t j := by
  rw [outsAt0_A m c t h0 h0 h0 h0]; frame_out
  refine (add8 m c h t _ j).trans ?_
  rw [zero13]

theorem o8_B (c : Dev nD) (h : Real m c) (t : Fin cfg0.N) (h0 : ¬t.val % 16 = 0) (j : S1x1024.Idx) :
    (outsAt0 m c t.val t.isLt).2.2.1 j = (outsAt0 m c (t.val - 1) (by omega)).2.2.1 j + part (DYH m c) t j := by
  rw [outsAt0_B m c t h0 h0 h0 h0]; frame_out
  exact add8 m c h t _ j

theorem o9_A (c : Dev nD) (h : Real m c) (t : Fin cfg0.N) (h0 : t.val % 16 = 0) (j : S1x1024.Idx) : (outsAt0 m c t.val t.isLt).2.2.2.1 j = 0 + part (DY m c) t j := by
  rw [outsAt0_A m c t h0 h0 h0 h0]; frame_out
  refine (add9 m c h t _ j).trans ?_
  rw [zero15]

theorem o9_B (c : Dev nD) (h : Real m c) (t : Fin cfg0.N) (h0 : ¬t.val % 16 = 0) (j : S1x1024.Idx) :
    (outsAt0 m c t.val t.isLt).2.2.2.1 j = (outsAt0 m c (t.val - 1) (by omega)).2.2.2.1 j + part (DY m c) t j := by
  rw [outsAt0_B m c t h0 h0 h0 h0]; frame_out
  exact add9 m c h t _ j

theorem o10_A (c : Dev nD) (h : Real m c) (t : Fin cfg0.N) (h0 : t.val % 16 = 0) (j : S1x1024.Idx) : (outsAt0 m c t.val t.isLt).2.2.2.2 j = 0 + part (DC m c) t j := by
  rw [outsAt0_A m c t h0 h0 h0 h0]; frame_out
  refine (add10 m c h t _ j).trans ?_
  rw [zero3]

theorem o10_B (c : Dev nD) (h : Real m c) (t : Fin cfg0.N) (h0 : ¬t.val % 16 = 0) (j : S1x1024.Idx) :
    (outsAt0 m c t.val t.isLt).2.2.2.2 j = (outsAt0 m c (t.val - 1) (by omega)).2.2.2.2 j + part (DC m c) t j := by
  rw [outsAt0_B m c t h0 h0 h0 h0]; frame_out
  exact add10 m c h t _ j

/-- The reference's four column sums. -/
abbrev DBO (c : Dev nD) : FVec Ideal S1x1024 .f32 := val_main_v29 (F := Ideal) (DX m c)
abbrev DLG (c : Dev nD) : FVec Ideal S1x1024 .f32 := val_main_v38 (F := Ideal) (C m c) (LG m c) (LB m c) (WO m c) (DX m c)
abbrev DLB (c : Dev nD) : FVec Ideal S1x1024 .f32 := val_main_v35 (F := Ideal) (C m c) (LG m c) (LB m c) (WO m c) (DX m c)
abbrev DCB (c : Dev nD) : FVec Ideal S1x1024 .f32 := val_main_v65 (F := Ideal) (C m c) (LG m c) (LB m c) (WO m c) (DX m c)

theorem DBO_at (c : Dev nD) (j : S1x1024.Idx) : DBO m c j = ∑ R : Fin 8192, DX m c (ix2 R (j 1)) := by
  idx_vars j
  pointwise [DBO, val_main_v29, val_main_v28, val_main_v27, val_main_cst_5]
  try simp only [Fin.sum_univ_one]

theorem DLG_at (c : Dev nD) (j : S1x1024.Idx) : DLG m c j = ∑ R : Fin 8192, DYH m c (ix2 R (j 1)) := by
  idx_vars j
  pointwise [DLG, val_main_v38, val_main_v37, val_main_cst_7]
  try simp only [Fin.sum_univ_one]

theorem DLB_at (c : Dev nD) (j : S1x1024.Idx) : DLB m c j = ∑ R : Fin 8192, DY m c (ix2 R (j 1)) := by
  idx_vars j
  pointwise [DLB, val_main_v35, val_main_v34, val_main_cst_6]
  try simp only [Fin.sum_univ_one]

theorem DCB_at (c : Dev nD) (j : S1x1024.Idx) : DCB m c j = ∑ R : Fin 8192, DC m c (ix2 R (j 1)) := by
  idx_vars j
  pointwise [DCB, val_main_v65, val_main_v64, val_main_cst_14]
  try simp only [Fin.sum_univ_one]

theorem final7 (c : Dev nD) : (dats m 0 c).arrAt 7 (cfgs 0).N = DBO m c := by
  refine (dats m 0 c).arrAt_eq_of_after_last 7 t0_15 (by decide +kernel) _ fun j => ?_
  blk_simp
  rw [after0_7, Pipeline.eq_sum_fin_of_reset_step_apply_last (fun n h => (outsAt0 m c n h).2.1) 16 (fun _ => 0) (fun p j => part (DX m c) p j)
    (o7_A m c) (o7_B m c) (le_of_eq N_0) t0_15 rfl j, zero_add, DBO_at]
  idx_vars j
  refine Fin.sum_mul_add_congr fun t r hl => ?_
  rfl

theorem final8 (c : Dev nD) (h : Real m c) : (dats m 0 c).arrAt 8 (cfgs 0).N = DLG m c := by
  refine (dats m 0 c).arrAt_eq_of_after_last 8 t0_15 (by decide +kernel) _ fun j => ?_
  blk_simp
  rw [after0_8, Pipeline.eq_sum_fin_of_reset_step_apply_last (fun n h => (outsAt0 m c n h).2.2.1) 16 (fun _ => 0) (fun p j => part (DYH m c) p j)
    (o8_A m c h) (o8_B m c h) (le_of_eq N_0) t0_15 rfl j, zero_add, DLG_at]
  idx_vars j
  refine Fin.sum_mul_add_congr fun t r hl => ?_
  rfl

theorem final9 (c : Dev nD) (h : Real m c) : (dats m 0 c).arrAt 9 (cfgs 0).N = DLB m c := by
  refine (dats m 0 c).arrAt_eq_of_after_last 9 t0_15 (by decide +kernel) _ fun j => ?_
  blk_simp
  rw [after0_9, Pipeline.eq_sum_fin_of_reset_step_apply_last (fun n h => (outsAt0 m c n h).2.2.2.1) 16 (fun _ => 0) (fun p j => part (DY m c) p j)
    (o9_A m c h) (o9_B m c h) (le_of_eq N_0) t0_15 rfl j, zero_add, DLB_at]
  idx_vars j
  refine Fin.sum_mul_add_congr fun t r hl => ?_
  rfl

theorem final10 (c : Dev nD) (h : Real m c) : (dats m 0 c).arrAt 10 (cfgs 0).N = DCB m c := by
  refine (dats m 0 c).arrAt_eq_of_after_last 10 t0_15 (by decide +kernel) _ fun j => ?_
  blk_simp
  rw [after0_10, Pipeline.eq_sum_fin_of_reset_step_apply_last (fun n h => (outsAt0 m c n h).2.2.2.2) 16 (fun _ => 0) (fun p j => part (DC m c) p j)
    (o10_A m c h) (o10_B m c h) (le_of_eq N_0) t0_15 rfl j, zero_add, DCB_at]
  idx_vars j
  refine Fin.sum_mul_add_congr fun t r hl => ?_
  rfl

end Cert.ConvMidIdeal.Grad

end
-- ==== Proof.ConvMid.lean ====
/- The claims about the gradient of the convolution's layer norm and SiLU: the runs of the kernel and of its reference,
   joined by the equalities of `ConvMidGrad`, which hold of finite arguments. -/
module

public import proofs.«01_k».proof.Defs
public import proofs.«01_k».proof.Proof.Gen.ConvMid.Frame
public import proofs.«01_k».proof.Proof.Gen.ConvMidIdeal.Frame
public import proofs.«01_k».proof.Proof.Gen.ConvMidRefIdeal.Run
public import proofs.«01_k».proof.Proof.Gen.Pre_finite
public import proofs.«01_k».proof.Proof.ConvMidFinite
public import proofs.«01_k».proof.Proof.ConvMidGrad

@[expose] public section

set_option maxRecDepth 16384

noncomputable section

namespace Cert.ConvMid.Claims

open Idealize.ShloMosaic Idealize.ShloMosaic.TcCoe Idealize.SL.Sem

variable [Cert.Pre_finite.Facts]

/-- The precondition says that every element of the arrays the body reads is a finite number. -/
theorem real (m : (ℓ : Loc Cert.ConvMidIdeal.nD Cert.ConvMidIdeal.τ Cert.ConvMidIdeal.sig) → Buf (Elt Ideal) ℓ) (hpre : Cert.Pre_ConvMidIdeal_finite m)
    (c : Dev Cert.ConvMidIdeal.nD) : Cert.ConvMidIdeal.Block.Real m c :=
  Cert.ConvMid.Finite.all_real _ _ _ _ _ _ (hpre c)

set_option maxHeartbeats 2000000 in
open Cert.ConvMidRefIdeal.Read Cert.ConvMidIdeal.Grad in
/-- Kernel and reference compute the same five arrays. -/
theorem algebraic : Cert.algebraic_ConvMidIdeal_ConvMidRefIdeal_pre_finite := by
  pair_intro
  · run_from Cert.ConvMidIdeal.Gen.run_main m g
  · refine (θ_run Cert.ConvMidRefIdeal.defs _ _).mono (fun r h c => ?_) (Cert.ConvMidRefIdeal.Value.run m' g')
    have a0 := (hagree c).1
    have a1 := (hagree c).2.1
    have a2 := (hagree c).2.2.1
    have a3 := (hagree c).2.2.2.1
    have a5 := (hagree c).2.2.2.2.2
    refine ⟨(h c).1.trans ?_, (h c).2.1.trans ?_, (h c).2.2.1.trans ?_, (h c).2.2.2.1.trans ?_, (h c).2.2.2.2.1.trans ?_, (h c).2.2.2.2.2⟩
    · refine (val_main_v63_eq m' c).trans ?_
      rw [a0, a1, a2, a3, a5]; exact (final6 m c (real m hpre c)).symm
    · refine (val_main_v29_eq _).trans ?_
      rw [a5]; exact (final7 m c).symm
    · refine (val_main_v38_eq m' c).trans ?_
      rw [a0, a1, a2, a3, a5]; exact (final8 m c (real m hpre c)).symm
    · refine (val_main_v35_eq m' c).trans ?_
      rw [a0, a1, a2, a3, a5]; exact (final9 m c (real m hpre c)).symm
    · refine (val_main_v65_eq m' c).trans ?_
      rw [a0, a1, a2, a3, a5]; exact (final10 m c (real m hpre c)).symm

/-- The reference terminates, keeps its arguments and leaves every counter at zero. -/
theorem reference_frame : Cert.quiescent_ConvMidRefIdeal := fun m g _ =>
  (θ_run Cert.ConvMidRefIdeal.defs _ _).mono (fun r h => ⟨fun c => (h c).2.2.2.2.2, sem_eq_zero_of_no_sems (by decide) r.2⟩)
    (Cert.ConvMidRefIdeal.Value.run m g)

/-- The same of arguments that are finite. -/
theorem reference_frame_finite : Cert.quiescent_ConvMidRefIdeal_pre_finite := fun m g _ => reference_frame m g trivial

/-- The ideal kernel terminates on finite arguments, as it does on any. -/
theorem frame_finite : Cert.quiescent_ConvMidIdeal_pre_finite := fun m g _ => Cert.ConvMidIdeal.Gen.frame m g

end Cert.ConvMid.Claims

end
-- ==== Proof.lean ====
module

public import proofs.«01_k».proof.Defs
public import proofs.«01_k».proof.Proof.Gen.ConvIn.Frame
public import proofs.«01_k».proof.Proof.Gen.ConvInIdeal.Frame
public import proofs.«01_k».proof.Proof.Gen.ConvInIdeal.Value
public import proofs.«01_k».proof.Proof.Gen.ConvInRefIdeal.Run
public import proofs.«01_k».proof.Proof.Gen.ConvInRefIdeal.Read
public import proofs.«01_k».proof.Proof.ConvIn
public import proofs.«01_k».proof.Proof.Gen.Mlp.Frame
public import proofs.«01_k».proof.Proof.Gen.MlpIdeal.Frame
public import proofs.«01_k».proof.Proof.Gen.MlpIdeal.Value
public import proofs.«01_k».proof.Proof.Gen.MlpRefIdeal.Run
public import proofs.«01_k».proof.Proof.Gen.MlpRefIdeal.Read
public import proofs.«01_k».proof.Proof.Mlp
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal.Run
public import proofs.«01_k».proof.Proof.Gen.DownRefIdeal.Read
public import proofs.«01_k».proof.Proof.Down
public import proofs.«01_k».proof.Proof.Gen.Up.Frame
public import proofs.«01_k».proof.Proof.Gen.UpIdeal.Frame
public import proofs.«01_k».proof.Proof.Gen.UpIdeal.Value
public import proofs.«01_k».proof.Proof.Gen.UpRefIdeal.Run
public import proofs.«01_k».proof.Proof.Gen.UpRefIdeal.Read
public import proofs.«01_k».proof.Proof.Up
public import proofs.«01_k».proof.Proof.Gen.Loss.Frame
public import proofs.«01_k».proof.Proof.Gen.LossIdeal.Frame
public import proofs.«01_k».proof.Proof.Gen.LossIdeal.Value
public import proofs.«01_k».proof.Proof.Gen.LossRefIdeal.Run
public import proofs.«01_k».proof.Proof.Gen.LossRefIdeal.Read
public import proofs.«01_k».proof.Proof.Loss
public import proofs.«01_k».proof.Proof.Gen.ConvOut.Frame
public import proofs.«01_k».proof.Proof.Gen.ConvOutIdeal.Frame
public import proofs.«01_k».proof.Proof.Gen.ConvOutIdeal.Value
public import proofs.«01_k».proof.Proof.Gen.ConvOutRefIdeal.Run
public import proofs.«01_k».proof.Proof.Gen.ConvOutRefIdeal.Read
public import proofs.«01_k».proof.Proof.ConvOut
public import proofs.«01_k».proof.Proof.Gen.AttnOut.Frame
public import proofs.«01_k».proof.Proof.Gen.AttnOutIdeal.Frame
public import proofs.«01_k».proof.Proof.Gen.AttnOutIdeal.Value
public import proofs.«01_k».proof.Proof.Gen.AttnOutRefIdeal.Run
public import proofs.«01_k».proof.Proof.Gen.AttnOutRefIdeal.Read
public import proofs.«01_k».proof.Proof.AttnOut
public import proofs.«01_k».proof.Proof.Gen.QkvWeight.Frame
public import proofs.«01_k».proof.Proof.Gen.QkvWeightIdeal.Frame
public import proofs.«01_k».proof.Proof.Gen.QkvWeightIdeal.Value
public import proofs.«01_k».proof.Proof.Gen.QkvWeightRefIdeal.Run
public import proofs.«01_k».proof.Proof.Gen.QkvWeightRefIdeal.Read
public import proofs.«01_k».proof.Proof.QkvWeight
public import proofs.«01_k».proof.Proof.Gen.AdamUp.Frame
public import proofs.«01_k».proof.Proof.Gen.AdamUpIdeal.Frame
public import proofs.«01_k».proof.Proof.Gen.AdamUpIdeal.Value
public import proofs.«01_k».proof.Proof.Gen.AdamUpRefIdeal.Run
public import proofs.«01_k».proof.Proof.Gen.AdamUpRefIdeal.Read
public import proofs.«01_k».proof.Proof.AdamUp
public import proofs.«01_k».proof.Proof.Gen.AdamDown.Frame
public import proofs.«01_k».proof.Proof.Gen.AdamDownIdeal.Frame
public import proofs.«01_k».proof.Proof.Gen.AdamDownIdeal.Value
public import proofs.«01_k».proof.Proof.Gen.AdamDownRefIdeal.Run
public import proofs.«01_k».proof.Proof.Gen.AdamDownRefIdeal.Read
public import proofs.«01_k».proof.Proof.AdamDown
public import proofs.«01_k».proof.Proof.Gen.AdamOut.Frame
public import proofs.«01_k».proof.Proof.Gen.AdamOutIdeal.Frame
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.AdamOut
public import proofs.«01_k».proof.Proof.Gen.AdamQkv.Frame
public import proofs.«01_k».proof.Proof.Gen.AdamQkvIdeal.Frame
public import proofs.«01_k».proof.Proof.Gen.AdamQkvIdeal.Value
public import proofs.«01_k».proof.Proof.Gen.AdamQkvRefIdeal.Run
public import proofs.«01_k».proof.Proof.Gen.AdamQkvRefIdeal.Read
public import proofs.«01_k».proof.Proof.AdamQkv
public import proofs.«01_k».proof.Proof.Gen.AdamIn.Frame
public import proofs.«01_k».proof.Proof.Gen.AdamInIdeal.Frame
public import proofs.«01_k».proof.Proof.Gen.AdamInIdeal.Value
public import proofs.«01_k».proof.Proof.Gen.AdamInRefIdeal.Run
public import proofs.«01_k».proof.Proof.Gen.AdamInRefIdeal.Read
public import proofs.«01_k».proof.Proof.AdamIn
public import proofs.«01_k».proof.Proof.Gen.ConvMid.Frame
public import proofs.«01_k».proof.Proof.Gen.ConvMidIdeal.Frame
public import proofs.«01_k».proof.Proof.Gen.ConvMidIdeal.Value
public import proofs.«01_k».proof.Proof.Gen.ConvMidRefIdeal.Run
public import proofs.«01_k».proof.Proof.Gen.ConvMidRefIdeal.Read
public import proofs.«01_k».proof.Proof.Gen.Pre_finite
public import proofs.«01_k».proof.Proof.ConvMid
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.ConvIn.Gen.facts, Cert.ConvInIdeal.Gen.facts, Cert.ConvInRefIdeal.Gen.facts,
  Cert.Mlp.Gen.facts, Cert.MlpIdeal.Gen.facts, Cert.MlpRefIdeal.Gen.facts,
  Cert.Down.Gen.facts, Cert.DownIdeal.Gen.facts, Cert.DownRefIdeal.Gen.facts,
  Cert.Up.Gen.facts, Cert.UpIdeal.Gen.facts, Cert.UpRefIdeal.Gen.facts,
  Cert.Loss.Gen.facts, Cert.LossIdeal.Gen.facts, Cert.LossRefIdeal.Gen.facts,
  Cert.ConvOut.Gen.facts, Cert.ConvOutIdeal.Gen.facts, Cert.ConvOutRefIdeal.Gen.facts,
  Cert.AttnOut.Gen.facts, Cert.AttnOutIdeal.Gen.facts, Cert.AttnOutRefIdeal.Gen.facts,
  Cert.QkvWeight.Gen.facts, Cert.QkvWeightIdeal.Gen.facts, Cert.QkvWeightRefIdeal.Gen.facts,
  Cert.AdamUp.Gen.facts, Cert.AdamUpIdeal.Gen.facts, Cert.AdamUpRefIdeal.Gen.facts,
  Cert.AdamDown.Gen.facts, Cert.AdamDownIdeal.Gen.facts, Cert.AdamDownRefIdeal.Gen.facts,
  Cert.AdamOut.Gen.facts, Cert.AdamOutIdeal.Gen.facts, Cert.AdamOutRefIdeal.Gen.facts,
  Cert.AdamQkv.Gen.facts, Cert.AdamQkvIdeal.Gen.facts, Cert.AdamQkvRefIdeal.Gen.facts,
  Cert.AdamIn.Gen.facts, Cert.AdamInIdeal.Gen.facts, Cert.AdamInRefIdeal.Gen.facts,
  Cert.ConvMid.Gen.facts, Cert.ConvMidIdeal.Gen.facts, Cert.ConvMidRefIdeal.Gen.facts,
  Cert.Pre_finite.Gen.facts,
  fun m ρ _ => Cert.ConvIn.Gen.frame m ρ, fun m ρ _ => Cert.ConvInIdeal.Gen.frame m ρ, Cert.ConvIn.Claims.reference_frame,
  fun m ρ _ => Cert.Mlp.Gen.frame m ρ, fun m ρ _ => Cert.MlpIdeal.Gen.frame m ρ, Cert.Mlp.Claims.reference_frame,
  fun m ρ _ => Cert.Down.Gen.frame m ρ, fun m ρ _ => Cert.DownIdeal.Gen.frame m ρ, Cert.Down.Claims.reference_frame,
  fun m ρ _ => Cert.Up.Gen.frame m ρ, fun m ρ _ => Cert.UpIdeal.Gen.frame m ρ, Cert.Up.Claims.reference_frame,
  fun m ρ _ => Cert.Loss.Gen.frame m ρ, fun m ρ _ => Cert.LossIdeal.Gen.frame m ρ, Cert.Loss.Claims.reference_frame,
  fun m ρ _ => Cert.ConvOut.Gen.frame m ρ, fun m ρ _ => Cert.ConvOutIdeal.Gen.frame m ρ, Cert.ConvOut.Claims.reference_frame,
  fun m ρ _ => Cert.AttnOut.Gen.frame m ρ, fun m ρ _ => Cert.AttnOutIdeal.Gen.frame m ρ, Cert.AttnOut.Claims.reference_frame,
  fun m ρ _ => Cert.QkvWeight.Gen.frame m ρ, fun m ρ _ => Cert.QkvWeightIdeal.Gen.frame m ρ, Cert.QkvWeight.Claims.reference_frame,
  fun m ρ _ => Cert.AdamUp.Gen.frame m ρ, fun m ρ _ => Cert.AdamUpIdeal.Gen.frame m ρ, Cert.AdamUp.Claims.reference_frame,
  fun m ρ _ => Cert.AdamDown.Gen.frame m ρ, fun m ρ _ => Cert.AdamDownIdeal.Gen.frame m ρ, Cert.AdamDown.Claims.reference_frame,
  fun m ρ _ => Cert.AdamOut.Gen.frame m ρ, fun m ρ _ => Cert.AdamOutIdeal.Gen.frame m ρ, Cert.AdamOut.Claims.reference_frame,
  fun m ρ _ => Cert.AdamQkv.Gen.frame m ρ, fun m ρ _ => Cert.AdamQkvIdeal.Gen.frame m ρ, Cert.AdamQkv.Claims.reference_frame,
  fun m ρ _ => Cert.AdamIn.Gen.frame m ρ, fun m ρ _ => Cert.AdamInIdeal.Gen.frame m ρ, Cert.AdamIn.Claims.reference_frame,
  fun m ρ _ => Cert.ConvMid.Gen.frame m ρ, fun m ρ _ => Cert.ConvMidIdeal.Gen.frame m ρ, Cert.ConvMid.Claims.frame_finite,
  Cert.ConvMid.Claims.reference_frame, Cert.ConvMid.Claims.reference_frame_finite,
  trivial, Cert.ConvIn.Claims.algebraic,
  trivial, Cert.Mlp.Claims.algebraic,
  trivial, Cert.Down.Claims.algebraic,
  trivial, Cert.Up.Claims.algebraic,
  trivial, Cert.Loss.Claims.algebraic,
  trivial, Cert.ConvOut.Claims.algebraic,
  trivial, Cert.AttnOut.Claims.algebraic,
  trivial, Cert.QkvWeight.Claims.algebraic,
  trivial, Cert.AdamUp.Claims.algebraic,
  trivial, Cert.AdamDown.Claims.algebraic,
  trivial, Cert.AdamOut.Claims.algebraic,
  trivial, Cert.AdamQkv.Claims.algebraic,
  trivial, Cert.AdamIn.Claims.algebraic,
  trivial, Cert.ConvMid.Claims.algebraic⟩

end Cert.Proof

end
